-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S512x8192 : Shape := ⟨2, ![512, 8192]⟩
abbrev S2x512x512 : Shape := ⟨3, ![2, 512, 512]⟩
abbrev S2 : Shape := ⟨1, ![2]⟩
abbrev S_ : Shape := ⟨0, ![]⟩
abbrev S512x1024 : Shape := ⟨2, ![512, 1024]⟩
abbrev S1024x4096 : Shape := ⟨2, ![1024, 4096]⟩
abbrev S512x4096 : Shape := ⟨2, ![512, 4096]⟩
abbrev S1 : Shape := ⟨1, ![1]⟩
abbrev S1x512x512 : Shape := ⟨3, ![1, 512, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x8192, .bf16⟩
  | .hbm, ⟨3, _⟩ => ⟨S_, .bf16⟩
  | .hbm, ⟨4, _⟩ => ⟨S4096x8192, .bf16⟩
  | .hbm, ⟨5, _⟩ => ⟨S4096x8192, .bf16⟩
  | .hbm, ⟨6, _⟩ => ⟨S4096x8192, .f32⟩
  | .local _ .vmem, ⟨0, _⟩ => ⟨S4096x1024, .bf16⟩
  | .local _ .vmem, ⟨1, _⟩ => ⟨S1024x8192, .bf16⟩
  | .local _ .vmem, ⟨2, _⟩ => ⟨S512x8192, .bf16⟩
  | .local _ .vmem, ⟨3, _⟩ => ⟨S512x8192, .bf16⟩
  | .local _ .vmem, ⟨4, _⟩ => ⟨S2x512x512, .bf16⟩
  | .local _ .vmem, ⟨5, _⟩ => ⟨S2x512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 3 12 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
@[reducible] def k0_t1_loop : Scf.Loop 32 :=
  let c0_i32_21 : BitVec 32 := 0#32
  let c4_i32_22 : BitVec 32 := 4#32
  let v31 : BitVec 32 := Scalar.addi c0_i32_21 c4_i32_22
  let c1_i32_23 : BitVec 32 := 1#32
  ⟨c0_i32_21, v31, c1_i32_23⟩
def k0_off1 (d0 : Dev nD) (c0_i32_89 : BitVec 32) (c0_i32_93 : BitVec 32) : Fin 2 → Nat :=
  let c0_i32_105 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.subi v2 c0_i32_89
  let c8_i32 : BitVec 32 := 8#32
  let v82 : BitVec 32 := Scalar.addi v81 c8_i32
  let c4_i32_90 : BitVec 32 := 4#32
  let v83 : BitVec 32 := Scalar.remsi v82 c4_i32_90
  let c2048_i32 : BitVec 32 := 2048#32
  let v86 : BitVec 32 := Scalar.muli v83 c2048_i32
  let v87 : BitVec 32 := Scalar.addi v86 c0_i32_93
  ![0, v87.toNat]
def k0_dev3 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_101 : BitVec 32 := 1#32
  let v94 : BitVec 32 := Scalar.muli v7 c1_i32_101
  let v95 : BitVec 32 := Scalar.addi c0_i32_102 v94
  v95.toNat
def k0_off2 (d0 : Dev nD) (c0_i32_91 : BitVec 32) (c0_i32_95 : BitVec 32) : Fin 2 → Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v84 : BitVec 32 := Scalar.addi v2 c0_i32_91
  let c4_i32_92 : BitVec 32 := 4#32
  let v85 : BitVec 32 := Scalar.remsi v84 c4_i32_92
  let c2048_i32_94 : BitVec 32 := 2048#32
  let v88 : BitVec 32 := Scalar.muli v85 c2048_i32_94
  let c1024_i32 : BitVec 32 := 1024#32
  let v89 : BitVec 32 := Scalar.addi v88 c1024_i32
  let v90 : BitVec 32 := Scalar.addi v89 c0_i32_95
  ![0, v90.toNat]
def k0_dev4 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_109 : BitVec 32 := 1#32
  let v103 : BitVec 32 := Scalar.muli v5 c1_i32_109
  let v104 : BitVec 32 := Scalar.addi c0_i32_110 v103
  v104.toNat
def k0_cond2 (k0_t1 : Fin k0_t1_loop.trips) : BitVec 1 :=
  let c0_i32_21 : BitVec 32 := 0#32
  let c1_i32_23 : BitVec 32 := 1#32
  let arg14 : BitVec 32 := Scf.iv c0_i32_21 c1_i32_23 k0_t1
  let c0_i32_114 : BitVec 32 := 0#32
  let v112 : BitVec 1 := Scalar.cmpi .sgt arg14 c0_i32_114
  let v113 : BitVec 32 := Scalar.extui v112
  let c0_i32_115 : BitVec 32 := 0#32
  let v114 : BitVec 1 := Scalar.cmpi .ne v113 c0_i32_115
  v114

def k0_dev5 (d0 : Dev nD) : Nat :=
  let c0_i32_2095 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2094 : BitVec 32 := 1#32
  let v1916 : BitVec 32 := Scalar.muli v5 c1_i32_2094
  let v1917 : BitVec 32 := Scalar.addi c0_i32_2095 v1916
  v1917.toNat
def k0_dev6 (d0 : Dev nD) : Nat :=
  let c0_i32_2098 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2097 : BitVec 32 := 1#32
  let v1918 : BitVec 32 := Scalar.muli v7 c1_i32_2097
  let v1919 : BitVec 32 := Scalar.addi c0_i32_2098 v1918
  v1919.toNat
def k0_cond3 (k0_t1 : Fin k0_t1_loop.trips) : BitVec 1 :=
  let c0_i32_21 : BitVec 32 := 0#32
  let c1_i32_23 : BitVec 32 := 1#32
  let arg14 : BitVec 32 := Scf.iv c0_i32_21 c1_i32_23 k0_t1
  let c1_i32_116 : BitVec 32 := 1#32
  let v115 : BitVec 1 := Scalar.cmpi .sge arg14 c1_i32_116
  let v116 : BitVec 32 := Scalar.extui v115
  let c0_i32_117 : BitVec 32 := 0#32
  let v117 : BitVec 1 := Scalar.cmpi .ne v116 c0_i32_117
  v117

def k0_off3 (k0_t1 : Fin k0_t1_loop.trips) : Fin 2 → Nat :=
  let c2_i32_2073 : BitVec 32 := 2#32
  let c0_i32_21 : BitVec 32 := 0#32
  let c1_i32_23 : BitVec 32 := 1#32
  let arg14 : BitVec 32 := Scf.iv c0_i32_21 c1_i32_23 k0_t1
  let v1900 : BitVec 32 := Scalar.muli c2_i32_2073 arg14
  let c1_i32_2074 : BitVec 32 := 1#32
  let v1901 : BitVec 32 := Scalar.subi v1900 c1_i32_2074
  let c512_i32_2075 : BitVec 32 := 512#32
  let v1902 : BitVec 32 := Scalar.muli v1901 c512_i32_2075
  let c0_i32_2077 : BitVec 32 := 0#32
  ![v1902.toNat, 0]
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_132 : BitVec 32 := 1#32
  let v131 : BitVec 32 := Scalar.muli v7 c1_i32_132
  let v132 : BitVec 32 := Scalar.addi c0_i32_133 v131
  v132.toNat
def k0_dev8 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_140 : BitVec 32 := 1#32
  let v140 : BitVec 32 := Scalar.muli v5 c1_i32_140
  let v141 : BitVec 32 := Scalar.addi c0_i32_141 v140
  v141.toNat
def k0_off4 (d0 : Dev nD) (c0_i32_145 : BitVec 32) (c0_i32_153 : BitVec 32) : Fin 2 → Nat :=
  let c0_177 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v149 : BitVec 32 := Scalar.subi v2 c0_i32_145
  let c1_i32_146 : BitVec 32 := 1#32
  let v150 : BitVec 32 := Scalar.subi v149 c1_i32_146
  let c8_i32_147 : BitVec 32 := 8#32
  let v151 : BitVec 32 := Scalar.addi v150 c8_i32_147
  let c4_i32_148 : BitVec 32 := 4#32
  let v152 : BitVec 32 := Scalar.remsi v151 c4_i32_148
  let c2048_i32_152 : BitVec 32 := 2048#32
  let v156 : BitVec 32 := Scalar.muli v152 c2048_i32_152
  let v157 : BitVec 32 := Scalar.addi v156 c0_i32_153
  let v177 : Index := Scalar.indexCast v157
  ![0, v177.toNat]
def k0_off5 (d0 : Dev nD) (c0_i32_149 : BitVec 32) (c0_i32_156 : BitVec 32) : Fin 2 → Nat :=
  let c0_182 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v153 : BitVec 32 := Scalar.addi v2 c0_i32_149
  let c1_i32_150 : BitVec 32 := 1#32
  let v154 : BitVec 32 := Scalar.addi v153 c1_i32_150
  let c4_i32_151 : BitVec 32 := 4#32
  let v155 : BitVec 32 := Scalar.remsi v154 c4_i32_151
  let c2048_i32_154 : BitVec 32 := 2048#32
  let v158 : BitVec 32 := Scalar.muli v155 c2048_i32_154
  let c1024_i32_155 : BitVec 32 := 1024#32
  let v159 : BitVec 32 := Scalar.addi v158 c1024_i32_155
  let v160 : BitVec 32 := Scalar.addi v159 c0_i32_156
  let v186 : Index := Scalar.indexCast v160
  ![0, v186.toNat]
def k0_dev9 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_188 : BitVec 32 := 1#32
  let v195 : BitVec 32 := Scalar.muli v5 c1_i32_188
  let v196 : BitVec 32 := Scalar.addi c0_i32_189 v195
  v196.toNat
def k0_dev10 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_191 : BitVec 32 := 1#32
  let v197 : BitVec 32 := Scalar.muli v7 c1_i32_191
  let v198 : BitVec 32 := Scalar.addi c0_i32_192 v197
  v198.toNat
def k0_dev11 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_228 : BitVec 32 := 1#32
  let v221 : BitVec 32 := Scalar.muli v7 c1_i32_228
  let v222 : BitVec 32 := Scalar.addi c0_i32_229 v221
  v222.toNat
def k0_dev12 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_236 : BitVec 32 := 1#32
  let v230 : BitVec 32 := Scalar.muli v5 c1_i32_236
  let v231 : BitVec 32 := Scalar.addi c0_i32_237 v230
  v231.toNat
def k0_dev13 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_283 : BitVec 32 := 1#32
  let v285 : BitVec 32 := Scalar.muli v5 c1_i32_283
  let v286 : BitVec 32 := Scalar.addi c0_i32_284 v285
  v286.toNat
def k0_dev14 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_286 : BitVec 32 := 1#32
  let v287 : BitVec 32 := Scalar.muli v7 c1_i32_286
  let v288 : BitVec 32 := Scalar.addi c0_i32_287 v287
  v288.toNat
def k0_dev15 (d0 : Dev nD) : Nat :=
  let c0_i32_324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_323 : BitVec 32 := 1#32
  let v311 : BitVec 32 := Scalar.muli v7 c1_i32_323
  let v312 : BitVec 32 := Scalar.addi c0_i32_324 v311
  v312.toNat
def k0_dev16 (d0 : Dev nD) : Nat :=
  let c0_i32_332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_331 : BitVec 32 := 1#32
  let v320 : BitVec 32 := Scalar.muli v5 c1_i32_331
  let v321 : BitVec 32 := Scalar.addi c0_i32_332 v320
  v321.toNat
def k0_dev17 (d0 : Dev nD) : Nat :=
  let c0_i32_380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_379 : BitVec 32 := 1#32
  let v375 : BitVec 32 := Scalar.muli v5 c1_i32_379
  let v376 : BitVec 32 := Scalar.addi c0_i32_380 v375
  v376.toNat
def k0_dev18 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_382 : BitVec 32 := 1#32
  let v377 : BitVec 32 := Scalar.muli v7 c1_i32_382
  let v378 : BitVec 32 := Scalar.addi c0_i32_383 v377
  v378.toNat
def k0_dev19 (d0 : Dev nD) : Nat :=
  let c0_i32_420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_419 : BitVec 32 := 1#32
  let v401 : BitVec 32 := Scalar.muli v7 c1_i32_419
  let v402 : BitVec 32 := Scalar.addi c0_i32_420 v401
  v402.toNat
def k0_dev20 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_427 : BitVec 32 := 1#32
  let v410 : BitVec 32 := Scalar.muli v5 c1_i32_427
  let v411 : BitVec 32 := Scalar.addi c0_i32_428 v410
  v411.toNat
def k0_dev21 (d0 : Dev nD) : Nat :=
  let c0_i32_476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_475 : BitVec 32 := 1#32
  let v465 : BitVec 32 := Scalar.muli v5 c1_i32_475
  let v466 : BitVec 32 := Scalar.addi c0_i32_476 v465
  v466.toNat
def k0_dev22 (d0 : Dev nD) : Nat :=
  let c0_i32_479 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_478 : BitVec 32 := 1#32
  let v467 : BitVec 32 := Scalar.muli v7 c1_i32_478
  let v468 : BitVec 32 := Scalar.addi c0_i32_479 v467
  v468.toNat
def k0_off6 (k0_t1 : Fin k0_t1_loop.trips) : Fin 2 → Nat :=
  let c2_i32_482 : BitVec 32 := 2#32
  let c0_i32_21 : BitVec 32 := 0#32
  let c1_i32_23 : BitVec 32 := 1#32
  let arg14 : BitVec 32 := Scf.iv c0_i32_21 c1_i32_23 k0_t1
  let v472 : BitVec 32 := Scalar.muli c2_i32_482 arg14
  let c1_i32_483 : BitVec 32 := 1#32
  let v473 : BitVec 32 := Scalar.addi v472 c1_i32_483
  let c512_i32_484 : BitVec 32 := 512#32
  let v474 : BitVec 32 := Scalar.muli v473 c512_i32_484
  let v475 : Index := Scalar.indexCast v474
  let c0_485 : Index := 0#32
  ![v475.toNat, 0]
def k0_dev23 (d0 : Dev nD) : Nat :=
  let c0_i32_527 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_526 : BitVec 32 := 1#32
  let v507 : BitVec 32 := Scalar.muli v7 c1_i32_526
  let v508 : BitVec 32 := Scalar.addi c0_i32_527 v507
  v508.toNat
def k0_dev24 (d0 : Dev nD) : Nat :=
  let c0_i32_535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_534 : BitVec 32 := 1#32
  let v516 : BitVec 32 := Scalar.muli v5 c1_i32_534
  let v517 : BitVec 32 := Scalar.addi c0_i32_535 v516
  v517.toNat
def k0_dev25 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_582 : BitVec 32 := 1#32
  let v571 : BitVec 32 := Scalar.muli v5 c1_i32_582
  let v572 : BitVec 32 := Scalar.addi c0_i32_583 v571
  v572.toNat
def k0_dev26 (d0 : Dev nD) : Nat :=
  let c0_i32_586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_585 : BitVec 32 := 1#32
  let v573 : BitVec 32 := Scalar.muli v7 c1_i32_585
  let v574 : BitVec 32 := Scalar.addi c0_i32_586 v573
  v574.toNat
def k0_off7 (d0 : Dev nD) (c0_i32_597 : BitVec 32) (c0_i32_605 : BitVec 32) : Fin 2 → Nat :=
  let c0_i32_635 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_596 : BitVec 32 := 1#32
  let v588 : BitVec 32 := Scalar.addi v2 c1_i32_596
  let v589 : BitVec 32 := Scalar.subi v588 c0_i32_597
  let c8_i32_598 : BitVec 32 := 8#32
  let v590 : BitVec 32 := Scalar.addi v589 c8_i32_598
  let c4_i32_599 : BitVec 32 := 4#32
  let v591 : BitVec 32 := Scalar.remsi v590 c4_i32_599
  let c2048_i32_604 : BitVec 32 := 2048#32
  let v596 : BitVec 32 := Scalar.muli v591 c2048_i32_604
  let v597 : BitVec 32 := Scalar.addi v596 c0_i32_605
  ![0, v597.toNat]
def k0_dev27 (d0 : Dev nD) : Nat :=
  let c0_i32_634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_633 : BitVec 32 := 1#32
  let v613 : BitVec 32 := Scalar.muli v7 c1_i32_633
  let v614 : BitVec 32 := Scalar.addi c0_i32_634 v613
  v614.toNat
def k0_off8 (d0 : Dev nD) (c0_i32_601 : BitVec 32) (c0_i32_608 : BitVec 32) : Fin 2 → Nat :=
  let c0_i32_641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_600 : BitVec 32 := 1#32
  let v592 : BitVec 32 := Scalar.subi v2 c1_i32_600
  let v593 : BitVec 32 := Scalar.addi v592 c0_i32_601
  let c8_i32_602 : BitVec 32 := 8#32
  let v594 : BitVec 32 := Scalar.addi v593 c8_i32_602
  let c4_i32_603 : BitVec 32 := 4#32
  let v595 : BitVec 32 := Scalar.remsi v594 c4_i32_603
  let c2048_i32_606 : BitVec 32 := 2048#32
  let v598 : BitVec 32 := Scalar.muli v595 c2048_i32_606
  let c1024_i32_607 : BitVec 32 := 1024#32
  let v599 : BitVec 32 := Scalar.addi v598 c1024_i32_607
  let v600 : BitVec 32 := Scalar.addi v599 c0_i32_608
  ![0, v600.toNat]
def k0_dev28 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_639 : BitVec 32 := 1#32
  let v621 : BitVec 32 := Scalar.muli v5 c1_i32_639
  let v622 : BitVec 32 := Scalar.addi c0_i32_640 v621
  v622.toNat
def k0_dev29 (d0 : Dev nD) : Nat :=
  let c0_i32_687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_686 : BitVec 32 := 1#32
  let v675 : BitVec 32 := Scalar.muli v5 c1_i32_686
  let v676 : BitVec 32 := Scalar.addi c0_i32_687 v675
  v676.toNat
def k0_dev30 (d0 : Dev nD) : Nat :=
  let c0_i32_690 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_689 : BitVec 32 := 1#32
  let v677 : BitVec 32 := Scalar.muli v7 c1_i32_689
  let v678 : BitVec 32 := Scalar.addi c0_i32_690 v677
  v678.toNat
def k0_dev31 (d0 : Dev nD) : Nat :=
  let c0_i32_729 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_728 : BitVec 32 := 1#32
  let v704 : BitVec 32 := Scalar.muli v7 c1_i32_728
  let v705 : BitVec 32 := Scalar.addi c0_i32_729 v704
  v705.toNat
def k0_dev32 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_734 : BitVec 32 := 1#32
  let v712 : BitVec 32 := Scalar.muli v5 c1_i32_734
  let v713 : BitVec 32 := Scalar.addi c0_i32_735 v712
  v713.toNat
def k0_dev33 (d0 : Dev nD) : Nat :=
  let c0_i32_760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_759 : BitVec 32 := 1#32
  let v736 : BitVec 32 := Scalar.muli v5 c1_i32_759
  let v737 : BitVec 32 := Scalar.addi c0_i32_760 v736
  v737.toNat
def k0_dev34 (d0 : Dev nD) : Nat :=
  let c0_i32_763 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_762 : BitVec 32 := 1#32
  let v738 : BitVec 32 := Scalar.muli v7 c1_i32_762
  let v739 : BitVec 32 := Scalar.addi c0_i32_763 v738
  v739.toNat
def k0_dev35 (d0 : Dev nD) : Nat :=
  let c0_i32_802 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_801 : BitVec 32 := 1#32
  let v765 : BitVec 32 := Scalar.muli v7 c1_i32_801
  let v766 : BitVec 32 := Scalar.addi c0_i32_802 v765
  v766.toNat
def k0_dev36 (d0 : Dev nD) : Nat :=
  let c0_i32_808 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_807 : BitVec 32 := 1#32
  let v773 : BitVec 32 := Scalar.muli v5 c1_i32_807
  let v774 : BitVec 32 := Scalar.addi c0_i32_808 v773
  v774.toNat
def k0_dev37 (d0 : Dev nD) : Nat :=
  let c0_i32_833 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_832 : BitVec 32 := 1#32
  let v797 : BitVec 32 := Scalar.muli v5 c1_i32_832
  let v798 : BitVec 32 := Scalar.addi c0_i32_833 v797
  v798.toNat
def k0_dev38 (d0 : Dev nD) : Nat :=
  let c0_i32_836 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_835 : BitVec 32 := 1#32
  let v799 : BitVec 32 := Scalar.muli v7 c1_i32_835
  let v800 : BitVec 32 := Scalar.addi c0_i32_836 v799
  v800.toNat
def k0_dev39 (d0 : Dev nD) : Nat :=
  let c0_i32_875 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_874 : BitVec 32 := 1#32
  let v826 : BitVec 32 := Scalar.muli v7 c1_i32_874
  let v827 : BitVec 32 := Scalar.addi c0_i32_875 v826
  v827.toNat
def k0_dev40 (d0 : Dev nD) : Nat :=
  let c0_i32_881 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_880 : BitVec 32 := 1#32
  let v834 : BitVec 32 := Scalar.muli v5 c1_i32_880
  let v835 : BitVec 32 := Scalar.addi c0_i32_881 v834
  v835.toNat
def k0_dev41 (d0 : Dev nD) : Nat :=
  let c0_i32_906 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_905 : BitVec 32 := 1#32
  let v858 : BitVec 32 := Scalar.muli v5 c1_i32_905
  let v859 : BitVec 32 := Scalar.addi c0_i32_906 v858
  v859.toNat
def k0_dev42 (d0 : Dev nD) : Nat :=
  let c0_i32_909 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_908 : BitVec 32 := 1#32
  let v860 : BitVec 32 := Scalar.muli v7 c1_i32_908
  let v861 : BitVec 32 := Scalar.addi c0_i32_909 v860
  v861.toNat
def k0_dev43 (d0 : Dev nD) : Nat :=
  let c0_i32_948 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_947 : BitVec 32 := 1#32
  let v887 : BitVec 32 := Scalar.muli v7 c1_i32_947
  let v888 : BitVec 32 := Scalar.addi c0_i32_948 v887
  v888.toNat
def k0_dev44 (d0 : Dev nD) : Nat :=
  let c0_i32_954 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_953 : BitVec 32 := 1#32
  let v895 : BitVec 32 := Scalar.muli v5 c1_i32_953
  let v896 : BitVec 32 := Scalar.addi c0_i32_954 v895
  v896.toNat
def k0_dev45 (d0 : Dev nD) : Nat :=
  let c0_i32_979 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_978 : BitVec 32 := 1#32
  let v919 : BitVec 32 := Scalar.muli v5 c1_i32_978
  let v920 : BitVec 32 := Scalar.addi c0_i32_979 v919
  v920.toNat
def k0_dev46 (d0 : Dev nD) : Nat :=
  let c0_i32_982 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_981 : BitVec 32 := 1#32
  let v921 : BitVec 32 := Scalar.muli v7 c1_i32_981
  let v922 : BitVec 32 := Scalar.addi c0_i32_982 v921
  v922.toNat
def k0_dev47 (d0 : Dev nD) : Nat :=
  let c0_i32_1021 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1020 : BitVec 32 := 1#32
  let v948 : BitVec 32 := Scalar.muli v7 c1_i32_1020
  let v949 : BitVec 32 := Scalar.addi c0_i32_1021 v948
  v949.toNat
def k0_dev48 (d0 : Dev nD) : Nat :=
  let c0_i32_1027 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1026 : BitVec 32 := 1#32
  let v956 : BitVec 32 := Scalar.muli v5 c1_i32_1026
  let v957 : BitVec 32 := Scalar.addi c0_i32_1027 v956
  v957.toNat
def k0_dev49 (d0 : Dev nD) : Nat :=
  let c0_i32_1052 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1051 : BitVec 32 := 1#32
  let v980 : BitVec 32 := Scalar.muli v5 c1_i32_1051
  let v981 : BitVec 32 := Scalar.addi c0_i32_1052 v980
  v981.toNat
def k0_dev50 (d0 : Dev nD) : Nat :=
  let c0_i32_1055 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1054 : BitVec 32 := 1#32
  let v982 : BitVec 32 := Scalar.muli v7 c1_i32_1054
  let v983 : BitVec 32 := Scalar.addi c0_i32_1055 v982
  v983.toNat
def k0_dev51 (d0 : Dev nD) : Nat :=
  let c0_i32_1092 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1091 : BitVec 32 := 1#32
  let v1006 : BitVec 32 := Scalar.muli v7 c1_i32_1091
  let v1007 : BitVec 32 := Scalar.addi c0_i32_1092 v1006
  v1007.toNat
def k0_dev52 (d0 : Dev nD) : Nat :=
  let c0_i32_1100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1099 : BitVec 32 := 1#32
  let v1015 : BitVec 32 := Scalar.muli v5 c1_i32_1099
  let v1016 : BitVec 32 := Scalar.addi c0_i32_1100 v1015
  v1016.toNat
def k0_dev53 (d0 : Dev nD) : Nat :=
  let c0_i32_1126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1125 : BitVec 32 := 1#32
  let v1040 : BitVec 32 := Scalar.muli v5 c1_i32_1125
  let v1041 : BitVec 32 := Scalar.addi c0_i32_1126 v1040
  v1041.toNat
def k0_dev54 (d0 : Dev nD) : Nat :=
  let c0_i32_1129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1128 : BitVec 32 := 1#32
  let v1042 : BitVec 32 := Scalar.muli v7 c1_i32_1128
  let v1043 : BitVec 32 := Scalar.addi c0_i32_1129 v1042
  v1043.toNat
def k0_off9 (k0_t1 : Fin k0_t1_loop.trips) : Fin 2 → Nat :=
  let c2_i32_1130 : BitVec 32 := 2#32
  let c0_i32_21 : BitVec 32 := 0#32
  let c1_i32_23 : BitVec 32 := 1#32
  let arg14 : BitVec 32 := Scf.iv c0_i32_21 c1_i32_23 k0_t1
  let v1044 : BitVec 32 := Scalar.muli c2_i32_1130 arg14
  let c512_i32_1131 : BitVec 32 := 512#32
  let v1045 : BitVec 32 := Scalar.muli v1044 c512_i32_1131
  let c0_i32_1133 : BitVec 32 := 0#32
  ![v1045.toNat, 0]
def k0_dev55 (d0 : Dev nD) : Nat :=
  let c0_i32_1170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1169 : BitVec 32 := 1#32
  let v1071 : BitVec 32 := Scalar.muli v7 c1_i32_1169
  let v1072 : BitVec 32 := Scalar.addi c0_i32_1170 v1071
  v1072.toNat
def k0_dev56 (d0 : Dev nD) : Nat :=
  let c0_i32_1178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1177 : BitVec 32 := 1#32
  let v1080 : BitVec 32 := Scalar.muli v5 c1_i32_1177
  let v1081 : BitVec 32 := Scalar.addi c0_i32_1178 v1080
  v1081.toNat
def k0_dev57 (d0 : Dev nD) : Nat :=
  let c0_i32_1226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1225 : BitVec 32 := 1#32
  let v1135 : BitVec 32 := Scalar.muli v5 c1_i32_1225
  let v1136 : BitVec 32 := Scalar.addi c0_i32_1226 v1135
  v1136.toNat
def k0_dev58 (d0 : Dev nD) : Nat :=
  let c0_i32_1229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1228 : BitVec 32 := 1#32
  let v1137 : BitVec 32 := Scalar.muli v7 c1_i32_1228
  let v1138 : BitVec 32 := Scalar.addi c0_i32_1229 v1137
  v1138.toNat
def k0_dev59 (d0 : Dev nD) : Nat :=
  let c0_i32_1266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1265 : BitVec 32 := 1#32
  let v1161 : BitVec 32 := Scalar.muli v7 c1_i32_1265
  let v1162 : BitVec 32 := Scalar.addi c0_i32_1266 v1161
  v1162.toNat
def k0_dev60 (d0 : Dev nD) : Nat :=
  let c0_i32_1274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1273 : BitVec 32 := 1#32
  let v1170 : BitVec 32 := Scalar.muli v5 c1_i32_1273
  let v1171 : BitVec 32 := Scalar.addi c0_i32_1274 v1170
  v1171.toNat
def k0_dev61 (d0 : Dev nD) : Nat :=
  let c0_i32_1322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1321 : BitVec 32 := 1#32
  let v1225 : BitVec 32 := Scalar.muli v5 c1_i32_1321
  let v1226 : BitVec 32 := Scalar.addi c0_i32_1322 v1225
  v1226.toNat
def k0_dev62 (d0 : Dev nD) : Nat :=
  let c0_i32_1325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1324 : BitVec 32 := 1#32
  let v1227 : BitVec 32 := Scalar.muli v7 c1_i32_1324
  let v1228 : BitVec 32 := Scalar.addi c0_i32_1325 v1227
  v1228.toNat
def k0_dev63 (d0 : Dev nD) : Nat :=
  let c0_i32_1362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1361 : BitVec 32 := 1#32
  let v1251 : BitVec 32 := Scalar.muli v7 c1_i32_1361
  let v1252 : BitVec 32 := Scalar.addi c0_i32_1362 v1251
  v1252.toNat
def k0_dev64 (d0 : Dev nD) : Nat :=
  let c0_i32_1370 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1369 : BitVec 32 := 1#32
  let v1260 : BitVec 32 := Scalar.muli v5 c1_i32_1369
  let v1261 : BitVec 32 := Scalar.addi c0_i32_1370 v1260
  v1261.toNat
def k0_dev65 (d0 : Dev nD) : Nat :=
  let c0_i32_1418 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1417 : BitVec 32 := 1#32
  let v1315 : BitVec 32 := Scalar.muli v5 c1_i32_1417
  let v1316 : BitVec 32 := Scalar.addi c0_i32_1418 v1315
  v1316.toNat
def k0_dev66 (d0 : Dev nD) : Nat :=
  let c0_i32_1421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1420 : BitVec 32 := 1#32
  let v1317 : BitVec 32 := Scalar.muli v7 c1_i32_1420
  let v1318 : BitVec 32 := Scalar.addi c0_i32_1421 v1317
  v1318.toNat
def k0_dev67 (d0 : Dev nD) : Nat :=
  let c0_i32_1458 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1457 : BitVec 32 := 1#32
  let v1341 : BitVec 32 := Scalar.muli v7 c1_i32_1457
  let v1342 : BitVec 32 := Scalar.addi c0_i32_1458 v1341
  v1342.toNat
def k0_dev68 (d0 : Dev nD) : Nat :=
  let c0_i32_1466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1465 : BitVec 32 := 1#32
  let v1350 : BitVec 32 := Scalar.muli v5 c1_i32_1465
  let v1351 : BitVec 32 := Scalar.addi c0_i32_1466 v1350
  v1351.toNat
def k0_dev69 (d0 : Dev nD) : Nat :=
  let c0_i32_1514 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1513 : BitVec 32 := 1#32
  let v1405 : BitVec 32 := Scalar.muli v5 c1_i32_1513
  let v1406 : BitVec 32 := Scalar.addi c0_i32_1514 v1405
  v1406.toNat
def k0_dev70 (d0 : Dev nD) : Nat :=
  let c0_i32_1517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1516 : BitVec 32 := 1#32
  let v1407 : BitVec 32 := Scalar.muli v7 c1_i32_1516
  let v1408 : BitVec 32 := Scalar.addi c0_i32_1517 v1407
  v1408.toNat
def k0_cond6 (k0_t1 : Fin k0_t1_loop.trips) : BitVec 1 :=
  let c0_i32_21 : BitVec 32 := 0#32
  let c1_i32_23 : BitVec 32 := 1#32
  let arg14 : BitVec 32 := Scf.iv c0_i32_21 c1_i32_23 k0_t1
  let c3_i32 : BitVec 32 := 3#32
  let v1409 : BitVec 1 := Scalar.cmpi .slt arg14 c3_i32
  let v1410 : BitVec 32 := Scalar.extui v1409
  let c0_i32_1518 : BitVec 32 := 0#32
  let v1411 : BitVec 1 := Scalar.cmpi .ne v1410 c0_i32_1518
  v1411

def k0_off10 (k0_t1 : Fin k0_t1_loop.trips) : Fin 2 → Nat :=
  let c2_i32_2076 : BitVec 32 := 2#32
  let c0_i32_21 : BitVec 32 := 0#32
  let c1_i32_23 : BitVec 32 := 1#32
  let arg14 : BitVec 32 := Scf.iv c0_i32_21 c1_i32_23 k0_t1
  let v1903 : BitVec 32 := Scalar.muli c2_i32_2076 arg14
  let c2_i32_2077 : BitVec 32 := 2#32
  let v1904 : BitVec 32 := Scalar.addi v1903 c2_i32_2077
  let c512_i32_2078 : BitVec 32 := 512#32
  let v1905 : BitVec 32 := Scalar.muli v1904 c512_i32_2078
  let v1906 : Index := Scalar.indexCast v1905
  let c0_2079 : Index := 0#32
  ![v1906.toNat, 0]
def k0_dev71 (d0 : Dev nD) : Nat :=
  let c0_i32_1555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1554 : BitVec 32 := 1#32
  let v1434 : BitVec 32 := Scalar.muli v7 c1_i32_1554
  let v1435 : BitVec 32 := Scalar.addi c0_i32_1555 v1434
  v1435.toNat
def k0_dev72 (d0 : Dev nD) : Nat :=
  let c0_i32_1563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1562 : BitVec 32 := 1#32
  let v1443 : BitVec 32 := Scalar.muli v5 c1_i32_1562
  let v1444 : BitVec 32 := Scalar.addi c0_i32_1563 v1443
  v1444.toNat
def k0_dev73 (d0 : Dev nD) : Nat :=
  let c0_i32_1611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1610 : BitVec 32 := 1#32
  let v1498 : BitVec 32 := Scalar.muli v5 c1_i32_1610
  let v1499 : BitVec 32 := Scalar.addi c0_i32_1611 v1498
  v1499.toNat
def k0_dev74 (d0 : Dev nD) : Nat :=
  let c0_i32_1614 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1613 : BitVec 32 := 1#32
  let v1500 : BitVec 32 := Scalar.muli v7 c1_i32_1613
  let v1501 : BitVec 32 := Scalar.addi c0_i32_1614 v1500
  v1501.toNat
def k0_cond7 (k0_t1 : Fin k0_t1_loop.trips) : BitVec 1 :=
  let c0_i32_21 : BitVec 32 := 0#32
  let c1_i32_23 : BitVec 32 := 1#32
  let arg14 : BitVec 32 := Scf.iv c0_i32_21 c1_i32_23 k0_t1
  let c3_i32_1615 : BitVec 32 := 3#32
  let v1502 : BitVec 1 := Scalar.cmpi .slt arg14 c3_i32_1615
  let v1503 : BitVec 32 := Scalar.extui v1502
  let c0_i32_1616 : BitVec 32 := 0#32
  let v1504 : BitVec 1 := Scalar.cmpi .ne v1503 c0_i32_1616
  v1504

def k0_off11 (k0_t1 : Fin k0_t1_loop.trips) : Fin 2 → Nat :=
  let c2_i32_2073 : BitVec 32 := 2#32
  let c0_i32_21 : BitVec 32 := 0#32
  let c1_i32_23 : BitVec 32 := 1#32
  let arg14 : BitVec 32 := Scf.iv c0_i32_21 c1_i32_23 k0_t1
  let v1900 : BitVec 32 := Scalar.muli c2_i32_2073 arg14
  let c2_i32_2074 : BitVec 32 := 2#32
  let v1901 : BitVec 32 := Scalar.addi v1900 c2_i32_2074
  let c512_i32_2075 : BitVec 32 := 512#32
  let v1902 : BitVec 32 := Scalar.muli v1901 c512_i32_2075
  let v1903 : Index := Scalar.indexCast v1902
  let c0_2076 : Index := 0#32
  ![v1903.toNat, 0]
def k0_dev75 (d0 : Dev nD) : Nat :=
  let c0_i32_1655 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1654 : BitVec 32 := 1#32
  let v1530 : BitVec 32 := Scalar.muli v7 c1_i32_1654
  let v1531 : BitVec 32 := Scalar.addi c0_i32_1655 v1530
  v1531.toNat
def k0_dev76 (d0 : Dev nD) : Nat :=
  let c0_i32_1661 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1660 : BitVec 32 := 1#32
  let v1538 : BitVec 32 := Scalar.muli v5 c1_i32_1660
  let v1539 : BitVec 32 := Scalar.addi c0_i32_1661 v1538
  v1539.toNat
def k0_dev77 (d0 : Dev nD) : Nat :=
  let c0_i32_1708 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1707 : BitVec 32 := 1#32
  let v1592 : BitVec 32 := Scalar.muli v5 c1_i32_1707
  let v1593 : BitVec 32 := Scalar.addi c0_i32_1708 v1592
  v1593.toNat
def k0_dev78 (d0 : Dev nD) : Nat :=
  let c0_i32_1711 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1710 : BitVec 32 := 1#32
  let v1594 : BitVec 32 := Scalar.muli v7 c1_i32_1710
  let v1595 : BitVec 32 := Scalar.addi c0_i32_1711 v1594
  v1595.toNat
def k0_dev79 (d0 : Dev nD) : Nat :=
  let c0_i32_1750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1749 : BitVec 32 := 1#32
  let v1621 : BitVec 32 := Scalar.muli v7 c1_i32_1749
  let v1622 : BitVec 32 := Scalar.addi c0_i32_1750 v1621
  v1622.toNat
def k0_dev80 (d0 : Dev nD) : Nat :=
  let c0_i32_1756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1755 : BitVec 32 := 1#32
  let v1629 : BitVec 32 := Scalar.muli v5 c1_i32_1755
  let v1630 : BitVec 32 := Scalar.addi c0_i32_1756 v1629
  v1630.toNat
def k0_dev81 (d0 : Dev nD) : Nat :=
  let c0_i32_1781 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1780 : BitVec 32 := 1#32
  let v1653 : BitVec 32 := Scalar.muli v5 c1_i32_1780
  let v1654 : BitVec 32 := Scalar.addi c0_i32_1781 v1653
  v1654.toNat
def k0_dev82 (d0 : Dev nD) : Nat :=
  let c0_i32_1784 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1783 : BitVec 32 := 1#32
  let v1655 : BitVec 32 := Scalar.muli v7 c1_i32_1783
  let v1656 : BitVec 32 := Scalar.addi c0_i32_1784 v1655
  v1656.toNat
def k0_dev83 (d0 : Dev nD) : Nat :=
  let c0_i32_1823 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1822 : BitVec 32 := 1#32
  let v1682 : BitVec 32 := Scalar.muli v7 c1_i32_1822
  let v1683 : BitVec 32 := Scalar.addi c0_i32_1823 v1682
  v1683.toNat
def k0_dev84 (d0 : Dev nD) : Nat :=
  let c0_i32_1829 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1828 : BitVec 32 := 1#32
  let v1690 : BitVec 32 := Scalar.muli v5 c1_i32_1828
  let v1691 : BitVec 32 := Scalar.addi c0_i32_1829 v1690
  v1691.toNat
def k0_dev85 (d0 : Dev nD) : Nat :=
  let c0_i32_1854 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1853 : BitVec 32 := 1#32
  let v1714 : BitVec 32 := Scalar.muli v5 c1_i32_1853
  let v1715 : BitVec 32 := Scalar.addi c0_i32_1854 v1714
  v1715.toNat
def k0_dev86 (d0 : Dev nD) : Nat :=
  let c0_i32_1857 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1856 : BitVec 32 := 1#32
  let v1716 : BitVec 32 := Scalar.muli v7 c1_i32_1856
  let v1717 : BitVec 32 := Scalar.addi c0_i32_1857 v1716
  v1717.toNat
def k0_dev87 (d0 : Dev nD) : Nat :=
  let c0_i32_1896 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1895 : BitVec 32 := 1#32
  let v1743 : BitVec 32 := Scalar.muli v7 c1_i32_1895
  let v1744 : BitVec 32 := Scalar.addi c0_i32_1896 v1743
  v1744.toNat
def k0_dev88 (d0 : Dev nD) : Nat :=
  let c0_i32_1902 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1901 : BitVec 32 := 1#32
  let v1751 : BitVec 32 := Scalar.muli v5 c1_i32_1901
  let v1752 : BitVec 32 := Scalar.addi c0_i32_1902 v1751
  v1752.toNat
def k0_dev89 (d0 : Dev nD) : Nat :=
  let c0_i32_1927 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1926 : BitVec 32 := 1#32
  let v1775 : BitVec 32 := Scalar.muli v5 c1_i32_1926
  let v1776 : BitVec 32 := Scalar.addi c0_i32_1927 v1775
  v1776.toNat
def k0_dev90 (d0 : Dev nD) : Nat :=
  let c0_i32_1930 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1929 : BitVec 32 := 1#32
  let v1777 : BitVec 32 := Scalar.muli v7 c1_i32_1929
  let v1778 : BitVec 32 := Scalar.addi c0_i32_1930 v1777
  v1778.toNat
def k0_dev91 (d0 : Dev nD) : Nat :=
  let c0_i32_1969 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1968 : BitVec 32 := 1#32
  let v1804 : BitVec 32 := Scalar.muli v7 c1_i32_1968
  let v1805 : BitVec 32 := Scalar.addi c0_i32_1969 v1804
  v1805.toNat
def k0_dev92 (d0 : Dev nD) : Nat :=
  let c0_i32_1975 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1974 : BitVec 32 := 1#32
  let v1812 : BitVec 32 := Scalar.muli v5 c1_i32_1974
  let v1813 : BitVec 32 := Scalar.addi c0_i32_1975 v1812
  v1813.toNat
def k0_dev93 (d0 : Dev nD) : Nat :=
  let c0_i32_2000 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1999 : BitVec 32 := 1#32
  let v1836 : BitVec 32 := Scalar.muli v5 c1_i32_1999
  let v1837 : BitVec 32 := Scalar.addi c0_i32_2000 v1836
  v1837.toNat
def k0_dev94 (d0 : Dev nD) : Nat :=
  let c0_i32_2003 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2002 : BitVec 32 := 1#32
  let v1838 : BitVec 32 := Scalar.muli v7 c1_i32_2002
  let v1839 : BitVec 32 := Scalar.addi c0_i32_2003 v1838
  v1839.toNat
def k0_dev95 (d0 : Dev nD) : Nat :=
  let c0_i32_2042 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2041 : BitVec 32 := 1#32
  let v1865 : BitVec 32 := Scalar.muli v7 c1_i32_2041
  let v1866 : BitVec 32 := Scalar.addi c0_i32_2042 v1865
  v1866.toNat
def k0_dev96 (d0 : Dev nD) : Nat :=
  let c0_i32_2048 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2047 : BitVec 32 := 1#32
  let v1873 : BitVec 32 := Scalar.muli v5 c1_i32_2047
  let v1874 : BitVec 32 := Scalar.addi c0_i32_2048 v1873
  v1874.toNat
def k0_cond8 (k0_t1 : Fin k0_t1_loop.trips) : BitVec 1 :=
  let c0_i32_21 : BitVec 32 := 0#32
  let c1_i32_23 : BitVec 32 := 1#32
  let arg14 : BitVec 32 := Scf.iv c0_i32_21 c1_i32_23 k0_t1
  let c3_i32_2071 : BitVec 32 := 3#32
  let v1897 : BitVec 1 := Scalar.cmpi .slt arg14 c3_i32_2071
  let v1898 : BitVec 32 := Scalar.extui v1897
  let c0_i32_2072 : BitVec 32 := 0#32
  let v1899 : BitVec 1 := Scalar.cmpi .ne v1898 c0_i32_2072
  v1899

def k0_dev97 (d0 : Dev nD) : Nat :=
  let c0_i32_2075 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2074 : BitVec 32 := 1#32
  let v1900 : BitVec 32 := Scalar.muli v5 c1_i32_2074
  let v1901 : BitVec 32 := Scalar.addi c0_i32_2075 v1900
  v1901.toNat
def k0_dev98 (d0 : Dev nD) : Nat :=
  let c0_i32_2078 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2077 : BitVec 32 := 1#32
  let v1902 : BitVec 32 := Scalar.muli v7 c1_i32_2077
  let v1903 : BitVec 32 := Scalar.addi c0_i32_2078 v1902
  v1903.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Sched.lean ====
module

public import proofs.«01_k».proof.Proof.Gen.KernelIdeal
public import proofs.«01_k».proof.Proof.Gen.KernelIdeal.Launch
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Release
public import Idealize.ShloMosaic.Lib.StableHlo
public import Idealize.ShloMosaic.Lib.Tactic
public import Idealize.ShloMosaic.PureOps

/-! The protocol of the ring all-reduce: two directions (`false` sends to the right neighbour,
`true` to the left), 96 copies in each ("micros"), two landing slots per direction. This module
fixes the cells, what every wait hands over, and the order of the waits. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

/-- A place of an accumulator or slot lent to the sender: direction, receiver, micro. -/
abbrev Key := Bool × Dev nD × ℕ
abbrev UX := URounds (GSem nD τ sig) ℕ × USlots Key
abbrev UU := UR sig nD τ × UX

local notation "𝕄" => MT nD τ sig ℕ (Elt F) ℕ UU ℕ

abbrev EP : Emb (UR sig nD τ) 𝕄 := embL (nD := nD) (τ := τ) (sig := sig) (Ix := ℕ) (Val := Elt F) (Name := ℕ) (Lvl := ℕ)
abbrev EX : Emb UX 𝕄 := embR (nD := nD) (τ := τ) (sig := sig) (Ix := ℕ) (Val := Elt F) (Name := ℕ) (Lvl := ℕ)
abbrev ER : Emb (URounds (GSem nD τ sig) ℕ) 𝕄 := (Emb.inl).trans (EX (F := F))
abbrev ES : Emb (USlots Key) 𝕄 := (Emb.inr).trans (EX (F := F))

instance landsER : (ER (F := F)).LandsIn (upEmb : UEmb _ 𝕄) := by unfold ER EX embR; infer_instance
instance landsES : (ES (F := F)).LandsIn (upEmb : UEmb _ 𝕄) := by unfold ES EX embR; infer_instance

/-! ### Neighbours, parities, columns -/

/-- The device direction `d` sends to. -/
def nb (d : Bool) (c : Dev nD) : Dev nD := bif d then c + 3 else c + 1
/-- The device direction `d` receives from. -/
def pv (d : Bool) (c : Dev nD) : Dev nD := bif d then c + 1 else c + 3

theorem pv_nb (d : Bool) (c : Dev nD) : pv d (nb d c) = c := by revert d c; decide
theorem nb_pv (d : Bool) (c : Dev nD) : nb d (pv d c) = c := by revert d c; decide

def par (n : ℕ) : Bool := decide (n % 2 = 1)

/-- The accumulator of micro `n`. -/
abbrev accOf (n : ℕ) : Bool := par (n / 12)

/-- The 512-column tile of direction `d`, ring position `r`, half `sub`, on device `c`. -/
def kk (d : Bool) (c : Dev nD) (r sub : ℕ) : Fin 16 :=
  ⟨(bif d then 4 * ((c.val + r) % 4) + 2 + sub else 4 * ((c.val + 8 - r) % 4) + sub) % 16, Nat.mod_lt _ (by omega)⟩

/-- Ring position of the tile a micro sends. -/
def srcR (jm : ℕ) : ℕ := if jm < 6 then jm / 2 else ((jm - 6) / 2 + 3) % 4
/-- Ring position (at the receiver) of the tile a gather micro lands in. -/
def dstR (jm : ℕ) : ℕ := (jm - 6) / 2
/-- How far reduced the tile of micro `jm` is when sent: 4 means complete. -/
def lvS (jm : ℕ) : ℕ := if jm < 6 then jm / 2 else 4

theorem kk_gather (d : Bool) (c : Dev nD) (s sub : Fin 4) : kk d (nb d c) s sub = kk d c ((s + 3 : ℕ) % 4) sub := by
  revert d c s sub; decide

/-! ### The buffers -/

abbrev AccT (F : FTy → Type) := S512x8192.Idx → Elt F .bf16
abbrev TileT (F : FTy → Type) := S512x512.Idx → Elt F .bf16

def accM : Bool → Memref sig .tc .vmem S512x8192 .bf16
  | false => Memref.whole cc0_scratch0
  | true => Memref.whole cc0_scratch1

def tmpM : Bool → Memref sig .tc .vmem S2x512x512 .bf16
  | false => Memref.whole cc0_scratch2
  | true => Memref.whole cc0_scratch3

theorem rectK_inb (k : Fin 16) : ∀ a, (![0, 512 * k.val] : Fin 2 → ℕ) a + S512x512.size a ≤ S512x8192.size a := by
  intro a; fin_cases a
  · show 0 + 512 ≤ 512; omega
  · show 512 * k.val + 512 ≤ 8192; omega

/-- Columns `512 k` to `512 k + 511` of an accumulator. -/
def rectK (k : Fin 16) : Rect S512x8192 := Rect.unit (s := S512x8192) ![0, 512 * k.val] S512x512.size (rectK_inb k)

abbrev blkM (a : Bool) (k : Fin 16) : Memref sig .tc .vmem S512x512 .bf16 := (accM a).slice (rectK k) (fun _ => rfl)

def tileOf (X : AccT F) (k : Fin 16) : TileT F := fun j => X ((rectK k).emb j)

theorem slot_inb (s : Bool) : ∀ a, (![s.toNat, 0, 0] : Fin 3 → ℕ) a + S1x512x512.size a ≤ S2x512x512.size a := by
  cases s <;> decide

def rectS (s : Bool) : Rect S2x512x512 := Rect.unit (s := S2x512x512) ![s.toNat, 0, 0] S1x512x512.size (slot_inb s)

abbrev slotM (d s : Bool) : Memref sig .tc .vmem S512x512 .bf16 :=
  ((tmpM d).slice (rectS s) (fun _ => rfl)).squeeze S512x512 squeezes_S1x512x512_S512x512

theorem out_inb (b : Fin 8) : ∀ a, (![512 * b.val, 0] : Fin 2 → ℕ) a + S512x8192.size a ≤ S4096x8192.size a := by
  intro a; fin_cases a
  · show 512 * b.val + 512 ≤ 4096; omega
  · show 0 + 8192 ≤ 8192; omega

def rectO (b : Fin 8) : Rect S4096x8192 := Rect.unit (s := S4096x8192) ![512 * b.val, 0] S512x8192.size (out_inb b)

abbrev outM (b : Fin 8) : Memref sig .tc .hbm S512x8192 .bf16 :=
  (Memref.whole main_v1).slice (rectO b) (fun _ => rfl)

def fin8 (b : ℕ) : Fin 8 := ⟨b % 8, Nat.mod_lt _ (by omega)⟩

/-! ### Cells -/

def sendS : Bool → Bool → DmaSem sig
  | false, false => 2 | false, true => 3 | true, false => 6 | true, true => 7
def recvS : Bool → Bool → DmaSem sig
  | false, false => 4 | false, true => 5 | true, false => 8 | true, true => 9
def outS : Bool → DmaSem sig
  | false => 10 | true => 11
def credS : Bool → Sem sig
  | false => 0 | true => 1
def barS : Sem sig := 2

abbrev sendC (d s : Bool) (c : Dev nD) : GSem nD τ sig := ((c : Thread nD τ), .dma (sendS d s))
abbrev recvC (d s : Bool) (c : Dev nD) : GSem nD τ sig := ((c : Thread nD τ), .dma (recvS d s))
abbrev outC (o : Bool) (c : Dev nD) : GSem nD τ sig := ((c : Thread nD τ), .dma (outS o))
abbrev credC (d : Bool) (c : Dev nD) : GSem nD τ sig := ((c : Thread nD τ), .reg (credS d))
abbrev barC (c : Dev nD) : GSem nD τ sig := ((c : Thread nD τ), .reg barS)

inductive Kd | bar | cred (d : Bool) | send (d s : Bool) | recv (d s : Bool) | out (o : Bool) | idle
deriving DecidableEq

def kdD : ℕ → Kd
  | 2 => .send false false | 3 => .send false true | 6 => .send true false | 7 => .send true true
  | 4 => .recv false false | 5 => .recv false true | 8 => .recv true false | 9 => .recv true true
  | 10 => .out false | 11 => .out true | _ => .idle
def kdR : ℕ → Kd
  | 0 => .cred false | 1 => .cred true | 2 => .bar | _ => .idle

/-- What a semaphore is for. -/
def kd : SemLoc sig → Kd
  | .reg i => kdR i.val
  | .dma i => kdD i.val

@[simp] theorem kd_send (d s : Bool) : kd (.dma (sendS d s)) = .send d s := by cases d <;> cases s <;> rfl
@[simp] theorem kd_recv (d s : Bool) : kd (.dma (recvS d s)) = .recv d s := by cases d <;> cases s <;> rfl
@[simp] theorem kd_out (o : Bool) : kd (.dma (outS o)) = .out o := by cases o <;> rfl
@[simp] theorem kd_cred (d : Bool) : kd (.reg (credS d)) = .cred d := by cases d <;> rfl
@[simp] theorem kd_bar : kd (.reg barS) = .bar := rfl

/-- What a tile copy adds to its semaphores, and what an output copy adds. -/
def NT : ℕ := (slotM false false).view.dmaCredit
def NO : ℕ := (accM false).view.dmaCredit

theorem slot_credit (d s : Bool) : (slotM d s).view.dmaCredit = NT := by cases d <;> cases s <;> rfl
theorem blk_credit (a : Bool) (k : Fin 16) : (blkM a k).view.dmaCredit = NT := by cases a <;> rfl
theorem acc_credit (a : Bool) : (accM a).view.dmaCredit = NO := by cases a <;> rfl
theorem out_credit (b : Fin 8) : (outM b).view.dmaCredit = NO := by rfl
theorem NT_pos : 0 < NT := View.dmaCredit_pos _ (by decide)
theorem NO_pos : 0 < NO := View.dmaCredit_pos _ (by decide)

/-! ### Values -/

/-- The partial sum of `h + 1` devices' blocks, as direction `d` forms it. -/
def RS (PB : Dev nD → ℕ → AccT F) (d : Bool) : ℕ → Dev nD → ℕ → AccT F
  | 0, c, b => PB c b
  | h + 1, c, b => addf (PB c b) (RS PB d h (pv d c) b)

/-- Where direction `d` completes chunk `q`. -/
def owner (d : Bool) (q : ℕ) : Dev nD := bif d then ⟨(q + 1) % 4, Nat.mod_lt _ (by decide)⟩ else ⟨(q + 3) % 4, Nat.mod_lt _ (by decide)⟩

/-- The reduced block `b`: the same on every device. -/
def FV (PB : Dev nD → ℕ → AccT F) (b : ℕ) : AccT F := fun i =>
  RS PB (decide ((i 1).val / 1024 % 2 = 1)) 3 (owner (decide ((i 1).val / 1024 % 2 = 1)) ((i 1).val / 2048)) b i

def VAL (PB : Dev nD → ℕ → AccT F) (d : Bool) (c : Dev nD) (b h : ℕ) : AccT F :=
  if h = 4 then FV PB b else RS PB d h c b

/-- The tile micro `m` of direction `d` carries from device `c`. -/
def sent (PB : Dev nD → ℕ → AccT F) (d : Bool) (c : Dev nD) (m : ℕ) : TileT F :=
  tileOf (VAL PB d c (m / 12) (lvS (m % 12))) (kk d c (srcR (m % 12)) (m % 2))

/-! ### What the waits hand over -/

/-- A memref held in full with whatever it holds. -/
def any (c : Dev nD) {sp : Space} {s : Shape} {e : EltTy} (M : Memref sig .tc sp s e) : sProp 𝕄 :=
  iprop(∃ X, owns (Val := Elt F) (c : Thread nD τ) M fullShare X)

instance any_storable (c : Dev nD) {sp : Space} {s : Shape} {e : EltTy} (M : Memref sig .tc sp s e) :
    Storable (upEmb : UEmb _ 𝕄) (any (F := F) c M) := by unfold any; infer_instance

/-- The place micro `m` of direction `d` lands in on its receiver `x`. -/
def Sl (k : Key) : sProp 𝕄 :=
  if k.2.2 % 12 < 6 then any k.2.1 (slotM k.1 (par k.2.2))
  else any k.2.1 (blkM (accOf k.2.2) (kk k.1 k.2.1 (dstR (k.2.2 % 12)) (k.2.2 % 2)))

instance sl_storable (k : Key) : Storable (upEmb : UEmb _ 𝕄) (Sl (F := F) k) := by unfold Sl; split <;> infer_instance

/-- Micro `m`'s landing place on `x` is free, and its recv cell is at `m`'s round. -/
def relF (d : Bool) (x : Dev nD) (m : ℕ) : sProp 𝕄 :=
  iprop(released (ES (F := F)) (d, x, m) 1 ∗ reached (ER (F := F)) (recvC d (par m) x) (m / 2))

instance relF_storable (d : Bool) (x : Dev nD) (m : ℕ) : Storable (upEmb : UEmb _ 𝕄) (relF (F := F) d x m) := by
  unfold relF; infer_instance
instance relF_persistent (d : Bool) (x : Dev nD) (m : ℕ) : BI.Persistent (relF (F := F) d x m) := by
  unfold relF; infer_instance

def relTo (d : Bool) (x : Dev nD) (n : ℕ) : sProp 𝕄 := bigSep (Finset.range n) (relF (F := F) d x)
instance relTo_storable (d : Bool) (x : Dev nD) (m : ℕ) : Storable (upEmb : UEmb _ 𝕄) (relTo (F := F) d x m) := by
  unfold relTo; infer_instance
instance relTo_persistent (d : Bool) (x : Dev nD) (m : ℕ) : BI.Persistent (relTo (F := F) d x m) := by
  unfold relTo; infer_instance

section
variable (PB : Dev nD → ℕ → AccT F)

/-- Half of the tile that was sent comes back. -/
def sndPay (d : Bool) (c : Dev nD) (m : ℕ) : sProp 𝕄 :=
  owns (Val := Elt F) (c : Thread nD τ) (blkM (accOf m) (kk d c (srcR (m % 12)) (m % 2))) fullShare.left (sent PB d c m)

/-- The landed tile. -/
def rcvPay (d : Bool) (c : Dev nD) (m : ℕ) : sProp 𝕄 :=
  if m % 12 < 6 then owns (Val := Elt F) (c : Thread nD τ) (slotM d (par m)) fullShare (sent PB d (pv d c) m)
  else owns (Val := Elt F) (c : Thread nD τ) (blkM (accOf m) (kk d c (dstR (m % 12)) (m % 2))) fullShare
    (tileOf (FV PB (m / 12)) (kk d c (dstR (m % 12)) (m % 2)))

/-- The written row block, and the half of the accumulator it was read from. -/
def outPay (o : Bool) (c : Dev nD) (r : ℕ) : sProp 𝕄 :=
  iprop(owns (Val := Elt F) (c : Thread nD τ) (outM (fin8 (2 * r + o.toNat))) fullShare (FV PB (2 * r + o.toNat)) ∗
    owns (Val := Elt F) (c : Thread nD τ) (accM o) fullShare.right (FV PB (2 * r + o.toNat)))

instance sndPay_storable (d : Bool) (c : Dev nD) (m : ℕ) : Storable (upEmb : UEmb _ 𝕄) (sndPay PB d c m) := by
  unfold sndPay; infer_instance
instance rcvPay_storable (d : Bool) (c : Dev nD) (m : ℕ) : Storable (upEmb : UEmb _ 𝕄) (rcvPay PB d c m) := by
  unfold rcvPay; split <;> infer_instance
instance outPay_storable (d : Bool) (c : Dev nD) (m : ℕ) : Storable (upEmb : UEmb _ 𝕄) (outPay PB d c m) := by
  unfold outPay; infer_instance

/-- The micro of round `r` on slot `s`. -/
def mic (s : Bool) (r : ℕ) : ℕ := 2 * r + s.toNat

def payK : Kd → Dev nD → ℕ → ℕ → sProp 𝕄
  | .bar, c, _, d => iprop(relTo (F := F) (par d) (nb (par d) c) 2 ∗ reached (ER (F := F)) (credC (!par d) (nb (par d) c)) 0)
  | .cred d, c, _, k => relTo (F := F) d (nb d c) (k + 3)
  | .send d s, c, r, _ => sndPay PB d c (mic s r)
  | .recv d s, c, r, _ => rcvPay PB d c (mic s r)
  | .out o, c, r, _ => outPay PB o c r
  | .idle, _, _, _ => iprop(emp)

instance payK_storable (k : Kd) (c : Dev nD) (r d : ℕ) : Storable (upEmb : UEmb _ 𝕄) (payK PB k c r d) := by
  cases k <;> (unfold payK; infer_instance)

def dutK : Kd → ℕ → Finset ℕ
  | .bar, r => if r = 0 then {0, 1} else ∅
  | .cred _, r => if r = 0 then Finset.range 94 else ∅
  | .send _ _, r => if r < 48 then {0} else ∅
  | .recv _ _, r => if r < 48 then {0} else ∅
  | .out _, r => if r < 4 then {0} else ∅
  | .idle, _ => ∅

def amtK : Kd → ℕ
  | .bar => 1 | .cred _ => 1 | .send _ _ => NT | .recv _ _ => NT | .out _ => NO | .idle => 1

theorem amtK_pos (k : Kd) : 0 < amtK k := by
  cases k
  · exact Nat.one_pos
  · exact Nat.one_pos
  · exact NT_pos
  · exact NT_pos
  · exact NO_pos
  · exact Nat.one_pos

def Rd : Rounds.Schedule (GSem nD τ sig) ℕ 𝕄 where
  duties g r := if g.1.2 = .tc then dutK (kd g.2) r else ∅
  unitless _ := False
  amount g _ _ := amtK (kd g.2)
  payload g r d := payK PB (kd g.2) g.1.1 r d
  amount_pos g _ _ _ := amtK_pos _

end

end Cert.KernelIdeal.Ring
-- ==== Proof.State.lean ====
module

public import proofs.«01_k».proof.Proof.Sched
public import Idealize.ShloMosaic.Lib.MemrefSat
public import Idealize.SL.BI.BigOpNat

/-! What a device holds between two operations of the body, as a function of how far each kind of
operation has got in each direction. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ### The schedule, cell by cell -/

section Sched
variable (PB : Dev nD → ℕ → AccT F) (c : Dev nD) (d s o : Bool)

theorem par_mic (r : ℕ) : par (mic s r) = s := by cases s <;> simp [par, mic]
theorem mic_half (r : ℕ) : mic s r / 2 = r := by cases s <;> simp [mic] <;> omega
theorem mic_par (n : ℕ) : mic (par n) (n / 2) = n := by
  rcases Nat.mod_two_eq_zero_or_one n with h | h <;> simp [mic, par, h] <;> omega

theorem duties_send {n : ℕ} (h : n < 96) : (Rd PB).duties (sendC d (par n) c) (n / 2) = {0} := by
  dsimp only [Rd]; rw [if_pos rfl, kd_send]; exact if_pos (by omega)
theorem duties_recv {n : ℕ} (h : n < 96) : (Rd PB).duties (recvC d (par n) c) (n / 2) = {0} := by
  dsimp only [Rd]; rw [if_pos rfl, kd_recv]; exact if_pos (by omega)
theorem duties_out {r : ℕ} (h : r < 4) : (Rd PB).duties (outC o c) r = {0} := by
  dsimp only [Rd]; rw [if_pos rfl, kd_out]; exact if_pos h
theorem duties_cred : (Rd PB).duties (credC d c) 0 = Finset.range 94 := by
  dsimp only [Rd]; rw [if_pos rfl, kd_cred]; rfl
theorem duties_bar : (Rd PB).duties (barC c) 0 = {0, 1} := by
  dsimp only [Rd]; rw [if_pos rfl, kd_bar]; rfl

theorem amount_send (r e : ℕ) : (Rd PB).amount (sendC d s c) r e = NT := by
  dsimp only [Rd]; rw [kd_send]; rfl
theorem amount_recv (r e : ℕ) : (Rd PB).amount (recvC d s c) r e = NT := by
  dsimp only [Rd]; rw [kd_recv]; rfl
theorem amount_out (r e : ℕ) : (Rd PB).amount (outC o c) r e = NO := by
  dsimp only [Rd]; rw [kd_out]; rfl
theorem amount_cred (r e : ℕ) : (Rd PB).amount (credC d c) r e = 1 := by
  dsimp only [Rd]; rw [kd_cred]; rfl
theorem amount_bar (r e : ℕ) : (Rd PB).amount (barC c) r e = 1 := by
  dsimp only [Rd]; rw [kd_bar]; rfl

theorem expect_send {n : ℕ} (h : n < 96) : (Rd PB).expect (sendC d (par n) c) (n / 2) = NT := by
  unfold Schedule.expect Schedule.amountOf; rw [duties_send PB c d h, Finset.sum_singleton, amount_send]
theorem expect_recv {n : ℕ} (h : n < 96) : (Rd PB).expect (recvC d (par n) c) (n / 2) = NT := by
  unfold Schedule.expect Schedule.amountOf; rw [duties_recv PB c d h, Finset.sum_singleton, amount_recv]
theorem expect_out {r : ℕ} (h : r < 4) : (Rd PB).expect (outC o c) r = NO := by
  unfold Schedule.expect Schedule.amountOf; rw [duties_out PB c o h, Finset.sum_singleton, amount_out]
theorem expect_cred : (Rd PB).expect (credC d c) 0 = 94 := by
  unfold Schedule.expect Schedule.amountOf; rw [duties_cred]; simp only [amount_cred, Finset.sum_const, Finset.card_range, smul_eq_mul, mul_one]
theorem expect_bar : (Rd PB).expect (barC c) 0 = 2 := by
  unfold Schedule.expect Schedule.amountOf; rw [duties_bar]; simp only [amount_bar]; rfl

theorem payload_send (n e : ℕ) : (Rd PB).payload (sendC d (par n) c) (n / 2) e = sndPay PB d c n := by
  dsimp only [Rd]; rw [kd_send]; dsimp only [payK]; rw [mic_par]
theorem payload_recv (n e : ℕ) : (Rd PB).payload (recvC d (par n) c) (n / 2) e = rcvPay PB d c n := by
  dsimp only [Rd]; rw [kd_recv]; dsimp only [payK]; rw [mic_par]
theorem payload_out (r e : ℕ) : (Rd PB).payload (outC o c) r e = outPay PB o c r := by
  dsimp only [Rd]; rw [kd_out]; rfl
theorem payload_cred (r k : ℕ) : (Rd PB).payload (credC d c) r k = relTo (F := F) d (nb d c) (k + 3) := by
  dsimp only [Rd]; rw [kd_cred]; rfl
theorem payload_bar (r e : ℕ) : (Rd PB).payload (barC c) r e = iprop(relTo (F := F) (par e) (nb (par e) c) 2 ∗ reached (ER (F := F)) (credC (!par e) (nb (par e) c)) 0) := by
  dsimp only [Rd]; rw [kd_bar]; rfl

theorem duties_send_later : ∀ r, 48 ≤ r → (Rd PB).duties (sendC d s c) r = ∅ := fun r h => by
  dsimp only [Rd]; rw [if_pos rfl, kd_send]; exact if_neg (by omega)
theorem duties_recv_later : ∀ r, 48 ≤ r → (Rd PB).duties (recvC d s c) r = ∅ := fun r h => by
  dsimp only [Rd]; rw [if_pos rfl, kd_recv]; exact if_neg (by omega)
theorem duties_out_later : ∀ r, 4 ≤ r → (Rd PB).duties (outC o c) r = ∅ := fun r h => by
  dsimp only [Rd]; rw [if_pos rfl, kd_out]; exact if_neg (by omega)
theorem duties_cred_later : ∀ r, 1 ≤ r → (Rd PB).duties (credC d c) r = ∅ := fun r h => by
  dsimp only [Rd]; rw [if_pos rfl, kd_cred]; exact if_neg (by omega)
theorem duties_bar_later : ∀ r, 1 ≤ r → (Rd PB).duties (barC c) r = ∅ := fun r h => by
  dsimp only [Rd]; rw [if_pos rfl, kd_bar]; exact if_neg (by omega)

end Sched

/-! ### Levels and what is owed -/

def L (g : GSem nD τ sig) : Finset ℕ := if g.1.2 = .tc then Finset.range 200 else ∅
def lvK : Kd → ℕ → ℕ
  | .bar, _ => 1 | .cred _, n => 2 * n + 3 | .recv _ _, n => 2 * n + 2 | _, _ => 0
/-- A wait may only follow waits of lower level. -/
def lv (g : GSem nD τ sig) (n : ℕ) : ℕ := lvK (kd g.2) n

/-- How many operations of each kind are done, by direction. -/
@[ext] structure Ctr where
  cr : Bool → ℕ
  sw : Bool → ℕ
  sd : Bool → ℕ
  rv : Bool → ℕ
  ad : Bool → ℕ
  gr : Bool → ℕ

/-- What direction `d` still owes: the tiles not yet sent, the credits not yet granted. -/
def OD (d : Bool) (c : Dev nD) (sd gr : ℕ) : CellTallies nD τ sig ℕ :=
  (∑ n ∈ Finset.Ico sd 96, tallyAt (recvC d (par n) (nb d c)) n NT) + ∑ k ∈ Finset.Ico gr 94, tallyAt (credC d (pv d c)) k 1

def OO (K : Ctr) (c : Dev nD) : CellTallies nD τ sig ℕ := OD false c (K.sd false) (K.gr false) + OD true c (K.sd true) (K.gr true)

section
variable (PB : Dev nD → ℕ → AccT F) (κ : GSem nD τ sig → ℕ) (ιs : Key → ℕ)

/-! ### The records -/

def allK : Finset Kd :=
  {.bar, .cred false, .cred true, .send false false, .send false true, .send true false, .send true true,
    .recv false false, .recv false true, .recv true false, .recv true true, .out false, .out true}

def gOf : Kd → Dev nD → GSem nD τ sig
  | .bar, c => barC c | .cred d, c => credC d c | .send d s, c => sendC d s c | .recv d s, c => recvC d s c
  | .out o, c => outC o c | .idle, c => ((c : Thread nD τ), .dma 0)

def keys : Finset Key := Finset.univ ×ˢ Finset.univ ×ˢ Finset.range 96

/-- Every cell's and every landing place's invariant, and the levels. -/
def recs : sProp 𝕄 :=
  iprop(bigSep (allK ×ˢ (Finset.univ : Finset (Dev nD))) (fun p => cellInv (ER (F := F)) (Rd PB) (κ (gOf p.1 p.2)) (gOf p.1 p.2)) ∗
    bigSep keys (fun k => slotInv (ES (F := F)) (ιs k) k (Sl k)) ∗ levAts L lv)

instance recs_persistent : BI.Persistent (recs PB κ ιs) := by unfold recs; infer_instance

theorem mem_allK (k : Kd) (hk : k ≠ .idle) : k ∈ allK := by
  rcases k with _ | d | ⟨d, s⟩ | ⟨d, s⟩ | o | _
  · decide
  · cases d <;> decide
  · cases d <;> cases s <;> decide
  · cases d <;> cases s <;> decide
  · cases o <;> decide
  · exact absurd rfl hk

theorem recs_cell (k : Kd) (hk : k ≠ .idle) (c : Dev nD) : recs PB κ ιs ⊢ cellInv (ER (F := F)) (Rd PB) (κ (gOf k c)) (gOf k c) :=
  (by unfold recs; iintro ⟨H, -, -⟩; iexact H :
    recs PB κ ιs ⊢ bigSep (allK ×ˢ (Finset.univ : Finset (Dev nD))) (fun p => cellInv (ER (F := F)) (Rd PB) (κ (gOf p.1 p.2)) (gOf p.1 p.2))).trans
  (bigSep_elim (i := (k, c)) (Finset.mem_product.mpr ⟨mem_allK k hk, Finset.mem_univ _⟩))

theorem recs_slot (d : Bool) (x : Dev nD) {m : ℕ} (hm : m < 96) : recs PB κ ιs ⊢ slotInv (ES (F := F)) (ιs (d, x, m)) (d, x, m) (Sl (d, x, m)) :=
  (by unfold recs; iintro ⟨-, H, -⟩; iexact H :
    recs PB κ ιs ⊢ bigSep keys (fun k => slotInv (ES (F := F)) (ιs k) k (Sl k))).trans
  (bigSep_elim (i := (d, x, m)) (by simp only [keys, Finset.mem_product, Finset.mem_univ, true_and, Finset.mem_range]; exact hm))

theorem recs_lev : recs PB κ ιs ⊢ levAts L lv := by
  unfold recs; iintro ⟨-, -, H⟩; iexact H

/-! ### The parts of the state -/

variable (c : Dev nD)

/-- The credit cell after `j` waits. -/
def CrP (d : Bool) (j : ℕ) : sProp 𝕄 :=
  iprop((if j < 94 then iprop(∃ T : Finset ℕ, ⌜T ⊆ Finset.range 94 ∧ j ≤ T.card⌝ ∗ atPos (ER (F := F)) (credC d c) 0 T j ∗ bigSep T (fun k => relTo (F := F) d (nb d c) (k + 3)))
      else atPos (ER (F := F)) (credC d c) 1 ∅ 0) ∗
    bigSep (Finset.Ico j 94) (fun k => cred (tallyAt (credC d c) k 1)))

/-- The releases known to the sender after `j` credit waits. -/
def RelP (d : Bool) (j : ℕ) : sProp 𝕄 := relTo (F := F) d (nb d c) (j + 2)

instance relP_persistent (d : Bool) (j : ℕ) : BI.Persistent (RelP (F := F) c d j) := by unfold RelP; infer_instance

def sPos (d : Bool) (n : ℕ) : sProp 𝕄 :=
  iprop(atPos (ER (F := F)) (sendC d (par n) c) (n / 2) ∅ 0 ∗ reached (ER (F := F)) (sendC d (par n) c) (n / 2))
def rPos (d : Bool) (n : ℕ) : sProp 𝕄 :=
  iprop(atPos (ER (F := F)) (recvC d (par n) c) (n / 2) ∅ 0 ∗ reached (ER (F := F)) (recvC d (par n) c) (n / 2))

/-- What sending micro `n` spends. -/
def sTok (d : Bool) (n : ℕ) : sProp 𝕄 :=
  iprop(dutyTok (ER (F := F)) (sendC d (par n) c) (n / 2) 0 ∗ dutyTok (ER (F := F)) (recvC d (par n) (nb d c)) (n / 2) 0 ∗
    writeTok (ES (F := F)) (d, nb d c, n) 1)

/-- The send cells: `a` sends returned, `i` started. -/
def SwP (d : Bool) (a i : ℕ) : sProp 𝕄 :=
  iprop(sPos c d a ∗ sPos c d (a + 1) ∗ bigSep (Finset.Ico a i) (fun n => cred (tallyAt (sendC d (par n) c) 0 NT)) ∗
    bigSep (Finset.Ico i 96) (sTok (F := F) c d))

/-- The recv cells after `r` landings. -/
def RvP (d : Bool) (r : ℕ) : sProp 𝕄 :=
  iprop(rPos c d r ∗ rPos c d (r + 1) ∗ bigSep (Finset.Ico r 96) (fun n => cred (tallyAt (recvC d (par n) c) n NT)))

/-- The credits to grant after `g` grants. -/
def GrP (d : Bool) (g : ℕ) : sProp 𝕄 :=
  iprop(bigSep (Finset.Ico g 94) (fun k => dutyTok (ER (F := F)) (credC d (pv d c)) 0 k) ∗ reached (ER (F := F)) (credC d (pv d c)) 0 ∗
    bigSep (Finset.Ico (g + 2) 96) (fun m => readerAt (ES (F := F)) (d, c, m) 0) ∗ relTo (F := F) d c (g + 2))

/-- The next micro to land in slot `s` once `rv` have landed. -/
def nextm (rv : ℕ) (s : Bool) : ℕ := if par rv = s then rv else rv + 1

def TmpP (d s : Bool) (rv ad gr : ℕ) : sProp 𝕄 :=
  if nextm rv s < gr + 2 ∧ nextm rv s % 12 < 6 then iprop(emp)
  else if rv = ad + 1 ∧ par ad = s ∧ ad % 12 < 6 then owns (Val := Elt F) (c : Thread nD τ) (slotM d s) fullShare (sent PB d (pv d c) ad)
  else any c (slotM d s)

/-- The counters, as an accumulator block sees them. -/
structure Lc where
  sd : ℕ
  sw : ℕ
  rv : ℕ
  ad : ℕ
  gr : ℕ

def loc (K : Ctr) (d : Bool) (b : ℕ) : Lc :=
  ⟨min (K.sd d - 12 * b) 12, min (K.sw d - 12 * b) 12, min (K.rv d - 12 * b) 12, min (K.ad d - 12 * b) 12, min (K.gr d - 12 * b) 10⟩

/-- Tile (`r`, `sub`) of the block under work: lent to the sender, or at a level of reduction and either
being read by a send or not. -/
def stat (l : Lc) (r sub : ℕ) : Option (ℕ × Bool) :=
  if r ≤ 2 ∧ 4 + 2 * r + sub < l.gr ∧ l.rv ≤ 6 + 2 * r + sub then none
  else some (if r ≤ 2 ∧ 6 + 2 * r + sub < l.rv then 4 else if r = 0 then 0 else if 2 * (r - 1) + sub < l.ad then (if r = 3 then 4 else r) else 0,
    decide ((r ≤ 2 ∧ l.sw ≤ 2 * r + sub ∧ 2 * r + sub < l.sd) ∨ (r = 3 ∧ l.sw ≤ 6 + sub ∧ 6 + sub < l.sd) ∨
      (r = 0 ∧ l.sw ≤ 8 + sub ∧ 8 + sub < l.sd) ∨ (r = 1 ∧ l.sw ≤ 10 + sub ∧ 10 + sub < l.sd)))

abbrev Tl := Bool × Fin 4 × Fin 2

/-- A tile at status `st`; `ou`: the right half of the accumulator is lent to an output copy. -/
def BkS (b : ℕ) (ou : Bool) (p : Tl) : Option (ℕ × Bool) → sProp 𝕄
  | none => iprop(emp)
  | some (h, fl) =>
    match fl, ou with
    | true, true => iprop(emp)
    | true, false => owns (Val := Elt F) (c : Thread nD τ) (blkM (par b) (kk p.1 c p.2.1 p.2.2)) fullShare.right (tileOf (VAL PB p.1 c b h) (kk p.1 c p.2.1 p.2.2))
    | false, true => owns (Val := Elt F) (c : Thread nD τ) (blkM (par b) (kk p.1 c p.2.1 p.2.2)) fullShare.left (tileOf (VAL PB p.1 c b h) (kk p.1 c p.2.1 p.2.2))
    | false, false => owns (Val := Elt F) (c : Thread nD τ) (blkM (par b) (kk p.1 c p.2.1 p.2.2)) fullShare (tileOf (VAL PB p.1 c b h) (kk p.1 c p.2.1 p.2.2))

def BkP (K : Ctr) (b : ℕ) (ou : Bool) (p : Tl) : sProp 𝕄 := BkS PB c b ou p (stat (loc K p.1 b) p.2.1 p.2.2)

/-- What an accumulator is doing. -/
inductive AccS
  | any
  | half (b : ℕ)
  | proc (b : ℕ) (ou : Bool)

def AccP (K : Ctr) (a : Bool) : AccS → sProp 𝕄
  | .any => any c (accM a)
  | .half b => iprop(∃ X : AccT F, ⌜∀ i : S512x8192.Idx, (i 1).val < 4096 → X i = PB c b i⌝ ∗ owns (Val := Elt F) (c : Thread nD τ) (accM a) fullShare X)
  | .proc b ou => iprop(⌜par b = a⌝ ∗ bigSep (Finset.univ : Finset Tl) (BkP PB c K b ou))

/-- The output rows of blocks `2 r + o`: `s` copies started, `w` returned. -/
def OutP (o : Bool) (s w : ℕ) : sProp 𝕄 :=
  iprop(atPos (ER (F := F)) (outC o c) w ∅ 0 ∗ reached (ER (F := F)) (outC o c) w ∗
    bigSep (Finset.Ico s 4) (fun r => dutyTok (ER (F := F)) (outC o c) r 0) ∗
    bigSep (Finset.Ico w s) (fun _ => cred (tallyAt (outC o c) 0 NO)) ∗
    bigSep (Finset.range w) (fun r => owns (Val := Elt F) (c : Thread nD τ) (outM (fin8 (2 * r + o.toNat))) fullShare (FV PB (2 * r + o.toNat))) ∗
    bigSep (Finset.Ico s 4) (fun r => any c (outM (fin8 (2 * r + o.toNat)))))

variable (xb : Dev nD → S4096x1024.Idx → Elt F .bf16) (wb : Dev nD → S1024x8192.Idx → Elt F .bf16)

def WinP : sProp 𝕄 :=
  iprop(owns (Val := Elt F) (c : Thread nD τ) (Memref.whole cc0_stg0_0) fullShare (xb c) ∗
    owns (Val := Elt F) (c : Thread nD τ) (Memref.whole cc0_stg1_0) fullShare (wb c))

/-- How far the output copies of the two accumulators are: started, returned. -/
structure OutS where
  s : Bool → ℕ
  w : Bool → ℕ

/-- Everything device `c` holds. -/
def StE (K : Ctr) (x : Bool → AccS) (o : OutS) : sProp 𝕄 :=
  iprop(recs PB κ ιs ∗ (∃ W, owes (c : Thread nD τ) (OO K c) W) ∗
    bigSep (Finset.univ : Finset Bool) (fun d => CrP (F := F) c d (K.cr d)) ∗
    bigSep (Finset.univ : Finset Bool) (fun d => RelP (F := F) c d (K.cr d)) ∗
    bigSep (Finset.univ : Finset Bool) (fun d => SwP (F := F) c d (K.sw d) (K.sd d)) ∗
    bigSep (Finset.univ : Finset Bool) (fun d => RvP (F := F) c d (K.rv d)) ∗
    bigSep (Finset.univ : Finset Bool) (fun d => GrP (F := F) c d (K.gr d)) ∗
    bigSep (Finset.univ : Finset (Bool × Bool)) (fun p => TmpP PB c p.1 p.2 (K.rv p.1) (K.ad p.1) (K.gr p.1)) ∗
    bigSep (Finset.univ : Finset Bool) (fun a => AccP PB c K a (x a)) ∗
    bigSep (Finset.univ : Finset Bool) (fun b => OutP PB c b (o.s b) (o.w b)) ∗
    WinP c xb wb)

end

/-! ### The counters along the program -/

def one (p : Prop) [Decidable p] : ℕ := if p then 1 else 0

/-- Micro `n`, after `q` of its twelve operations: two each of credit wait, send wait, send, recv wait, addition, grant. -/
def ctr (n q : ℕ) : Ctr where
  cr d := n + one (1 + d.toNat ≤ q) - 2
  sw d := n + one (3 + d.toNat ≤ q) - 2
  sd d := n + one (5 + d.toNat ≤ q)
  rv d := n + one (7 + d.toNat ≤ q) - 1
  ad d := n + one (9 + d.toNat ≤ q) - 1
  gr d := min (n + one (11 + d.toNat ≤ q) - 1) 94

end Cert.KernelIdeal.Ring
-- ==== Proof.Pieces.lean ====
module

public import proofs.«01_k».proof.Proof.State
public import Mathlib.Algebra.BigOperators.Intervals
public import Mathlib.Tactic.Abel

/-! How the parts of the state change when one counter moves: splitting out the part of one
direction, one tile, one slot; the levels; what is owed. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

abbrev 𝒱₀ : Variants := Variants.none

/-- The weakest precondition of a piece of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem bsp {Φ Ψ : Bool → sProp 𝕄} (d : Bool) (h : Ψ (!d) = Φ (!d)) :
    bigSep Finset.univ Φ ⊢ iprop(Φ d ∗ (Ψ d -∗ bigSep Finset.univ Ψ)) :=
  bigSep_univ_update d (fun j hj => by
    obtain rfl : j = !d := by cases j <;> cases d <;> simp_all
    exact h)

theorem pick_one {I : Type} [DecidableEq I] {s : Finset I} {i : I} (h : i ∈ s) {Φ : I → sProp 𝕄} : (bigSep s Φ : sProp 𝕄) ⊢ Φ i := bigSep_elim h

theorem upd_self (f : Bool → ℕ) (d : Bool) (v : ℕ) : Function.update f d v d = v := Function.update_self _ _ _
theorem upd_not (f : Bool → ℕ) (d : Bool) (v : ℕ) : Function.update f d v (!d) = f (!d) :=
  Function.update_of_ne (by cases d <;> decide) _ _

/-! ### Owed and levels -/

theorem OD_send (d : Bool) (c : Dev nD) {m : ℕ} (hm : m < 96) (g : ℕ) :
    OD d c m g = OD d c (m + 1) g + tallyAt (recvC d (par m) (nb d c)) m NT := by
  unfold OD; rw [Finset.sum_eq_sum_Ico_succ_bot hm]; abel

theorem OD_grant (d : Bool) (c : Dev nD) (s : ℕ) {k : ℕ} (hk : k < 94) :
    OD d c s k = OD d c s (k + 1) + tallyAt (credC d (pv d c)) k 1 := by
  unfold OD; rw [Finset.sum_eq_sum_Ico_succ_bot hk]; abel

theorem OO_send (K : Ctr) (d : Bool) (c : Dev nD) {m : ℕ} (hK : K.sd d = m) (hm : m < 96) :
    OO K c = OO { K with sd := Function.update K.sd d (m + 1) } c + tallyAt (recvC d (par m) (nb d c)) m NT := by
  subst hK
  cases d
  · simp only [OO, OD_send false c hm, Function.update_self, Function.update_of_ne (show true ≠ false by decide)]; abel
  · simp only [OO, OD_send true c hm, Function.update_self, Function.update_of_ne (show false ≠ true by decide)]; abel

theorem OO_grant (K : Ctr) (d : Bool) (c : Dev nD) {k : ℕ} (hK : K.gr d = k) (hk : k < 94) :
    OO K c = OO { K with gr := Function.update K.gr d (k + 1) } c + tallyAt (credC d (pv d c)) k 1 := by
  subst hK
  cases d
  · simp only [OO, OD_grant false c _ hk, Function.update_self, Function.update_of_ne (show true ≠ false by decide)]; abel
  · simp only [OO, OD_grant true c _ hk, Function.update_self, Function.update_of_ne (show false ≠ true by decide)]; abel

theorem sum_pos_tally {s : Finset ℕ} {G : ℕ → GSem nD τ sig} {k : ℕ} {g : GSem nD τ sig} {u : ℕ}
    (h : 0 < (∑ n ∈ s, (tallyAt (G n) n k : CellTallies nD τ sig ℕ)) g u) : u ∈ s ∧ g = G u := by
  rw [Finset.sum_apply, Finsupp.finset_sum_apply] at h
  obtain ⟨n, hn, hp⟩ := Finset.exists_ne_zero_of_sum_ne_zero (Nat.pos_iff_ne_zero.mp h)
  rw [tallyAt_apply] at hp
  by_cases hg : g = G n ∧ u = n
  · obtain ⟨h1, rfl⟩ := hg; exact ⟨hn, h1⟩
  · rw [if_neg hg] at hp; exact absurd rfl hp

theorem OD_pos {d : Bool} {c : Dev nD} {s k : ℕ} {g : GSem nD τ sig} {u : ℕ} (h : 0 < OD d c s k g u) :
    (s ≤ u ∧ u < 96 ∧ g = recvC d (par u) (nb d c)) ∨ (k ≤ u ∧ u < 94 ∧ g = credC d (pv d c)) := by
  unfold OD at h
  rw [Pi.add_apply, Finsupp.add_apply] at h
  rcases Nat.eq_zero_or_pos ((∑ n ∈ Finset.Ico s 96, (tallyAt (recvC d (par n) (nb d c)) n NT : CellTallies nD τ sig ℕ)) g u) with h0 | h1
  · rw [h0, Nat.zero_add] at h
    obtain ⟨hu, hg⟩ := sum_pos_tally h
    rw [Finset.mem_Ico] at hu; exact .inr ⟨hu.1, hu.2, hg⟩
  · obtain ⟨hu, hg⟩ := sum_pos_tally h1
    rw [Finset.mem_Ico] at hu; exact .inl ⟨hu.1, hu.2, hg⟩

/-- A wait is allowed when everything owed is of higher level. -/
theorem mayWait (K : Ctr) (c : Dev nD) (sm : SemLoc sig) (ι : ℕ) (hι : ι < 200)
    (h : ∀ d, (K.sd d < 96 → lv ((c : Thread nD τ), sm) ι < 2 * K.sd d + 2) ∧ (K.gr d < 94 → lv ((c : Thread nD τ), sm) ι < 2 * K.gr d + 3)) :
    (levAts L lv : sProp 𝕄) ⊢ MayWait (c : Thread nD τ) sm ι (OO K c) := by
  have key : ∀ (g : GSem nD τ sig) (u : ℕ), 0 < OO K c g u → u ∈ L g ∧ lv ((c : Thread nD τ), sm) ι < lv g u := by
    intro g u hg
    have : ∃ d, 0 < OD d c (K.sd d) (K.gr d) g u := by
      unfold OO at hg
      rw [Pi.add_apply, Finsupp.add_apply] at hg
      rcases Nat.eq_zero_or_pos (OD false c (K.sd false) (K.gr false) g u) with h0 | h1
      · rw [h0, Nat.zero_add] at hg; exact ⟨true, hg⟩
      · exact ⟨false, h1⟩
    obtain ⟨d, hd⟩ := this
    rcases OD_pos hd with ⟨h1, h2, rfl⟩ | ⟨h1, h2, rfl⟩
    · refine ⟨by unfold L; rw [if_pos rfl]; exact Finset.mem_range.mpr (by omega), lt_of_lt_of_le ((h d).1 (by omega)) ?_⟩
      simp only [lv, kd_recv, lvK]; omega
    · refine ⟨by unfold L; rw [if_pos rfl]; exact Finset.mem_range.mpr (by omega), lt_of_lt_of_le ((h d).2 (by omega)) ?_⟩
      simp only [lv, kd_cred, lvK]; omega
  refine MayOwe.of_cut (L := L) (lev := lv) (lv ((c : Thread nD τ), sm) ι) (fun p hp => ?_) (fun g u hg => (key g u hg).1)
    (fun p hp => ?_) (fun g u hg => (key g u hg).2)
  · rw [Finset.mem_singleton.mp hp]; unfold L; rw [if_pos rfl]; exact Finset.mem_range.mpr hι
  · rw [Finset.mem_singleton.mp hp]

/-! ### Tiles -/

section Acc
variable (PB : Dev nD → ℕ → AccT F) (c : Dev nD)

theorem accP_congr {K K' : Ctr} (a : Bool) (s : AccS) (h : ∀ b, (par b = a) → ∀ d, loc K' d b = loc K d b) :
    AccP PB c K' a s = AccP PB c K a s := by
  rcases s with _ | b | ⟨b, ou⟩
  · rfl
  · rfl
  · unfold AccP
    by_cases hb : par b = a
    · have e : BkP PB c K' b ou = BkP PB c K b ou := funext fun p => by unfold BkP; rw [h b hb]
      simp only [AccP, e]
    · have e : ∀ P Q : sProp 𝕄, iprop(⌜par b = a⌝ ∗ P) ⊢ iprop(⌜par b = a⌝ ∗ Q) := fun P Q => by
        iintro ⟨%h, _⟩; exact absurd h hb
      simp only [AccP]; exact BI.equiv_iff.mp ⟨e _ _, e _ _⟩

theorem accs_congr {K K' : Ctr} (x : Bool → AccS) (h : ∀ b d, loc K' d b = loc K d b) :
    bigSep Finset.univ (fun a => AccP PB c K' a (x a)) = bigSep Finset.univ (fun a => AccP PB c K a (x a)) :=
  bigSep_congr fun a _ => accP_congr PB c a (x a) fun b _ d => h b d

/-- One tile of the block under work changes, nothing else does. -/
theorem acc_turn {K K' : Ctr} {x : Bool → AccS} {b : ℕ} {ou : Bool} (hx : x (par b) = .proc b ou) (d : Bool) (r : Fin 4) (sub : Fin 2)
    (hd : ∀ b', loc K' (!d) b' = loc K (!d) b') (hb : ∀ b', b' ≠ b → loc K' d b' = loc K d b')
    (hne : ∀ (r' : Fin 4) (sub' : Fin 2), ¬ (r' = r ∧ sub' = sub) → stat (loc K' d b) r' sub' = stat (loc K d b) r' sub') :
    bigSep Finset.univ (fun a => AccP PB c K a (x a)) ⊢
      iprop(BkP PB c K b ou (d, r, sub) ∗ (BkP PB c K' b ou (d, r, sub) -∗ bigSep Finset.univ (fun a => AccP PB c K' a (x a)))) := by
  iintro HA
  ihave HA := (bsp (Ψ := fun a => AccP PB c K' a (x a)) (par b)
    (accP_congr PB c _ _ (fun b' hb' d' => by
      have : b' ≠ b := fun e => by rw [e] at hb'; revert hb'; cases par b <;> decide
      by_cases hdd : d' = d
      · rw [hdd]; exact hb b' this
      · rw [show d' = !d by revert hdd; cases d <;> cases d' <;> decide]; exact hd b'))) $$ HA
  icases HA with ⟨HA, HB⟩
  simp only [hx, AccP]
  icases HA with ⟨-, HA⟩
  ihave HA := (bigSep_univ_update (Φ := BkP PB c K b ou) (Ψ := BkP PB c K' b ou) ((d, r, sub) : Tl) (fun p hp => by
      obtain ⟨d', r', sub'⟩ := p
      unfold BkP
      by_cases hdd : d' = d
      · subst hdd
        dsimp only
        rw [hne r' sub' (fun e => hp (by rw [e.1, e.2]))]
      · dsimp only
        rw [show d' = !d by revert hdd; cases d <;> cases d' <;> decide, hd b])) $$ HA
  icases HA with ⟨Ht, HC⟩
  isplitl [Ht]
  · iexact Ht
  iintro Ht
  iapply HB
  isplitr
  · ipureintro; trivial
  iapply HC
  iexact Ht

/-- No tile changes. -/
theorem acc_same {K K' : Ctr} {x : Bool → AccS} (b : ℕ) (d : Bool)
    (hd : ∀ b', loc K' (!d) b' = loc K (!d) b') (hb : ∀ b', b' ≠ b → loc K' d b' = loc K d b')
    (hne : ∀ (r' : Fin 4) (sub' : Fin 2), stat (loc K' d b) r' sub' = stat (loc K d b) r' sub') :
    bigSep Finset.univ (fun a => AccP PB c K' a (x a)) = bigSep Finset.univ (fun a => AccP PB c K a (x a)) := by
  refine bigSep_congr fun a _ => ?_
  rcases x a with _ | b' | ⟨b', ou⟩
  · rfl
  · rfl
  · suffices e : BkP PB c K' b' ou = BkP PB c K b' ou by simp only [AccP, e]
    funext p
    obtain ⟨d', r', sub'⟩ := p
    unfold BkP
    by_cases hdd : d' = d
    · subst hdd
      by_cases hbb : b' = b
      · subst hbb; dsimp only; rw [hne]
      · dsimp only; rw [hb b' hbb]
    · dsimp only; rw [show d' = !d by revert hdd; cases d <;> cases d' <;> decide, hd b']

end Acc

end Cert.KernelIdeal.Ring
-- ==== Proof.Send.lean ====
module

public import proofs.«01_k».proof.Proof.Pieces

/-! Starting a tile copy: it spends the sender's tokens and the place its receiver freed, lends half
of the tile it reads, and pays what the device owed its neighbour. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-- Where micro `m` of direction `d` lands on its receiver `x`. -/
def dstM (d : Bool) (x : Dev nD) (m : ℕ) : Memref sig .tc .vmem S512x512 .bf16 :=
  if m % 12 < 6 then slotM d (par m) else blkM (accOf m) (kk d x (dstR (m % 12)) (m % 2))

/-- Where it is read on its sender `c`. -/
abbrev srcM (d : Bool) (c : Dev nD) (m : ℕ) : Memref sig .tc .vmem S512x512 .bf16 :=
  blkM (accOf m) (kk d c (srcR (m % 12)) (m % 2))

theorem dst_credit (d : Bool) (x : Dev nD) (m : ℕ) : (dstM d x m).view.dmaCredit = NT := by
  unfold dstM; split
  · exact slot_credit _ _
  · exact blk_credit _ _

theorem Sl_eq (d : Bool) (x : Dev nD) (m : ℕ) : Sl (F := F) (d, x, m) = any x (dstM d x m) := by
  unfold Sl dstM; dsimp only; split <;> rfl

section
variable (PB : Dev nD → ℕ → AccT F) (κ : GSem nD τ sig → ℕ) (ιs : Key → ℕ) (c : Dev nD)
variable (xb : Dev nD → S4096x1024.Idx → Elt F .bf16) (wb : Dev nD → S1024x8192.Idx → Elt F .bf16)

/-- The tile that lands is the tile that was sent. -/
theorem rcvPay_eq (d : Bool) (m : ℕ) :
    rcvPay PB d (nb d c) m = owns (Val := Elt F) ((nb d c : Dev nD) : Thread nD τ) (dstM d (nb d c) m) fullShare (sent PB d c m) := by
  unfold rcvPay dstM
  by_cases h : m % 12 < 6
  · rw [if_pos h, if_pos h, pv_nb]
  · rw [if_neg h, if_neg h]
    have e : sent PB d c m = tileOf (FV PB (m / 12)) (kk d (nb d c) (dstR (m % 12)) (m % 2)) := by
      unfold sent VAL lvS srcR dstR
      rw [if_neg h, if_pos rfl, if_neg h]
      have := kk_gather d c ⟨(m % 12 - 6) / 2, by omega⟩ ⟨m % 2, by omega⟩
      rw [this]
    rw [e]

theorem owns_split (M : Memref sig .tc .vmem S512x512 .bf16) (X : TileT F) :
    (owns (Val := Elt F) (c : Thread nD τ) M fullShare X : sProp 𝕄) ⊣⊢
      iprop(owns (c : Thread nD τ) M fullShare.left X ∗ owns (c : Thread nD τ) M fullShare.right X) := owns_halves _ _ _ X

/-- A memref just written in full holds what was written. -/
theorem owns_written (x : Dev nD) {sp : Space} {s : Shape} {e : EltTy} (M : Memref sig .tc sp s e) (fd : BufTy.Contents (Elt F) M.view.ty) (Y : s.Idx → Elt F e) {Z : s.Idx → Elt F e} (h : Y = Z) :
    (M.view.loc (x : Thread nD τ) ↦[M.view.set]{fullShare} (M.view.write (Elt F) fd Y Finset.univ) : sProp 𝕄) ⊢ owns (x : Thread nD τ) M fullShare Z := by
  unfold owns
  iintro H
  iexists (M.view.write (Elt F) fd Y Finset.univ)
  isplitr
  · ipureintro; exact (View.read_write_univ _ _).trans h
  · iexact H

/-- Start the copy of micro `m`. -/
theorem core_send {α : Type} {Q : α → sProp 𝕄} {K : Ctr} {x : Bool → AccS} {o : OutS} (d : Bool) {m : ℕ} (hm : m < 96)
    (hK : K.sd d = m) (hcr : m < K.cr d + 2) (hsw : m = K.sw d ∨ m = K.sw d + 1)
    (hx : x (par (m / 12)) = .proc (m / 12) false)
    (hs : stat (loc K d (m / 12)) (srcR (m % 12)) (m % 2) = some (lvS (m % 12), false))
    (hs' : stat (loc { K with sd := Function.update K.sd d (m + 1) } d (m / 12)) (srcR (m % 12)) (m % 2) = some (lvS (m % 12), true))
    (hne : ∀ (r' : Fin 4) (sub' : Fin 2), ¬ (r'.val = srcR (m % 12) ∧ sub'.val = m % 2) →
      stat (loc { K with sd := Function.update K.sd d (m + 1) } d (m / 12)) r' sub' = stat (loc K d (m / 12)) r' sub')
    {x' : Dev nD} {src dst : Memref sig .tc .vmem S512x512 .bf16} {sS sR : DmaSem sig}
    {hsc : dst.view.ref.isScScratch = false} {hw : src.view.WordExact} {hw' : dst.view.WordExact}
    {hsem : DmaTarget.Typed .vmem (.dma sR : SemLoc sig) (.remote (Dev.tc x' : Thread nD τ) dst (.dma sS) hsc)}
    {k : PUnit → Prog (TpuEff nD τ sig (Elt F) Λ₀ .tc) α}
    (e1 : x' = nb d c) (e2 : src = srcM d c m) (e3 : dst = dstM d (nb d c) m) (e4 : sS = sendS d (par m)) (e5 : sR = recvS d (par m))
    (H : StE PB κ ιs c xb wb { K with sd := Function.update K.sd d (m + 1) } x o ⊢ wpc c (k ⟨⟩) Q) :
    StE PB κ ιs c xb wb K x o ⊢
      wpc c (.op (.enqueueDma src (.remote (Dev.tc x' : Thread nD τ) dst (.dma sS) hsc) (.dma sR) hw hw' hsem) k) Q := by
  subst e1 e2 e3 e4 e5
  unfold StE
  iintro ⟨#R, ⟨%W, HO⟩, HCr, HRel, HSw, HRv, HGr, HT, HA, HOu, HW⟩
  -- the place, freed by the receiver
  ihave HRel := (bsp (Ψ := fun d => RelP (F := F) c d (K.cr d)) d rfl) $$ HRel
  icases HRel with ⟨#HRd, HRelB⟩
  unfold RelP relTo
  ihave Hf := (pick_one (i := m) (Finset.mem_range.mpr hcr) (Φ := relF (F := F) d (nb d c))) $$ HRd
  unfold relF
  icases Hf with ⟨#Hfree, #Hreach⟩
  ihave HSw := (bsp (Ψ := fun d' => SwP (F := F) c d' (K.sw d') ((Function.update K.sd d (m + 1)) d')) d (by rw [upd_not])) $$ HSw
  icases HSw with ⟨HS, HSwB⟩
  unfold SwP
  icases HS with ⟨Hp0, Hp1, Hcs, Hts⟩
  rw [hK]
  ihave Hts := (Entails.of_eq (bigSep_Ico_succ_bot hm (sTok (F := F) c d))) $$ Hts
  icases Hts with ⟨Htok, Hts⟩
  unfold sTok
  icases Htok with ⟨Ht1, Ht2, Htw⟩
  imod (slot_take (ES (F := F)) (Set.mem_univ (ιs (d, nb d c, m))) 1) $$ [Htw] with HD
  · isplitr
    · iapply (recs_slot PB κ ιs d (nb d c) hm); iexact R
    isplitr
    · iexact Hfree
    iexact Htw
  ihave HD := (Entails.of_eq (Sl_eq d (nb d c) m)) $$ HD
  unfold any owns
  icases HD with ⟨%Y, %fd, %hfd, HD⟩
  -- its own side of the send cell is at this round
  unfold sPos
  icases Hp0 with ⟨Hp0, #H0⟩
  icases Hp1 with ⟨Hp1, #H1⟩
  have hreach : iprop(reached (ER (F := F)) (sendC d (par (K.sw d)) c) (K.sw d / 2) ∗ reached (ER (F := F)) (sendC d (par (K.sw d + 1)) c) ((K.sw d + 1) / 2))
      ⊢ (reached (ER (F := F)) (sendC d (par m) c) (m / 2) : sProp 𝕄) := by
    rcases hsw with h | h <;> rw [← h]
    · iintro ⟨H, -⟩; iexact H
    · iintro ⟨-, H⟩; iexact H
  ihave #Hrs := hreach $$ [H0 H1]
  · isplitr; · iexact H0
    iexact H1
  -- the tile to be read, half of it lent
  have hr : srcR (m % 12) < 4 := by unfold srcR; split <;> omega
  ihave HA := (acc_turn PB c hx d ⟨srcR (m % 12), hr⟩ ⟨m % 2, Nat.mod_lt _ (by omega)⟩
    (K' := { K with sd := Function.update K.sd d (m + 1) })
    (fun b' => by simp only [loc, upd_not])
    (fun b' hb' => by simp only [loc, upd_self, hK]; congr 1; omega)
    (fun r' s' h => hne r' s' (fun e => h ⟨Fin.ext e.1, Fin.ext e.2⟩))) $$ HA
  icases HA with ⟨Hb, HAB⟩
  unfold BkP
  dsimp only
  rw [hs, hs']
  unfold BkS
  dsimp only
  ihave Hb := (owns_split c (srcM d c m) _).1 $$ Hb
  icases Hb with ⟨Hl, Hr⟩
  unfold owns
  icases Hl with ⟨%fs, %hfs, Hl⟩
  iapply (Rounds.wp_send_pointsTo 𝒱₀ (ER (F := F)) (Rd PB) (c : Thread nD τ) none (c' := (nb d c : Thread nD τ)) (src := srcM d c m)
      (dst := dstM d (nb d c) m) (sS := .dma (sendS d (par m))) (sem := .dma (recvS d (par m))) (q := fullShare.left) (fs := fs) (fd := fd)
      (κ₁ := κ (sendC d (par m) c)) (κ₂ := κ (recvC d (par m) (nb d c))) (r₁ := m / 2) (r₂ := m / 2) (d₁ := 0) (d₂ := 0)
      (by rw [duties_send PB c d hm]; exact Finset.mem_singleton_self _) (by rw [duties_recv PB (nb d c) d hm]; exact Finset.mem_singleton_self _)
      m 0 NT (dst_credit d (nb d c) m) (amount_send PB c d (par m) _ _) (amount_recv PB (nb d c) d (par m) _ _)
      (OO { K with sd := Function.update K.sd d (m + 1) } c) (OO_send K d c hK hm) (W := W)
      (by rw [payload_send]; unfold sndPay owns; iintro H; iexists fs; isplitr
          · ipureintro; rw [hfs]; rfl
          · iexact H)
      (by rw [payload_recv, rcvPay_eq]; exact owns_written (nb d c) (dstM d (nb d c) m) fd _ hfs) ) $$ [Hl HD HO Ht1 Ht2]
  · isplitr
    · iapply (recs_cell PB κ ιs (.send d (par m)) (by simp) c); iexact R
    isplitr
    · iapply (recs_cell PB κ ιs (.recv d (par m)) (by simp) (nb d c)); iexact R
    isplitl [Hl]; · iexact Hl
    isplitl [HD]; · iexact HD
    isplitl [HO]; · iexact HO
    isplitl [Ht1]; · iexact Ht1
    isplitr; · iexact Hrs
    isplitl [Ht2]; · iexact Ht2
    iexact Hreach
  iintro ⟨Hc, HO⟩
  iapply H
  unfold StE
  isplitr; · iexact R
  isplitl [HO]; · iexists W; iexact HO
  isplitl [HCr]; · iexact HCr
  isplitl [HRelB]
  · iapply HRelB; iexact HRd
  isplitl [HSwB Hp0 Hp1 Hcs Hts Hc]
  · iapply HSwB
    rw [upd_self]
    isplitl [Hp0]
    · isplitl; · iexact Hp0
      iexact H0
    isplitl [Hp1]
    · isplitl; · iexact Hp1
      iexact H1
    isplitl [Hcs Hc]
    · iapply (Entails.of_eq (bigSep_Ico_succ_top (show K.sw d ≤ m by omega) (fun n => cred (tallyAt (sendC d (par n) c) 0 NT))).symm)
      isplitl [Hc]; · iexact Hc
      iexact Hcs
    iexact Hts
  isplitl [HRv]; · iexact HRv
  isplitl [HGr]; · iexact HGr
  isplitl [HT]; · iexact HT
  isplitl [HAB Hr]
  · iapply HAB
    iexact Hr
  isplitl [HOu]; · iexact HOu
  iexact HW

end

end Cert.KernelIdeal.Ring
-- ==== Proof.Waits.lean ====
module

public import proofs.«01_k».proof.Proof.Send

/-! The three waits of a micro: for a credit, for the return of a started copy, for a landing. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable (PB : Dev nD → ℕ → AccT F) (κ : GSem nD τ sig → ℕ) (ιs : Key → ℕ) (c : Dev nD)
variable (xb : Dev nD → S4096x1024.Idx → Elt F .bf16) (wb : Dev nD → S1024x8192.Idx → Elt F .bf16)

/-- Among `j + 1` credits below 94 one is `j` or later. -/
theorem exists_late {S : Finset ℕ} {j : ℕ} (hc : j + 1 ≤ S.card) : ∃ k ∈ S, j ≤ k := by
  by_contra h
  push Not at h
  have : S ⊆ Finset.range j := fun k hk => Finset.mem_range.mpr (h k hk)
  have := Finset.card_le_card this
  rw [Finset.card_range] at this; omega

theorem relTo_mono (d : Bool) (x : Dev nD) {n n' : ℕ} (h : n ≤ n') : relTo (F := F) d x n' ⊢ relTo (F := F) d x n := by
  unfold relTo
  exact bigSep_subset (Finset.range_mono h)

/-- The releases a set of credits carries reach past any index it has an element above. -/
theorem rel_late (d : Bool) (x : Dev nD) {S : Finset ℕ} {j : ℕ} (hc : j + 1 ≤ S.card) :
    (bigSep S (fun k => relTo (F := F) d x (k + 3)) : sProp 𝕄) ⊢ relTo (F := F) d x (j + 1 + 2) := by
  obtain ⟨k, hk, hj⟩ := exists_late hc
  exact (pick_one hk).trans (relTo_mono d x (by omega))

theorem crP_open (d : Bool) {j : ℕ} (hj : j < 94) : CrP (F := F) c d j ⊢
    iprop((∃ T : Finset ℕ, ⌜T ⊆ Finset.range 94 ∧ j ≤ T.card⌝ ∗ atPos (ER (F := F)) (credC d c) 0 T j ∗ bigSep T (fun k => relTo (F := F) d (nb d c) (k + 3))) ∗
      bigSep (Finset.Ico j 94) (fun k => cred (tallyAt (credC d c) k 1))) := by
  unfold CrP; rw [if_pos hj]

/-- Wait for a credit. -/
theorem core_cred {α : Type} {Q : α → sProp 𝕄} {K : Ctr} {x : Bool → AccS} {o : OutS} (d : Bool) {j : ℕ} (hj : j < 94)
    (hK : K.cr d = j) (hl : ∀ d', j < K.sd d' ∧ j < K.gr d') {sS : Sem sig}
    {k : PUnit → Prog (TpuEff nD τ sig (Elt F) Λ₀ .tc) α} (e1 : sS = credS d)
    (H : StE PB κ ιs c xb wb { K with cr := Function.update K.cr d (j + 1) } x o ⊢ wpc c (k ⟨⟩) Q) :
    StE PB κ ιs c xb wb K x o ⊢ wpc c (.op (.semWait sS 1) k) Q := by
  subst e1
  unfold StE
  iintro ⟨#R, ⟨%W, HO⟩, HCr, HRel, HSw, HRv, HGr, HT, HA, HOu, HW⟩
  ihave HCr := (bsp (Ψ := fun d' => CrP (F := F) c d' ((Function.update K.cr d (j + 1)) d')) d (by rw [upd_not])) $$ HCr
  icases HCr with ⟨HC, HCrB⟩
  rw [hK, upd_self]
  ihave HC := (crP_open c d hj) $$ HC
  icases HC with ⟨⟨%T, %hT, Hat, #HpT⟩, Hcs⟩
  ihave Hcs := (Entails.of_eq (bigSep_Ico_succ_bot hj (fun k => cred (tallyAt (credC d c) k 1)))) $$ Hcs
  icases Hcs with ⟨Hc, Hcs⟩
  have hmw : (levAts L lv : sProp 𝕄) ⊢ MayWait (c : Thread nD τ) (.reg (credS d)) j (OO K c) :=
    mayWait K c _ j (by omega) (fun d' => by
      have := hl d'
      simp only [lv, kd_cred, lvK]; omega)
  by_cases hlast : j + 1 < 94
  · iapply (Rounds.wp_wait 𝒱₀ (ER (F := F)) (Rd PB) (c : Thread nD τ) none (κ := κ (credC d c))
        (k' := 1) (wpE_semWait_eq 𝒱₀ (c : Thread nD τ) none Set.univ) (Set.mem_univ _) (cr := Finsupp.single j 1) (O := OO K c) (W := W)
        {((.reg (credS d) : SemLoc sig), j)} (R := 0) (m := j) (T := T)
        (by rw [Util.total_single]) (image_single_subset _ _ _)) $$ [Hc HO Hat]
    · isplitr
      · iapply (recs_cell PB κ ιs (.cred d) (by simp) c); iexact R
      isplitl [Hc]; · iexact Hc
      isplitl [HO]; · iexact HO
      isplitr
      · iapply hmw; iapply (recs_lev PB κ ιs); iexact R
      iexact Hat
    iintro %S ⟨%hS, HO, Hat, HpS⟩
    rw [duties_cred, expect_cred] at hS
    have hcard : j + 1 ≤ S.card := by
      have h1 := hS.2.2
      have h2 := Finset.card_sdiff_add_card_eq_card hS.2.1
      rw [Finset.card_range] at h2; omega
    have hall : iprop(bigSep T (fun k => relTo (F := F) d (nb d c) (k + 3)) ∗ bigSep (S \ T) (fun e => (Rd PB).payload (credC d c) 0 e))
        ⊢ (bigSep S (fun k => relTo (F := F) d (nb d c) (k + 3)) : sProp 𝕄) := by
      refine (Entails.of_eq ?_)
      rw [show (fun e => (Rd PB).payload (credC d c) 0 e) = (fun k => relTo (F := F) d (nb d c) (k + 3)) from
        funext fun e => payload_cred PB c d 0 e]
      conv_rhs => rw [← Finset.union_sdiff_of_subset hS.1]
      exact (bigSep_union Finset.disjoint_sdiff).symm
    ihave #HpA := hall $$ [HpS]
    · isplitr; · iexact HpT
      iexact HpS
    iapply H
    unfold StE
    isplitr; · iexact R
    isplitl [HO]; · iexists _; iexact HO
    isplitl [HCrB Hat Hcs]
    · iapply HCrB
      unfold CrP
      rw [if_pos hlast]
      isplitl [Hat]
      · iexists S
        isplitr; · ipureintro; exact ⟨hS.2.1, hcard⟩
        isplitl [Hat]; · iexact Hat
        iexact HpA
      iexact Hcs
    isplitl [HRel]
    · ihave HRel := (bsp (Ψ := fun d' => RelP (F := F) c d' ((Function.update K.cr d (j + 1)) d')) d (by rw [upd_not])) $$ HRel
      icases HRel with ⟨-, HB⟩
      iapply HB
      unfold RelP
      rw [upd_self]
      iapply (rel_late d (nb d c) hcard); iexact HpA
    isplitl [HSw]; · iexact HSw
    isplitl [HRv]; · iexact HRv
    isplitl [HGr]; · iexact HGr
    isplitl [HT]; · iexact HT
    isplitl [HA]; · iexact HA
    isplitl [HOu]; · iexact HOu
    iexact HW
  · obtain rfl : j = 93 := by omega
    iapply (Rounds.wp_wait_rest_token 𝒱₀ (ER (F := F)) (Rd PB) (c : Thread nD τ) none (κ := κ (credC d c))
        (wpE_semWait_eq 𝒱₀ (c : Thread nD τ) none Set.univ) (Set.mem_univ _) 93 (O := OO K c) (W := W) (R := 0) (m := 93) (T := T)
        (by rw [expect_cred])) $$ [Hc HO Hat]
    · isplitr
      · iapply (recs_cell PB κ ιs (.cred d) (by simp) c); iexact R
      isplitl [Hc]; · iexact Hc
      isplitl [HO]; · iexact HO
      isplitr
      · iapply hmw; iapply (recs_lev PB κ ιs); iexact R
      iexact Hat
    iintro ⟨HO, Hat, -, HpS⟩
    have hall : iprop(bigSep T (fun k => relTo (F := F) d (nb d c) (k + 3)) ∗ bigSep ((Rd PB).duties (credC d c) 0 \ T) (fun e => (Rd PB).payload (credC d c) 0 e))
        ⊢ (bigSep (Finset.range 94) (fun k => relTo (F := F) d (nb d c) (k + 3)) : sProp 𝕄) := by
      refine (Entails.of_eq ?_)
      rw [show (fun e => (Rd PB).payload (credC d c) 0 e) = (fun k => relTo (F := F) d (nb d c) (k + 3)) from
        funext fun e => payload_cred PB c d 0 e, duties_cred]
      conv_rhs => rw [← Finset.union_sdiff_of_subset hT.1]
      exact (bigSep_union Finset.disjoint_sdiff).symm
    ihave #HpA := hall $$ [HpS]
    · isplitr; · iexact HpT
      iexact HpS
    iapply H
    unfold StE
    isplitr; · iexact R
    isplitl [HO]; · iexists _; iexact HO
    isplitl [HCrB Hat Hcs]
    · iapply HCrB
      unfold CrP
      rw [if_neg hlast]
      isplitl [Hat]
      · iexact Hat
      iexact Hcs
    isplitl [HRel]
    · ihave HRel := (bsp (Ψ := fun d' => RelP (F := F) c d' ((Function.update K.cr d (93 + 1)) d')) d (by rw [upd_not])) $$ HRel
      icases HRel with ⟨-, HB⟩
      iapply HB
      unfold RelP
      rw [upd_self]
      iapply (rel_late d (nb d c) (S := Finset.range 94) (j := 93) (by rw [Finset.card_range])); iexact HpA
    isplitl [HSw]; · iexact HSw
    isplitl [HRv]; · iexact HRv
    isplitl [HGr]; · iexact HGr
    isplitl [HT]; · iexact HT
    isplitl [HA]; · iexact HA
    isplitl [HOu]; · iexact HOu
    iexact HW

theorem par_two (m : ℕ) : par (m + 1 + 1) = par m := by unfold par; congr 1; apply propext; omega
theorem half_two (m : ℕ) : (m + 1 + 1) / 2 = m / 2 + 1 := by omega

/-- Wait for the copy of micro `m` to be sent: half of the tile comes back. -/
theorem core_swait {α : Type} {Q : α → sProp 𝕄} {K : Ctr} {x : Bool → AccS} {o : OutS} (d : Bool) {m : ℕ} {ou : Bool} (hm : m < 96)
    (hK : K.sw d = m) (hsd : m < K.sd d)
    (hx : x (par (m / 12)) = .proc (m / 12) ou)
    (hs : stat (loc K d (m / 12)) (srcR (m % 12)) (m % 2) = some (lvS (m % 12), true))
    (hs' : stat (loc { K with sw := Function.update K.sw d (m + 1) } d (m / 12)) (srcR (m % 12)) (m % 2) = some (lvS (m % 12), false))
    (hne : ∀ (r' : Fin 4) (sub' : Fin 2), ¬ (r'.val = srcR (m % 12) ∧ sub'.val = m % 2) →
      stat (loc { K with sw := Function.update K.sw d (m + 1) } d (m / 12)) r' sub' = stat (loc K d (m / 12)) r' sub')
    {src dst : Memref sig .tc .vmem S512x512 .bf16} {sS : DmaSem sig}
    {hw : src.view.WordExact} {hw' : dst.view.WordExact}
    {k : PUnit → Prog (TpuEff nD τ sig (Elt F) Λ₀ .tc) α} (e1 : sS = sendS d (par m)) (e2 : dst.view.dmaCredit = NT)
    (H : StE PB κ ιs c xb wb { K with sw := Function.update K.sw d (m + 1) } x o ⊢ wpc c (k ⟨⟩) Q) :
    StE PB κ ιs c xb wb K x o ⊢ wpc c (.op (.waitDma2 sS src dst hw hw') k) Q := by
  subst e1
  unfold StE
  iintro ⟨#R, ⟨%W, HO⟩, HCr, HRel, HSw, HRv, HGr, HT, HA, HOu, HW⟩
  ihave HSw := (bsp (Ψ := fun d' => SwP (F := F) c d' ((Function.update K.sw d (m + 1)) d') (K.sd d')) d (by rw [upd_not])) $$ HSw
  icases HSw with ⟨HS, HSwB⟩
  unfold SwP
  rw [hK, upd_self]
  unfold sPos
  icases HS with ⟨⟨Hat, -⟩, Hp1, Hcs, Hts⟩
  ihave Hcs := (Entails.of_eq (bigSep_Ico_succ_bot hsd (fun n => cred (tallyAt (sendC d (par n) c) 0 NT)))) $$ Hcs
  icases Hcs with ⟨Hc, Hcs⟩
  have hmw : (levAts L lv : sProp 𝕄) ⊢ MayWait (c : Thread nD τ) (.dma (sendS d (par m))) 0 (OO K c) :=
    mayWait K c _ 0 (by omega) (fun d' => by simp only [lv, kd_send, lvK]; omega)
  iapply (Rounds.wp_wait_rest_token 𝒱₀ (ER (F := F)) (Rd PB) (c : Thread nD τ) none (κ := κ (sendC d (par m) c)) (k' := NT)
      (fun K' => (wpE_waitDma2_eq (src := src) (dst := dst) 𝒱₀ (c : Thread nD τ) none Set.univ K').trans (by rw [e2])) (Set.mem_univ _) 0 (O := OO K c) (W := W) (R := m / 2) (m := 0) (T := ∅)
      (by rw [expect_send PB c d hm, Nat.zero_add])) $$ [Hc HO Hat]
  · isplitr
    · iapply (recs_cell PB κ ιs (.send d (par m)) (by simp) c); iexact R
    isplitl [Hc]; · iexact Hc
    isplitl [HO]; · iexact HO
    isplitr
    · iapply hmw; iapply (recs_lev PB κ ιs); iexact R
    iexact Hat
  iintro ⟨HO, Hat, #Hrd, Hp⟩
  have hpay : (bigSep ((Rd PB).duties (sendC d (par m) c) (m / 2) \ ∅) (fun e => (Rd PB).payload (sendC d (par m) c) (m / 2) e) : sProp 𝕄) ⊢
      owns (c : Thread nD τ) (srcM d c m) fullShare.left (tileOf (VAL PB d c (m / 12) (lvS (m % 12))) (kk d c (srcR (m % 12)) (m % 2))) := by
    rw [Finset.sdiff_empty, duties_send PB c d hm, bigSep_singleton, payload_send]
    exact BI.Entails.refl _
  ihave Hp := hpay $$ Hp
  have hr : srcR (m % 12) < 4 := by unfold srcR; split <;> omega
  ihave HA := (acc_turn PB c hx d ⟨srcR (m % 12), hr⟩ ⟨m % 2, Nat.mod_lt _ (by omega)⟩
    (K' := { K with sw := Function.update K.sw d (m + 1) })
    (fun b' => by simp only [loc, upd_not])
    (fun b' hb' => by simp only [loc, upd_self, hK]; congr 1; omega)
    (fun r' s' h => hne r' s' (fun e => h ⟨Fin.ext e.1, Fin.ext e.2⟩))) $$ HA
  icases HA with ⟨Hb, HAB⟩
  unfold BkP
  dsimp only
  rw [hs, hs']
  iapply H
  unfold StE
  isplitr; · iexact R
  isplitl [HO]; · iexists _; iexact HO
  isplitl [HCr]; · iexact HCr
  isplitl [HRel]; · iexact HRel
  isplitl [HSwB Hp1 Hcs Hts Hat]
  · iapply HSwB
    isplitl [Hp1]; · iexact Hp1
    isplitl [Hat]
    · rw [par_two, half_two]
      isplitl; · iexact Hat
      iexact Hrd
    isplitl [Hcs]; · iexact Hcs
    iexact Hts
  isplitl [HRv]; · iexact HRv
  isplitl [HGr]; · iexact HGr
  isplitl [HT]; · iexact HT
  isplitl [HAB Hb Hp]
  · iapply HAB
    unfold BkS
    cases ou
    · dsimp only
      iapply (owns_split c (srcM d c m) _).2
      isplitl [Hp]; · iexact Hp
      iexact Hb
    · dsimp only
      iexact Hp
  isplitl [HOu]; · iexact HOu
  iexact HW

end

end Cert.KernelIdeal.Ring
-- ==== Proof.Lands.lean ====
module

public import proofs.«01_k».proof.Proof.Waits

/-! Waiting for a tile to land, and handing its place on: the credit granted after a micro. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable (PB : Dev nD → ℕ → AccT F) (κ : GSem nD τ sig → ℕ) (ιs : Key → ℕ) (c : Dev nD)
variable (xb : Dev nD → S4096x1024.Idx → Elt F .bf16) (wb : Dev nD → S1024x8192.Idx → Elt F .bf16)

/-- One slot of direction `d` changes, the others do not. -/
theorem tmp_turn {Φ Ψ : Bool × Bool → sProp 𝕄} (d s : Bool) (h1 : ∀ s', Ψ (!d, s') = Φ (!d, s')) (h2 : Ψ (d, !s) = Φ (d, !s)) :
    bigSep Finset.univ Φ ⊢ iprop(Φ (d, s) ∗ (Ψ (d, s) -∗ bigSep Finset.univ Ψ)) :=
  bigSep_univ_update (d, s) (fun p hp => by
    obtain ⟨d', s'⟩ := p
    by_cases hd : d' = d
    · subst hd
      obtain rfl : s' = !s := by
        by_contra h; exact hp (by rw [show s' = s by revert h; cases s <;> cases s' <;> decide])
      exact h2
    · rw [show d' = !d by revert hd; cases d <;> cases d' <;> decide]; exact h1 s')

/-- The wait on a recv cell: what has landed is handed over. -/
theorem rwait_raw {α : Type} {Q : α → sProp 𝕄} {K : Ctr} (d : Bool) {r : ℕ} (hr : r < 96) (hK : K.rv d = r)
    (hl : ∀ d', (K.sd d' < 96 → r < K.sd d') ∧ (K.gr d' < 94 → r ≤ K.gr d'))
    {src dst : Memref sig .tc .vmem S512x512 .bf16} {sS : DmaSem sig}
    {hw : src.view.WordExact} {hw' : dst.view.WordExact}
    {k : PUnit → Prog (TpuEff nD τ sig (Elt F) Λ₀ .tc) α} (e1 : sS = recvS d (par r)) (e2 : dst.view.dmaCredit = NT) :
    iprop(recs PB κ ιs ∗ (∃ W, owes (c : Thread nD τ) (OO K c) W) ∗ bigSep (Finset.univ : Finset Bool) (fun d => RvP (F := F) c d (K.rv d))) ⊢
      iprop((((∃ W, owes (c : Thread nD τ) (OO K c) W) ∗
          bigSep (Finset.univ : Finset Bool) (fun d' => RvP (F := F) c d' ((Function.update K.rv d (r + 1)) d')) ∗
          rcvPay PB d c r) -∗ wpc c (k ⟨⟩) Q) -∗ wpc c (.op (.waitDma2 sS src dst hw hw') k) Q) := by
  subst e1
  iintro ⟨#R, ⟨%W, HO⟩, HRv⟩ Hk
  ihave HRv := (bsp (Ψ := fun d' => RvP (F := F) c d' ((Function.update K.rv d (r + 1)) d')) d (by rw [upd_not])) $$ HRv
  icases HRv with ⟨HS, HB⟩
  unfold RvP
  rw [hK, upd_self]
  unfold rPos
  icases HS with ⟨⟨Hat, -⟩, Hp1, Hcs⟩
  ihave Hcs := (Entails.of_eq (bigSep_Ico_succ_bot hr (fun n => cred (tallyAt (recvC d (par n) c) n NT)))) $$ Hcs
  icases Hcs with ⟨Hc, Hcs⟩
  have hmw : (levAts L lv : sProp 𝕄) ⊢ MayWait (c : Thread nD τ) (.dma (recvS d (par r))) r (OO K c) :=
    mayWait K c _ r (by omega) (fun d' => by
      have := hl d'
      simp only [lv, kd_recv, lvK]; omega)
  iapply (Rounds.wp_wait_rest_token 𝒱₀ (ER (F := F)) (Rd PB) (c : Thread nD τ) none (κ := κ (recvC d (par r) c)) (k' := NT)
      (fun K' => (wpE_waitDma2_eq (src := src) (dst := dst) 𝒱₀ (c : Thread nD τ) none Set.univ K').trans (by rw [e2])) (Set.mem_univ _) r (O := OO K c) (W := W) (R := r / 2) (m := 0) (T := ∅)
      (by rw [expect_recv PB c d hr, Nat.zero_add])) $$ [Hc HO Hat]
  · isplitr
    · iapply (recs_cell PB κ ιs (.recv d (par r)) (by simp) c); iexact R
    isplitl [Hc]; · iexact Hc
    isplitl [HO]; · iexact HO
    isplitr
    · iapply hmw; iapply (recs_lev PB κ ιs); iexact R
    iexact Hat
  iintro ⟨HO, Hat, #Hrd, Hp⟩
  have hpay : (bigSep ((Rd PB).duties (recvC d (par r) c) (r / 2) \ ∅) (fun e => (Rd PB).payload (recvC d (par r) c) (r / 2) e) : sProp 𝕄) ⊢
      rcvPay PB d c r := by
    rw [Finset.sdiff_empty, duties_recv PB c d hr, bigSep_singleton, payload_recv]
  ihave Hp := hpay $$ Hp
  iapply Hk
  isplitl [HO]; · iexists _; iexact HO
  isplitl [HB Hp1 Hcs Hat]
  · iapply HB
    isplitl [Hp1]; · iexact Hp1
    isplitl [Hat]
    · rw [par_two, half_two]
      isplitl; · iexact Hat
      iexact Hrd
    iexact Hcs
  iexact Hp

theorem par_succ (r : ℕ) : par (r + 1) = !par r := by
  unfold par; rw [← decide_not]; congr 1; apply propext; omega
theorem nextm_self (r : ℕ) : nextm r (par r) = r := by unfold nextm; rw [if_pos rfl]
theorem nextm_other (r : ℕ) : nextm r (!par r) = r + 1 := by unfold nextm; rw [if_neg (by cases par r <;> decide)]
theorem nextm_self' (r : ℕ) : nextm (r + 1) (par r) = r + 2 := by unfold nextm; rw [if_neg (by rw [par_succ]; cases par r <;> decide)]
theorem nextm_other' (r : ℕ) : nextm (r + 1) (!par r) = r + 1 := by unfold nextm; rw [if_pos (par_succ r)]

theorem tmp_rv_other (d : Bool) (r g : ℕ) : TmpP PB c d (!par r) (r + 1) r g = TmpP PB c d (!par r) r r g := by
  unfold TmpP
  rw [nextm_other, nextm_other']
  split
  · rfl
  · rw [if_neg (by rintro ⟨-, h, -⟩; revert h; cases par r <;> decide), if_neg (by omega)]

theorem tmp_rv_self (d : Bool) {r g : ℕ} (hg : g ≤ r) (hr : 6 ≤ r % 12) : TmpP PB c d (par r) (r + 1) r g = TmpP PB c d (par r) r r g := by
  unfold TmpP
  rw [nextm_self, nextm_self', if_neg (by omega), if_neg (by omega), if_neg (by omega), if_neg (by omega)]

theorem rcvPay_slot (d : Bool) {r : ℕ} (h6 : r % 12 < 6) : rcvPay PB d c r ⊢ TmpP PB c d (par r) (r + 1) r r := by
  unfold TmpP rcvPay
  rw [if_pos h6, nextm_self', if_neg (fun h => absurd h.1 (Nat.lt_irrefl _)), if_pos ⟨rfl, rfl, h6⟩]

theorem rcvPay_tile (d : Bool) {r : ℕ} (h6 : 6 ≤ r % 12) {t : Tl} (ht : t = (d, ⟨dstR (r % 12), by unfold dstR; omega⟩, ⟨r % 2, Nat.mod_lt _ (by omega)⟩)) :
    rcvPay PB d c r ⊢ BkS PB c (r / 12) false t (some (4, false)) := by
  subst ht
  unfold BkS VAL rcvPay
  rw [if_neg (by omega)]
  dsimp only
  rw [if_pos rfl]

/-- A tile of the reduction has landed in its slot. -/
theorem core_rwaitS {α : Type} {Q : α → sProp 𝕄} {K : Ctr} {x : Bool → AccS} {o : OutS} (d : Bool) {r : ℕ} (hr : r < 96) (hK : K.rv d = r)
    (had : K.ad d = r) (hgr : K.gr d = r) (h6 : r % 12 < 6)
    (hl : ∀ d', (K.sd d' < 96 → r < K.sd d') ∧ (K.gr d' < 94 → r ≤ K.gr d'))
    (hne : ∀ (r' : Fin 4) (sub' : Fin 2),
      stat (loc { K with rv := Function.update K.rv d (r + 1) } d (r / 12)) r' sub' = stat (loc K d (r / 12)) r' sub')
    {src dst : Memref sig .tc .vmem S512x512 .bf16} {sS : DmaSem sig}
    {hw : src.view.WordExact} {hw' : dst.view.WordExact}
    {k : PUnit → Prog (TpuEff nD τ sig (Elt F) Λ₀ .tc) α} (e1 : sS = recvS d (par r)) (e2 : dst.view.dmaCredit = NT)
    (H : StE PB κ ιs c xb wb { K with rv := Function.update K.rv d (r + 1) } x o ⊢ wpc c (k ⟨⟩) Q) :
    StE PB κ ιs c xb wb K x o ⊢ wpc c (.op (.waitDma2 sS src dst hw hw') k) Q := by
  unfold StE
  iintro ⟨#R, HO, HCr, HRel, HSw, HRv, HGr, HT, HA, HOu, HW⟩
  iapply (rwait_raw PB κ ιs c d hr hK hl e1 e2) $$ [HO HRv]
  · isplitr; · iexact R
    isplitl [HO]; · iexact HO
    iexact HRv
  iintro ⟨HO, HRv, Hp⟩
  iapply H
  unfold StE
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT Hp]
  · ihave HT := (tmp_turn (Ψ := fun p => TmpP PB c p.1 p.2 ((Function.update K.rv d (r + 1)) p.1) (K.ad p.1) (K.gr p.1)) d (par r)
      (fun s' => by dsimp only; rw [upd_not]) (by dsimp only; rw [upd_self, had, hK]; exact tmp_rv_other PB c d r _)) $$ HT
    icases HT with ⟨-, HB⟩
    iapply HB
    dsimp only
    rw [upd_self, had, hgr]
    iapply (rcvPay_slot PB c d h6); iexact Hp
  isplitl [HA]
  · rw [acc_same PB c (r / 12) d (fun b' => by simp only [loc, upd_not])
      (fun b' hb' => by simp only [loc, upd_self, hK]; congr 1; omega) hne]
    iexact HA
  isplitl [HOu]; · iexact HOu
  iexact HW

/-- A complete tile has landed in its place. -/
theorem core_rwaitG {α : Type} {Q : α → sProp 𝕄} {K : Ctr} {x : Bool → AccS} {o : OutS} (d : Bool) {r : ℕ} (hr : r < 96) (hK : K.rv d = r)
    (had : K.ad d = r) (hgr : K.gr d ≤ r) (h6 : 6 ≤ r % 12)
    (hl : ∀ d', (K.sd d' < 96 → r < K.sd d') ∧ (K.gr d' < 94 → r ≤ K.gr d'))
    (hx : x (par (r / 12)) = .proc (r / 12) false)
    (hs' : stat (loc { K with rv := Function.update K.rv d (r + 1) } d (r / 12)) (dstR (r % 12)) (r % 2) = some (4, false))
    (hne : ∀ (r' : Fin 4) (sub' : Fin 2), ¬ (r'.val = dstR (r % 12) ∧ sub'.val = r % 2) →
      stat (loc { K with rv := Function.update K.rv d (r + 1) } d (r / 12)) r' sub' = stat (loc K d (r / 12)) r' sub')
    {src dst : Memref sig .tc .vmem S512x512 .bf16} {sS : DmaSem sig}
    {hw : src.view.WordExact} {hw' : dst.view.WordExact}
    {k : PUnit → Prog (TpuEff nD τ sig (Elt F) Λ₀ .tc) α} (e1 : sS = recvS d (par r)) (e2 : dst.view.dmaCredit = NT)
    (H : StE PB κ ιs c xb wb { K with rv := Function.update K.rv d (r + 1) } x o ⊢ wpc c (k ⟨⟩) Q) :
    StE PB κ ιs c xb wb K x o ⊢ wpc c (.op (.waitDma2 sS src dst hw hw') k) Q := by
  unfold StE
  iintro ⟨#R, HO, HCr, HRel, HSw, HRv, HGr, HT, HA, HOu, HW⟩
  iapply (rwait_raw PB κ ιs c d hr hK hl e1 e2) $$ [HO HRv]
  · isplitr; · iexact R
    isplitl [HO]; · iexact HO
    iexact HRv
  iintro ⟨HO, HRv, Hp⟩
  iapply H
  unfold StE
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT]
  · rw [show (fun p : Bool × Bool => TmpP PB c p.1 p.2 ((Function.update K.rv d (r + 1)) p.1) (K.ad p.1) (K.gr p.1)) =
        fun p : Bool × Bool => TmpP PB c p.1 p.2 (K.rv p.1) (K.ad p.1) (K.gr p.1) from funext fun p => by
      obtain ⟨d', s'⟩ := p
      dsimp only
      by_cases hd : d' = d
      · subst hd
        rw [upd_self, had, hK]
        by_cases hs : s' = par r
        · subst hs; exact tmp_rv_self PB c _ hgr h6
        · rw [show s' = !par r by revert hs; cases par r <;> cases s' <;> decide]; exact tmp_rv_other PB c _ r _
      · rw [show d' = !d by revert hd; cases d <;> cases d' <;> decide, upd_not]]
    iexact HT
  isplitl [HA Hp]
  · have hd4 : dstR (r % 12) < 4 := by unfold dstR; omega
    ihave HA := (acc_turn PB c hx d ⟨dstR (r % 12), hd4⟩ ⟨r % 2, Nat.mod_lt _ (by omega)⟩
      (K' := { K with rv := Function.update K.rv d (r + 1) })
      (fun b' => by simp only [loc, upd_not])
      (fun b' hb' => by simp only [loc, upd_self, hK]; congr 1; omega)
      (fun r' s' h => hne r' s' (fun e => h ⟨Fin.ext e.1, Fin.ext e.2⟩))) $$ HA
    icases HA with ⟨-, HAB⟩
    iapply HAB
    unfold BkP
    dsimp only
    rw [hs']
    iapply (rcvPay_tile PB c d h6 rfl); iexact Hp
  isplitl [HOu]; · iexact HOu
  iexact HW

end

end Cert.KernelIdeal.Ring
-- ==== Proof.Grant.lean ====
module

public import proofs.«01_k».proof.Proof.Lands

/-! Handing a landing place on: after micro `g` is consumed, the place of micro `g + 2` is lent to its
sender and the sender is told. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable (PB : Dev nD → ℕ → AccT F) (κ : GSem nD τ sig → ℕ) (ιs : Key → ℕ) (c : Dev nD)
variable (xb : Dev nD → S4096x1024.Idx → Elt F .bf16) (wb : Dev nD → S1024x8192.Idx → Elt F .bf16)

/-- A tile-sized memref is not held twice. -/
theorem any_any_false (x : Dev nD) (M : Memref sig .tc .vmem S512x512 .bf16) :
    iprop(any x M ∗ any x M) ⊢ (False : sProp 𝕄) := by
  have hi : M.view.emb (fun a => ⟨0, by revert a; decide⟩) ∈ M.view.set := View.emb_mem_set _ _
  unfold any owns
  iintro ⟨⟨%X, %f, -, Hf⟩, ⟨%Y, %g, -, Hg⟩⟩
  iapply (pointsTo_overlap_false (ℓ := M.view.loc (x : Thread nD τ)) (I := M.view.set) (J := M.view.set) (q := fullShare) (f := f) (g := g) hi hi)
  isplitl [Hf] <;> iassumption

theorem Sl_false (k : Key) : iprop(Sl k ∗ Sl k) ⊢ (False : sProp 𝕄) := by
  obtain ⟨d, x, m⟩ := k
  rw [Sl_eq]
  exact any_any_false x _

theorem any_of_owns (x : Dev nD) (M : Memref sig .tc .vmem S512x512 .bf16) (X : TileT F) :
    (owns (Val := Elt F) (x : Thread nD τ) M fullShare X : sProp 𝕄) ⊢ any x M := by
  unfold any; iintro H; iexists X; iexact H

/-- The next place was reached when the micro before it landed. -/
theorem reach_next (d : Bool) (g : ℕ) : RvP (F := F) c d (g + 1) ⊢ (reached (ER (F := F)) (recvC d (par (g + 2)) c) ((g + 2) / 2) : sProp 𝕄) := by
  unfold RvP rPos
  iintro ⟨-, ⟨-, H⟩, -⟩
  iexact H

/-- A place that was released, and the place after it: what the sender is told. -/
theorem relTo_snoc (d : Bool) (g : ℕ) : iprop(relTo (F := F) d c (g + 2) ∗ released (ES (F := F)) (d, c, g + 2) 1 ∗
    reached (ER (F := F)) (recvC d (par (g + 2)) c) ((g + 2) / 2)) ⊢ relTo (F := F) d c (g + 3) := by
  unfold relTo
  refine BIBase.Entails.trans ?_ (Entails.of_eq (bigSep_range_succ (g + 2) (relF (F := F) d c)).symm)
  iintro ⟨H, Hr, Hc⟩
  isplitl [Hr Hc]
  · unfold relF
    isplitl [Hr]; · iexact Hr
    iexact Hc
  iexact H

/-- The grant itself, once the place is in hand. -/
theorem grant_raw {α : Type} {Q : α → sProp 𝕄} {K : Ctr} (d : Bool) {g : ℕ} (hg : g < 94) (hK : K.gr d = g) (hrv : K.rv d = g + 1)
    {x' : Dev nD} {sS : Sem sig} {hr : τ.routes (c : Thread nD τ) (x' : Thread nD τ) = true}
    {k : PUnit → Prog (TpuEff nD τ sig (Elt F) Λ₀ .tc) α} (e0 : x' = pv d c) (e1 : sS = credS d) :
    iprop(recs PB κ ιs ∗ (∃ W, owes (c : Thread nD τ) (OO K c) W) ∗ bigSep (Finset.univ : Finset Bool) (fun d => RvP (F := F) c d (K.rv d)) ∗
        bigSep (Finset.univ : Finset Bool) (fun d => GrP (F := F) c d (K.gr d)) ∗ any c (dstM d c (g + 2))) ⊢
      iprop((((∃ W, owes (c : Thread nD τ) (OO { K with gr := Function.update K.gr d (g + 1) } c) W) ∗
          bigSep (Finset.univ : Finset Bool) (fun d => RvP (F := F) c d (K.rv d)) ∗
          bigSep (Finset.univ : Finset Bool) (fun d' => GrP (F := F) c d' ((Function.update K.gr d (g + 1)) d'))) -∗ wpc c (k ⟨⟩) Q) -∗
        wpc c (.op (.semSignal (x' : Thread nD τ) sS 1) k) Q) := by
  subst e0 e1
  iintro ⟨#R, ⟨%W, HO⟩, HRv, HGr, HD⟩ Hk
  ihave HRv := (bsp (Ψ := fun d => RvP (F := F) c d (K.rv d)) d rfl) $$ HRv
  icases HRv with ⟨HR, HRB⟩
  rw [hrv]
  ihave HR := (persistent_entails_left (reach_next c d g)) $$ HR
  icases HR with ⟨HR, #Hrch⟩
  ihave HRv := HRB $$ HR
  ihave HGr := (bsp (Ψ := fun d' => GrP (F := F) c d' ((Function.update K.gr d (g + 1)) d')) d (by rw [upd_not])) $$ HGr
  icases HGr with ⟨HG, HGB⟩
  rw [hK, upd_self]
  unfold GrP
  icases HG with ⟨Htk, #Hr0, Hrd, #Hrel⟩
  ihave Htk := (Entails.of_eq (bigSep_Ico_succ_bot hg (fun k => dutyTok (ER (F := F)) (credC d (pv d c)) 0 k))) $$ Htk
  icases Htk with ⟨Ht, Htk⟩
  ihave Hrd := (Entails.of_eq (bigSep_Ico_succ_bot (show g + 2 < 96 by omega) (fun m => readerAt (ES (F := F)) (d, c, m) 0))) $$ Hrd
  icases Hrd with ⟨Hr, Hrd⟩
  ihave HD := (Entails.of_eq (Sl_eq d c (g + 2)).symm) $$ HD
  imod (slot_release (ES (F := F)) (Set.mem_univ (ιs (d, c, g + 2))) (Sl_false (d, c, g + 2)) 0) $$ [Hr HD] with ⟨-, #Hfree⟩
  · isplitr
    · iapply (recs_slot PB κ ιs d c (show g + 2 < 96 by omega)); iexact R
    isplitl [Hr]; · iexact Hr
    iexact HD
  ihave #Hall := (relTo_snoc c d g) $$ []
  · isplitr; · iexact Hrel
    isplitr; · iexact Hfree
    iexact Hrch
  iapply (Rounds.wp_signal 𝒱₀ (ER (F := F)) (Rd PB) (c : Thread nD τ) none (dst := (pv d c : Thread nD τ)) (sem := credS d) (r := 0) (d := g) (k' := 1)
      (κ := κ (credC d (pv d c))) (by rw [duties_cred]; exact Finset.mem_range.mpr hg) (amount_cred PB (pv d c) d _ _) g
      (OO { K with gr := Function.update K.gr d (g + 1) } c) (OO_grant K d c hK hg) (W := W) (hr := hr)) $$ [HO Ht]
  · isplitr
    · iapply (recs_cell PB κ ιs (.cred d) (by simp) (pv d c)); iexact R
    isplitl [HO]; · iexact HO
    isplitl [Ht]; · iexact Ht
    isplitr
    · rw [payload_cred, nb_pv]; iexact Hall
    iexact Hr0
  iintro HO
  iapply Hk
  isplitl [HO]; · iexists W; iexact HO
  isplitl [HRv]; · iexact HRv
  iapply HGB
  isplitl [Htk]; · iexact Htk
  isplitr; · iexact Hr0
  isplitl [Hrd]; · iexact Hrd
  iexact Hall

theorem par_add_two (g : ℕ) : par (g + 2) = par g := par_two g

theorem tmp_gr_other (d : Bool) (g : ℕ) : TmpP PB c d (!par g) (g + 1) (g + 1) (g + 1) = TmpP PB c d (!par g) (g + 1) (g + 1) g := by
  unfold TmpP
  rw [nextm_other']
  by_cases h : (g + 1) % 12 < 6
  · rw [if_pos ⟨by omega, h⟩, if_pos ⟨by omega, h⟩]
  · simp only [h, and_false, if_false]

theorem tmp_gr_self (d : Bool) {g : ℕ} (h6 : ¬ (g + 2) % 12 < 6) : TmpP PB c d (par g) (g + 1) (g + 1) (g + 1) = TmpP PB c d (par g) (g + 1) (g + 1) g := by
  unfold TmpP
  rw [nextm_self']; simp only [h6, and_false, if_false]

/-- The slot a credit lends is free to be lent. -/
theorem tmp_lend (d : Bool) (g : ℕ) : TmpP PB c d (par g) (g + 1) (g + 1) g ⊢ any (F := F) c (slotM d (par (g + 2))) := by
  unfold TmpP
  rw [nextm_self', if_neg (fun e => absurd e.1 (Nat.lt_irrefl _)), if_neg (by omega), par_add_two]

theorem tmp_lent (d : Bool) {g : ℕ} (h6 : (g + 2) % 12 < 6) : iprop(emp) ⊢ TmpP PB c d (par g) (g + 1) (g + 1) (g + 1) := by
  unfold TmpP
  rw [nextm_self', if_pos ⟨by omega, h6⟩]

/-- Grant a credit that lends a slot. -/
theorem core_grantS {α : Type} {Q : α → sProp 𝕄} {K : Ctr} {x : Bool → AccS} {o : OutS} (d : Bool) {g : ℕ} (hg : g < 94) (hK : K.gr d = g)
    (hrv : K.rv d = g + 1) (had : K.ad d = g + 1) (h6 : (g + 2) % 12 < 6)
    (hne : ∀ (r' : Fin 4) (sub' : Fin 2),
      stat (loc { K with gr := Function.update K.gr d (g + 1) } d (g / 12)) r' sub' = stat (loc K d (g / 12)) r' sub')
    {x' : Dev nD} {sS : Sem sig} {hr : τ.routes (c : Thread nD τ) (x' : Thread nD τ) = true}
    {k : PUnit → Prog (TpuEff nD τ sig (Elt F) Λ₀ .tc) α} (e0 : x' = pv d c) (e1 : sS = credS d)
    (H : StE PB κ ιs c xb wb { K with gr := Function.update K.gr d (g + 1) } x o ⊢ wpc c (k ⟨⟩) Q) :
    StE PB κ ιs c xb wb K x o ⊢ wpc c (.op (.semSignal (x' : Thread nD τ) sS 1) k) Q := by
  unfold StE
  iintro ⟨#R, HO, HCr, HRel, HSw, HRv, HGr, HT, HA, HOu, HW⟩
  ihave HT := (tmp_turn (Ψ := fun p => TmpP PB c p.1 p.2 (K.rv p.1) (K.ad p.1) ((Function.update K.gr d (g + 1)) p.1)) d (par g)
      (fun s' => by dsimp only; rw [upd_not]) (by dsimp only; rw [upd_self, had, hrv, hK]; exact tmp_gr_other PB c d g)) $$ HT
  dsimp only
  rw [upd_self, had, hrv, hK]
  icases HT with ⟨HD, HTB⟩
  ihave HD := (tmp_lend PB c d g) $$ HD
  ihave HT := HTB $$ []
  · iapply (tmp_lent PB c d h6); iempintro
  iapply (grant_raw PB κ ιs c d hg hK hrv (hr := hr) e0 e1) $$ [HO HRv HGr HD]
  · isplitr; · iexact R
    isplitl [HO]; · iexact HO
    isplitl [HRv]; · iexact HRv
    isplitl [HGr]; · iexact HGr
    iapply (Entails.of_eq (by unfold dstM; rw [if_pos h6])); iexact HD
  iintro ⟨HO, HRv, HGr⟩
  iapply H
  unfold StE
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT]; · iexact HT
  isplitl [HA]
  · rw [acc_same PB c (K := K) (K' := { K with gr := Function.update K.gr d (g + 1) }) (g / 12) d (fun b' => by simp only [loc, upd_not])
      (fun b' hb' => by simp only [loc, upd_self, hK]; congr 1; omega) hne]
    iexact HA
  isplitl [HOu]; · iexact HOu
  iexact HW

/-- Grant a credit that lends a tile of the accumulator. -/
theorem core_grantG {α : Type} {Q : α → sProp 𝕄} {K : Ctr} {x : Bool → AccS} {o : OutS} (d : Bool) {g h : ℕ} (hg : g < 94) (hK : K.gr d = g)
    (hrv : K.rv d = g + 1) (had : K.ad d = g + 1) (h6 : 6 ≤ (g + 2) % 12)
    (hx : x (par ((g + 2) / 12)) = .proc ((g + 2) / 12) false)
    (hs : stat (loc K d ((g + 2) / 12)) (dstR ((g + 2) % 12)) ((g + 2) % 2) = some (h, false))
    (hs' : stat (loc { K with gr := Function.update K.gr d (g + 1) } d ((g + 2) / 12)) (dstR ((g + 2) % 12)) ((g + 2) % 2) = none)
    (hne : ∀ (r' : Fin 4) (sub' : Fin 2), ¬ (r'.val = dstR ((g + 2) % 12) ∧ sub'.val = (g + 2) % 2) →
      stat (loc { K with gr := Function.update K.gr d (g + 1) } d ((g + 2) / 12)) r' sub' = stat (loc K d ((g + 2) / 12)) r' sub')
    {x' : Dev nD} {sS : Sem sig} {hr : τ.routes (c : Thread nD τ) (x' : Thread nD τ) = true}
    {k : PUnit → Prog (TpuEff nD τ sig (Elt F) Λ₀ .tc) α} (e0 : x' = pv d c) (e1 : sS = credS d)
    (H : StE PB κ ιs c xb wb { K with gr := Function.update K.gr d (g + 1) } x o ⊢ wpc c (k ⟨⟩) Q) :
    StE PB κ ιs c xb wb K x o ⊢ wpc c (.op (.semSignal (x' : Thread nD τ) sS 1) k) Q := by
  unfold StE
  iintro ⟨#R, HO, HCr, HRel, HSw, HRv, HGr, HT, HA, HOu, HW⟩
  have hd4 : dstR ((g + 2) % 12) < 4 := by unfold dstR; omega
  ihave HA := (acc_turn PB c hx d ⟨dstR ((g + 2) % 12), hd4⟩ ⟨(g + 2) % 2, Nat.mod_lt _ (by omega)⟩
    (K' := { K with gr := Function.update K.gr d (g + 1) })
    (fun b' => by simp only [loc, upd_not])
    (fun b' hb' => by simp only [loc, upd_self, hK]; congr 1; omega)
    (fun r' s' h => hne r' s' (fun e => h ⟨Fin.ext e.1, Fin.ext e.2⟩))) $$ HA
  icases HA with ⟨HD, HAB⟩
  unfold BkP
  dsimp only
  rw [hs, hs']
  unfold BkS
  dsimp only
  ihave HA := HAB $$ []
  · iempintro
  ihave HD := (any_of_owns c _ _) $$ HD
  iapply (grant_raw PB κ ιs c d hg hK hrv (hr := hr) e0 e1) $$ [HO HRv HGr HD]
  · isplitr; · iexact R
    isplitl [HO]; · iexact HO
    isplitl [HRv]; · iexact HRv
    isplitl [HGr]; · iexact HGr
    iapply (Entails.of_eq (by unfold dstM; rw [if_neg (by omega)])); iexact HD
  iintro ⟨HO, HRv, HGr⟩
  iapply H
  unfold StE
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT]
  · rw [show (fun p : Bool × Bool => TmpP PB c p.1 p.2 (K.rv p.1) (K.ad p.1) ((Function.update K.gr d (g + 1)) p.1)) =
        fun p : Bool × Bool => TmpP PB c p.1 p.2 (K.rv p.1) (K.ad p.1) (K.gr p.1) from funext fun p => by
      obtain ⟨d', s'⟩ := p
      dsimp only
      by_cases hd : d' = d
      · subst hd
        rw [upd_self, had, hrv, hK]
        by_cases hs : s' = par g
        · subst hs; exact tmp_gr_self PB c _ (by omega)
        · rw [show s' = !par g by revert hs; cases par g <;> cases s' <;> decide]; exact tmp_gr_other PB c _ g
      · rw [show d' = !d by revert hd; cases d <;> cases d' <;> decide, upd_not]]
    iexact HT
  isplitl [HA]
  · iexact HA
  isplitl [HOu]; · iexact HOu
  iexact HW

end

end Cert.KernelIdeal.Ring
-- ==== Proof.Access.lean ====
module

public import proofs.«01_k».proof.Proof.Grant
public import Idealize.ShloMosaic.Lib.Pipeline.Value

/-! Loads and stores against owned pieces: a tile of an accumulator, a landing slot, a part of a
whole memref. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable (c : Dev nD) {s : Shape} {e : EltTy}

/-- A load through exactly the piece owned. -/
theorem load_tile {α : Type} {Q : α → sProp 𝕄} {m : Memref sig .tc .vmem s e} {r : Rect s} {hr : ∀ a, r.stride a = 1} {q : PosShare TreeShare} {X : r.shape.Idx → Elt F e}
    {hl : m.view.LoadsAt r.toLoadRect} {k : (r.shape.Idx → Elt F e) → Prog (TpuEff nD τ sig (Elt F) Λ₀ .tc) α} :
    (owns (c : Thread nD τ) (m.slice r hr) q X : sProp 𝕄) ⊢
      iprop((owns (c : Thread nD τ) (m.slice r hr) q X -∗ wpc c (k X) Q) -∗ wpc c (Prog.op (.load m r.toLoadRect hl) k : Prog (TpuEff nD τ sig (Elt F) Λ₀ .tc) α) Q) := by
  unfold owns
  iintro ⟨%f, %hf, H⟩ Hk
  iapply (wp_load_rect 𝒱₀ (c : Thread nD τ) none Set.univ (m := m) (r := r) (S := (m.slice r hr).view.set) (q := q) (f := f) (Finset.Subset.refl _)) $$ H
  iintro H
  rw [show (m.access r).read (Elt F) f = X from hf]
  iapply Hk
  iexists f
  isplitr; · ipureintro; exact hf
  iexact H

/-- A store through exactly the piece owned. -/
theorem store_tile {α : Type} {Q : α → sProp 𝕄} {m : Memref sig .tc .vmem s e} {r : Rect s} {hr : ∀ a, r.stride a = 1} {X : r.shape.Idx → Elt F e}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} :
    (owns (c : Thread nD τ) (m.slice r hr) fullShare X : sProp 𝕄) ⊢
      iprop((owns (c : Thread nD τ) (m.slice r hr) fullShare w -∗ wpc c (k ⟨⟩) Q) -∗ wpc c (Prog.op (.store m r w Finset.univ hx hm) k : Prog (TpuEff nD τ sig (Elt F) Λ₀ .tc) α) Q) := by
  unfold owns
  iintro ⟨%f, %hf, H⟩ Hk
  iapply (wp_store 𝒱₀ (c : Thread nD τ) none Set.univ (m := m) (r := r) (w := w) (hx := hx) (hm := hm) (S := (m.slice r hr).view.set) (f := f) (Finset.Subset.refl _)) $$ H
  iintro H
  iapply Hk
  iexists ((m.access r).write (Elt F) f w Finset.univ)
  isplitr; · ipureintro; exact View.read_write_univ _ _
  iexact H

/-- A load of a part of what is owned. -/
theorem load_part {α : Type} {Q : α → sProp 𝕄} {m : Memref sig .tc .vmem s e} {r : Rect s} {q : PosShare TreeShare} {X : s.Idx → Elt F e}
    {hl : m.view.LoadsAt r.toLoadRect} {k : (r.shape.Idx → Elt F e) → Prog (TpuEff nD τ sig (Elt F) Λ₀ .tc) α} :
    (owns (c : Thread nD τ) m q X : sProp 𝕄) ⊢
      iprop((owns (c : Thread nD τ) m q X -∗ wpc c (k (fun j => X (r.emb j))) Q) -∗ wpc c (Prog.op (.load m r.toLoadRect hl) k : Prog (TpuEff nD τ sig (Elt F) Λ₀ .tc) α) Q) := by
  unfold owns
  iintro ⟨%f, %hf, H⟩ Hk
  iapply (wp_load_rect 𝒱₀ (c : Thread nD τ) none Set.univ (m := m) (r := r) (S := m.view.set) (q := q) (f := f) (m.view.set_slice_subset r)) $$ H
  iintro H
  rw [show (m.access r).read (Elt F) f = (fun j => X (r.emb j)) from by rw [← hf]; rfl]
  iapply Hk
  iexists f
  isplitr; · ipureintro; exact hf
  iexact H

/-- A store into a part of what is owned. -/
theorem store_part {α : Type} {Q : α → sProp 𝕄} {m : Memref sig .tc .vmem s e} {r : Rect s} {X : s.Idx → Elt F e}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} :
    (owns (c : Thread nD τ) m fullShare X : sProp 𝕄) ⊢
      iprop((∀ Y, ⌜(∀ j, Y (r.emb j) = w j) ∧ ∀ i, i ∉ r.set → Y i = X i⌝ -∗ owns (c : Thread nD τ) m fullShare Y -∗ wpc c (k ⟨⟩) Q) -∗
        wpc c (Prog.op (.store m r w Finset.univ hx hm) k : Prog (TpuEff nD τ sig (Elt F) Λ₀ .tc) α) Q) := by
  unfold owns
  iintro ⟨%f, %hf, H⟩ Hk
  iapply (wp_store 𝒱₀ (c : Thread nD τ) none Set.univ (m := m) (r := r) (w := w) (hx := hx) (hm := hm) (S := m.view.set) (f := f) (m.view.set_slice_subset r)) $$ H
  iintro H
  iapply Hk $$ %(m.view.read (Elt F) ((m.access r).write (Elt F) f w Finset.univ)) []
  · ipureintro
    refine ⟨fun j => View.read_slice_write_emb r f w (Finset.mem_univ j), fun i hi => ?_⟩
    rw [← hf]
    exact View.read_slice_write_of_not_mem r f w Finset.univ (by rwa [Rect.map_emb_univ])
  iexists ((m.access r).write (Elt F) f w Finset.univ)
  isplitr; · ipureintro; rfl
  iexact H

end

/-- A load of a landing slot: cast to two dimensions it is what the slot holds. -/
theorem load_slot {α : Type} {Q : α → sProp 𝕄} (c : Dev nD) {d s : Bool} {q : PosShare TreeShare} {X : TileT F}
    {hl : (tmpM d).view.LoadsAt (rectS s).toLoadRect} {k : ((rectS s).shape.Idx → Elt F .bf16) → Prog (TpuEff nD τ sig (Elt F) Λ₀ .tc) α} :
    (owns (c : Thread nD τ) (slotM d s) q X : sProp 𝕄) ⊢
      iprop((∀ v : S1x512x512.Idx → Elt F .bf16, ⌜shapeCast S512x512 v shapeCasts_S1x512x512_S512x512 = X⌝ -∗ owns (c : Thread nD τ) (slotM d s) q X -∗ wpc c (k v) Q) -∗
        wpc c (.op (.load (tmpM d) (rectS s).toLoadRect hl) k) Q) := by
  unfold owns
  iintro ⟨%f, %hf, H⟩ Hk
  iapply (wp_load_rect 𝒱₀ (c : Thread nD τ) none Set.univ (m := tmpM d) (r := rectS s) (S := (slotM d s).view.set) (q := q) (f := f)
    (Finset.Subset.antisymm_iff.mp (View.set_reshape (v := ((tmpM d).slice (rectS s) (fun _ => rfl)).view) (Shape.Squeezes.numel_eq squeezes_S1x512x512_S512x512))).2) $$ H
  iintro H
  iapply Hk $$ %(((tmpM d).access (rectS s)).read (Elt F) f) []
  · ipureintro; rw [← hf]; rfl
  iexists f
  isplitr; · ipureintro; exact hf
  iexact H

end Cert.KernelIdeal.Ring
-- ==== Proof.Add.lean ====
module

public import proofs.«01_k».proof.Proof.Access

/-! The addition of a landed tile to the accumulator's own. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable (PB : Dev nD → ℕ → AccT F) (κ : GSem nD τ sig → ℕ) (ιs : Key → ℕ) (c : Dev nD)
variable (xb : Dev nD → S4096x1024.Idx → Elt F .bf16) (wb : Dev nD → S1024x8192.Idx → Elt F .bf16)

theorem kk_recv (d : Bool) (s sub : ℕ) (hs : s < 3) (hsub : sub < 2) : kk d (pv d c) s sub = kk d c (s + 1) sub := by
  have : ∀ (d : Bool) (c : Dev nD) (s : Fin 3) (sub : Fin 2), kk d (pv d c) s sub = kk d c (s + 1) sub := by decide
  exact this d c ⟨s, hs⟩ ⟨sub, hsub⟩

/-- Where a tile's columns lie. -/
theorem emb_col (k : Fin 16) (j : S512x512.Idx) : (((rectK k).emb j) 1).val = 512 * k.val + (j 1).val := by
  show 512 * k.val + 1 * (j 1).val = _; omega

theorem owner_kk (d : Bool) (sub : Fin 2) : decide ((kk d c 3 sub).val / 2 % 2 = 1) = d ∧ owner d ((kk d c 3 sub).val / 4) = c := by
  revert d c sub; decide

/-- The tile reduced last is complete. -/
theorem tile_last (d : Bool) (b sub : ℕ) (hsub : sub < 2) : tileOf (RS PB d 3 c b) (kk d c 3 sub) = tileOf (FV PB b) (kk d c 3 sub) := by
  funext j
  obtain ⟨h1, h2⟩ := owner_kk c d ⟨sub, hsub⟩
  have hj : (j 1).val < 512 := (j 1).isLt
  unfold tileOf FV
  have e1 : (((rectK (kk d c 3 sub)).emb j) 1).val / 1024 % 2 = (kk d c 3 sub).val / 2 % 2 := by rw [emb_col]; omega
  have e2 : (((rectK (kk d c 3 sub)).emb j) 1).val / 2048 = (kk d c 3 sub).val / 4 := by rw [emb_col]; omega
  rw [e1, e2]
  dsimp only at h1 h2
  rw [h1, h2]

/-- What the addition stores. -/
theorem add_val (d : Bool) {r : ℕ} (h6 : r % 12 < 6) {v' : TileT F}
    (hv : v' = sent PB d (pv d c) r) :
    shapeCast S512x512 (addf (tileOf (VAL PB d c (r / 12) 0) (kk d c (r % 12 / 2 + 1) (r % 2))) v') shapeCasts_S512x512_S512x512 =
      tileOf (VAL PB d c (r / 12) (if r % 12 / 2 + 1 = 3 then 4 else r % 12 / 2 + 1)) (kk d c (r % 12 / 2 + 1) (r % 2)) := by
  rw [shapeCast_self, hv]
  unfold sent lvS srcR
  rw [if_pos h6, if_pos h6, kk_recv c d (r % 12 / 2) (r % 2) (by omega) (by omega)]
  have e0 : VAL PB d c (r / 12) 0 = PB c (r / 12) := by unfold VAL; rw [if_neg (by decide)]; rfl
  have e1 : VAL PB d (pv d c) (r / 12) (r % 12 / 2) = RS PB d (r % 12 / 2) (pv d c) (r / 12) := by unfold VAL; rw [if_neg (by omega)]
  rw [e0, e1]
  have e2 : addf (tileOf (PB c (r / 12)) (kk d c (r % 12 / 2 + 1) (r % 2))) (tileOf (RS PB d (r % 12 / 2) (pv d c) (r / 12)) (kk d c (r % 12 / 2 + 1) (r % 2))) =
      tileOf (RS PB d (r % 12 / 2 + 1) c (r / 12)) (kk d c (r % 12 / 2 + 1) (r % 2)) := rfl
  rw [e2]
  by_cases h3 : r % 12 / 2 + 1 = 3
  · rw [if_pos h3, h3]
    have e3 : VAL PB d c (r / 12) 4 = FV PB (r / 12) := by unfold VAL; rw [if_pos rfl]
    rw [e3]
    exact tile_last PB c d _ _ (by omega)
  · rw [if_neg h3]
    unfold VAL; rw [if_neg (by omega)]

/-- A tile of an accumulator read. -/
theorem load_blk {α : Type} {Q : α → sProp 𝕄} {a : Bool} {i : Fin 16} {q : PosShare TreeShare} {X : TileT F}
    {hl : (accM a).view.LoadsAt (rectK i).toLoadRect} {k : (S512x512.Idx → Elt F .bf16) → Prog (TpuEff nD τ sig (Elt F) Λ₀ .tc) α} :
    (owns (c : Thread nD τ) (blkM a i) q X : sProp 𝕄) ⊢
      iprop((owns (c : Thread nD τ) (blkM a i) q X -∗ wpc c (k X) Q) -∗ wpc c (Prog.op (.load (accM a) (rectK i).toLoadRect hl) k : Prog (TpuEff nD τ sig (Elt F) Λ₀ .tc) α) Q) :=
  load_tile c (m := accM a) (r := rectK i) (hr := fun _ => rfl)

/-- A tile of an accumulator written. -/
theorem store_blk {α : Type} {Q : α → sProp 𝕄} {a : Bool} {i : Fin 16} {X w : TileT F}
    {hx : ((accM a).access (rectK i)).Stores Finset.univ} {hm : (Finset.univ : Finset (rectK i).shape.Idx) = Finset.univ ∨ ∀ a, (rectK i).stride a = 1}
    {k : PUnit → Prog (TpuEff nD τ sig (Elt F) Λ₀ .tc) α} :
    (owns (c : Thread nD τ) (blkM a i) fullShare X : sProp 𝕄) ⊢
      iprop((owns (c : Thread nD τ) (blkM a i) fullShare w -∗ wpc c (k ⟨⟩) Q) -∗ wpc c (Prog.op (.store (accM a) (rectK i) w Finset.univ hx hm) k : Prog (TpuEff nD τ sig (Elt F) Λ₀ .tc) α) Q) :=
  store_tile c (m := accM a) (r := rectK i) (hr := fun _ => rfl)

/-- A tile held in full may be read. -/
theorem core_loadA {α : Type} {Q : α → sProp 𝕄} {K : Ctr} {x : Bool → AccS} {o : OutS} (d : Bool) {b h : ℕ} (r : Fin 4) (sub : Fin 2)
    (hx : x (par b) = .proc b false) (hs : stat (loc K d b) r sub = some (h, false))
    {m : Memref sig .tc .vmem S512x8192 .bf16} {off : Fin 2 → ℕ} {hi : ∀ a, off a + S512x512.size a ≤ S512x8192.size a}
    {hl : m.view.LoadsAt (Rect.unit (s := S512x8192) off S512x512.size hi).toLoadRect}
    {k : (S512x512.Idx → Elt F .bf16) → Prog (TpuEff nD τ sig (Elt F) Λ₀ .tc) α}
    (e1 : m = accM (par b)) (e2 : off = ![0, 512 * (kk d c r sub).val])
    (H : StE PB κ ιs c xb wb K x o ⊢ wpc c (k (tileOf (VAL PB d c b h) (kk d c r sub))) Q) :
    StE PB κ ιs c xb wb K x o ⊢ wpc c (Prog.op (.load m (Rect.unit (s := S512x8192) off S512x512.size hi).toLoadRect hl) k) Q := by
  subst e1 e2
  unfold StE
  iintro ⟨#R, HO, HCr, HRel, HSw, HRv, HGr, HT, HA, HOu, HW⟩
  ihave HA := (acc_turn PB c hx d r sub (K' := K) (fun _ => rfl) (fun _ _ => rfl) (fun _ _ _ => rfl)) $$ HA
  icases HA with ⟨Hb, HAB⟩
  unfold BkP
  dsimp only
  rw [hs]
  unfold BkS
  dsimp only
  iapply (load_blk c (k := k)) $$ Hb
  iintro Hb
  iapply H
  unfold StE
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT]; · iexact HT
  isplitl [HAB Hb]
  · iapply HAB; iexact Hb
  isplitl [HOu]; · iexact HOu
  iexact HW

theorem tmp_landed (d : Bool) {r : ℕ} (h6 : r % 12 < 6) :
    TmpP PB c d (par r) (r + 1) r r = owns (Val := Elt F) (c : Thread nD τ) (slotM d (par r)) fullShare (sent PB d (pv d c) r) := by
  unfold TmpP
  rw [nextm_self', if_neg (fun h => absurd h.1 (Nat.lt_irrefl _)), if_pos ⟨rfl, rfl, h6⟩]

theorem tmp_added (d : Bool) {r : ℕ} :
    TmpP PB c d (par r) (r + 1) (r + 1) r = any (F := F) c (slotM d (par r)) := by
  unfold TmpP
  rw [nextm_self', if_neg (fun h => absurd h.1 (Nat.lt_irrefl _)), if_neg (by omega)]

theorem tmp_ad_other (d : Bool) (r : ℕ) : TmpP PB c d (!par r) (r + 1) (r + 1) r = TmpP PB c d (!par r) (r + 1) r r := by
  unfold TmpP
  rw [nextm_other']
  split
  · rfl
  · rw [if_neg (by omega), if_neg (by rintro ⟨-, h, -⟩; revert h; cases par r <;> decide)]

/-- A tile that has landed may be read. -/
theorem core_loadT {α : Type} {Q : α → sProp 𝕄} {K : Ctr} {x : Bool → AccS} {o : OutS} (d : Bool) {r : ℕ}
    (hK : K.ad d = r) (hrv : K.rv d = r + 1) (hgr : K.gr d = r) (h6 : r % 12 < 6)
    {m : Memref sig .tc .vmem S2x512x512 .bf16} {off : Fin 3 → ℕ} {hi : ∀ a, off a + S1x512x512.size a ≤ S2x512x512.size a}
    {hl : m.view.LoadsAt (Rect.unit (s := S2x512x512) off S1x512x512.size hi).toLoadRect}
    {k : (S1x512x512.Idx → Elt F .bf16) → Prog (TpuEff nD τ sig (Elt F) Λ₀ .tc) α}
    (e1 : m = tmpM d) (e2 : off = ![(par r).toNat, 0, 0])
    (H : ∀ v : S1x512x512.Idx → Elt F .bf16, shapeCast S512x512 v shapeCasts_S1x512x512_S512x512 = sent PB d (pv d c) r →
      StE PB κ ιs c xb wb K x o ⊢ wpc c (k v) Q) :
    StE PB κ ιs c xb wb K x o ⊢ wpc c (Prog.op (.load m (Rect.unit (s := S2x512x512) off S1x512x512.size hi).toLoadRect hl) k) Q := by
  subst e1 e2
  unfold StE
  iintro ⟨#R, HO, HCr, HRel, HSw, HRv, HGr, HT, HA, HOu, HW⟩
  ihave HT := (tmp_turn (Ψ := fun p => TmpP PB c p.1 p.2 (K.rv p.1) (K.ad p.1) (K.gr p.1)) d (par r) (fun s' => rfl) rfl) $$ HT
  dsimp only
  rw [hK, hrv, hgr, tmp_landed PB c d h6]
  icases HT with ⟨Hb, HTB⟩
  iapply (load_slot c (k := k)) $$ Hb
  iintro %v %hv Hb
  iapply (H v hv)
  unfold StE
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HTB Hb]
  · iapply HTB; iexact Hb
  isplitl [HA]; · iexact HA
  isplitl [HOu]; · iexact HOu
  iexact HW

/-- The sum is stored. -/
theorem core_storeA {α : Type} {Q : α → sProp 𝕄} {K : Ctr} {x : Bool → AccS} {o : OutS} (d : Bool) {r h h' : ℕ}
    (hK : K.ad d = r) (hrv : K.rv d = r + 1) (hgr : K.gr d = r) (h6 : r % 12 < 6)
    (hx : x (par (r / 12)) = .proc (r / 12) false) (hs : stat (loc K d (r / 12)) (r % 12 / 2 + 1) (r % 2) = some (h, false))
    (hs' : stat (loc { K with ad := Function.update K.ad d (r + 1) } d (r / 12)) (r % 12 / 2 + 1) (r % 2) = some (h', false))
    (hne : ∀ (r' : Fin 4) (sub' : Fin 2), ¬ (r'.val = r % 12 / 2 + 1 ∧ sub'.val = r % 2) →
      stat (loc { K with ad := Function.update K.ad d (r + 1) } d (r / 12)) r' sub' = stat (loc K d (r / 12)) r' sub')
    {m : Memref sig .tc .vmem S512x8192 .bf16} {off : Fin 2 → ℕ} {hi : ∀ a, off a + S512x512.size a ≤ S512x8192.size a}
    {w : S512x512.Idx → Elt F .bf16} {hst : (m.access (Rect.unit (s := S512x8192) off S512x512.size hi)).Stores Finset.univ}
    {hm : (Finset.univ : Finset S512x512.Idx) = Finset.univ ∨ ∀ a, (Rect.unit (s := S512x8192) off S512x512.size hi).stride a = 1}
    {k : PUnit → Prog (TpuEff nD τ sig (Elt F) Λ₀ .tc) α}
    (e1 : m = accM (accOf r)) (e2 : off = ![0, 512 * (kk d c (r % 12 / 2 + 1) (r % 2)).val])
    (hw : w = tileOf (VAL PB d c (r / 12) h') (kk d c (r % 12 / 2 + 1) (r % 2)))
    (H : StE PB κ ιs c xb wb { K with ad := Function.update K.ad d (r + 1) } x o ⊢ wpc c (k ⟨⟩) Q) :
    StE PB κ ιs c xb wb K x o ⊢ wpc c (Prog.op (.store m (Rect.unit (s := S512x8192) off S512x512.size hi) w Finset.univ hst hm) k) Q := by
  subst e1 e2 hw
  unfold StE
  iintro ⟨#R, HO, HCr, HRel, HSw, HRv, HGr, HT, HA, HOu, HW⟩
  ihave HA := (acc_turn PB c hx d ⟨r % 12 / 2 + 1, by omega⟩ ⟨r % 2, Nat.mod_lt _ (by omega)⟩
    (K' := { K with ad := Function.update K.ad d (r + 1) })
    (fun b' => by simp only [loc, upd_not])
    (fun b' hb' => by simp only [loc, upd_self, hK]; congr 1; omega)
    (fun r' s' h => hne r' s' (fun e => h ⟨Fin.ext e.1, Fin.ext e.2⟩))) $$ HA
  icases HA with ⟨Hb, HAB⟩
  unfold BkP
  dsimp only
  rw [hs, hs']
  unfold BkS
  dsimp only
  iapply (store_blk c) $$ Hb
  iintro Hb
  iapply H
  unfold StE
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT]
  · ihave HT := (tmp_turn (Ψ := fun p => TmpP PB c p.1 p.2 (K.rv p.1) ((Function.update K.ad d (r + 1)) p.1) (K.gr p.1)) d (par r)
      (fun s' => by dsimp only; rw [upd_not]) (by dsimp only; rw [upd_self, hK, hrv, hgr]; exact tmp_ad_other PB c d r)) $$ HT
    dsimp only
    rw [upd_self, hK, hrv, hgr, tmp_landed PB c d h6, tmp_added]
    icases HT with ⟨Hb, HTB⟩
    iapply HTB
    iapply (any_of_owns c _ _); iexact Hb
  isplitl [HAB Hb]
  · iapply HAB; iexact Hb
  isplitl [HOu]; · iexact HOu
  iexact HW

end

end Cert.KernelIdeal.Ring
-- ==== Proof.Steps.lean ====
module

public import proofs.«01_k».proof.Proof.Add

/-! The operations of one micro, as steps of the counters `ctr n q`. A micro is written
`12 * b + j`: the `j`-th copy for row block `b`. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

theorem par_add (b j : ℕ) : par (12 * b + j) = par j := by unfold par; congr 1; apply propext; omega

/-! ### The counters -/

theorem up_sd (d : Bool) (n : ℕ) : { ctr n (4 + d.toNat) with sd := Function.update (ctr n (4 + d.toNat)).sd d (n + 1) } = ctr n (5 + d.toNat) := by
  cases d <;> (unfold ctr; ext d' <;> cases d' <;> simp [one])

theorem up_cr (d : Bool) {n : ℕ} (h : 2 ≤ n) : { ctr n (0 + d.toNat) with cr := Function.update (ctr n (0 + d.toNat)).cr d (n - 2 + 1) } = ctr n (1 + d.toNat) := by
  cases d <;> (unfold ctr; ext d' <;> cases d' <;> simp [one] <;> omega)

theorem up_sw (d : Bool) {n : ℕ} (h : 2 ≤ n) : { ctr n (2 + d.toNat) with sw := Function.update (ctr n (2 + d.toNat)).sw d (n - 2 + 1) } = ctr n (3 + d.toNat) := by
  cases d <;> (unfold ctr; ext d' <;> cases d' <;> simp [one] <;> omega)

theorem up_rv (d : Bool) {n : ℕ} (h : 1 ≤ n) : { ctr n (6 + d.toNat) with rv := Function.update (ctr n (6 + d.toNat)).rv d (n - 1 + 1) } = ctr n (7 + d.toNat) := by
  cases d <;> (unfold ctr; ext d' <;> cases d' <;> simp [one] <;> omega)

theorem up_ad (d : Bool) {n : ℕ} (h : 1 ≤ n) : { ctr n (8 + d.toNat) with ad := Function.update (ctr n (8 + d.toNat)).ad d (n - 1 + 1) } = ctr n (9 + d.toNat) := by
  cases d <;> (unfold ctr; ext d' <;> cases d' <;> simp [one] <;> omega)

theorem up_gr (d : Bool) {n : ℕ} (h : 1 ≤ n) (h' : n ≤ 94) :
    { ctr n (10 + d.toNat) with gr := Function.update (ctr n (10 + d.toNat)).gr d (n - 1 + 1) } = ctr n (11 + d.toNat) := by
  cases d <;> (unfold ctr; ext d' <;> cases d' <;> simp [one] <;> omega)

theorem loc_ctr (d : Bool) (n q b : ℕ) : loc (ctr n q) d b =
    ⟨min (n + one (5 + d.toNat ≤ q) - 12 * b) 12, min (n + one (3 + d.toNat ≤ q) - 2 - 12 * b) 12, min (n + one (7 + d.toNat ≤ q) - 1 - 12 * b) 12,
      min (n + one (9 + d.toNat ≤ q) - 1 - 12 * b) 12, min (min (n + one (11 + d.toNat ≤ q) - 1) 94 - 12 * b) 10⟩ := rfl

theorem lc_ext {a b c d e a' b' c' d' e' : ℕ} (h1 : a = a') (h2 : b = b') (h3 : c = c') (h4 : d = d') (h5 : e = e') :
    (⟨a, b, c, d, e⟩ : Lc) = ⟨a', b', c', d', e'⟩ := by subst h1 h2 h3 h4 h5; rfl

variable {b j : ℕ}

theorem loc_s0 (d : Bool) (hb : b < 8) (hj : j < 12) : loc (ctr (12 * b + j) (4 + d.toNat)) d b = ⟨j, j - 1, j - 1, j - 1, min (j - 1) 10⟩ := by
  rw [loc_ctr]; cases d <;> (apply lc_ext <;> simp [one] <;> omega)
theorem loc_s1 (d : Bool) (hb : b < 8) (hj : j < 12) : loc (ctr (12 * b + j) (5 + d.toNat)) d b = ⟨j + 1, j - 1, j - 1, j - 1, min (j - 1) 10⟩ := by
  rw [loc_ctr]; cases d <;> (apply lc_ext <;> simp [one] <;> omega)
theorem loc_w0 (d : Bool) (hb : b < 8) (hj : j < 12) (hn : 12 * b + j + 2 ≤ 95) :
    loc (ctr (12 * b + j + 2) (2 + d.toNat)) d b = ⟨min (j + 2) 12, j, min (j + 1) 12, min (j + 1) 12, min (j + 1) 10⟩ := by
  rw [loc_ctr]; cases d <;> (apply lc_ext <;> simp [one] <;> omega)
theorem loc_w1 (d : Bool) (hb : b < 8) (hj : j < 12) (hn : 12 * b + j + 2 ≤ 95) :
    loc (ctr (12 * b + j + 2) (3 + d.toNat)) d b = ⟨min (j + 2) 12, j + 1, min (j + 1) 12, min (j + 1) 12, min (j + 1) 10⟩ := by
  rw [loc_ctr]; cases d <;> (apply lc_ext <;> simp [one] <;> omega)
theorem loc_r0 (d : Bool) (hb : b < 8) (hj : j < 12) (hn : 12 * b + j + 1 ≤ 95) :
    loc (ctr (12 * b + j + 1) (6 + d.toNat)) d b = ⟨min (j + 2) 12, j, j, j, min j 10⟩ := by
  rw [loc_ctr]; cases d <;> (apply lc_ext <;> simp [one] <;> omega)
theorem loc_r1 (d : Bool) (hb : b < 8) (hj : j < 12) (hn : 12 * b + j + 1 ≤ 95) :
    loc (ctr (12 * b + j + 1) (7 + d.toNat)) d b = ⟨min (j + 2) 12, j, j + 1, j, min j 10⟩ := by
  rw [loc_ctr]; cases d <;> (apply lc_ext <;> simp [one] <;> omega)
theorem loc_a0 (d : Bool) (hb : b < 8) (hj : j < 12) (hn : 12 * b + j + 1 ≤ 95) :
    loc (ctr (12 * b + j + 1) (8 + d.toNat)) d b = ⟨min (j + 2) 12, j, j + 1, j, min j 10⟩ := by
  rw [loc_ctr]; cases d <;> (apply lc_ext <;> simp [one] <;> omega)
theorem loc_a1 (d : Bool) (hb : b < 8) (hj : j < 12) (hn : 12 * b + j + 1 ≤ 95) :
    loc (ctr (12 * b + j + 1) (9 + d.toNat)) d b = ⟨min (j + 2) 12, j, j + 1, j + 1, min j 10⟩ := by
  rw [loc_ctr]; cases d <;> (apply lc_ext <;> simp [one] <;> omega)
theorem loc_g0 (d : Bool) (hb : b < 8) (hj : j < 12) (hn : 12 * b + j + 1 ≤ 94) :
    loc (ctr (12 * b + j + 1) (10 + d.toNat)) d b = ⟨min (j + 2) 12, j, j + 1, j + 1, min j 10⟩ := by
  rw [loc_ctr]; cases d <;> (apply lc_ext <;> simp [one] <;> omega)
theorem loc_g1 (d : Bool) (hb : b < 8) (hj : j < 12) (hn : 12 * b + j + 1 ≤ 94) :
    loc (ctr (12 * b + j + 1) (11 + d.toNat)) d b = ⟨min (j + 2) 12, j, j + 1, j + 1, min (j + 1) 10⟩ := by
  rw [loc_ctr]; cases d <;> (apply lc_ext <;> simp [one] <;> omega)

/-! ### The tiles' states at each step -/

theorem st_s (hj : j < 12) : stat ⟨j, j - 1, j - 1, j - 1, min (j - 1) 10⟩ (srcR j) (j % 2) = some (lvS j, false) ∧
    stat ⟨j + 1, j - 1, j - 1, j - 1, min (j - 1) 10⟩ (srcR j) (j % 2) = some (lvS j, true) ∧
    ∀ (r' : Fin 4) (sub' : Fin 2), ¬ (r'.val = srcR j ∧ sub'.val = j % 2) →
      stat ⟨j + 1, j - 1, j - 1, j - 1, min (j - 1) 10⟩ r' sub' = stat ⟨j, j - 1, j - 1, j - 1, min (j - 1) 10⟩ r' sub' := by
  have : ∀ j : Fin 12, stat ⟨j, j.val - 1, j.val - 1, j.val - 1, min (j.val - 1) 10⟩ (srcR j) (j.val % 2) = some (lvS j, false) ∧
    stat ⟨j + 1, j.val - 1, j.val - 1, j.val - 1, min (j.val - 1) 10⟩ (srcR j) (j.val % 2) = some (lvS j, true) ∧
    ∀ (r' : Fin 4) (sub' : Fin 2), ¬ (r'.val = srcR j ∧ sub'.val = j.val % 2) →
      stat ⟨j + 1, j.val - 1, j.val - 1, j.val - 1, min (j.val - 1) 10⟩ r' sub' = stat ⟨j, j.val - 1, j.val - 1, j.val - 1, min (j.val - 1) 10⟩ r' sub' := by decide
  exact this ⟨j, hj⟩

theorem st_w (hj : j < 12) : stat ⟨min (j + 2) 12, j, min (j + 1) 12, min (j + 1) 12, min (j + 1) 10⟩ (srcR j) (j % 2) = some (lvS j, true) ∧
    stat ⟨min (j + 2) 12, j + 1, min (j + 1) 12, min (j + 1) 12, min (j + 1) 10⟩ (srcR j) (j % 2) = some (lvS j, false) ∧
    ∀ (r' : Fin 4) (sub' : Fin 2), ¬ (r'.val = srcR j ∧ sub'.val = j % 2) →
      stat ⟨min (j + 2) 12, j + 1, min (j + 1) 12, min (j + 1) 12, min (j + 1) 10⟩ r' sub' = stat ⟨min (j + 2) 12, j, min (j + 1) 12, min (j + 1) 12, min (j + 1) 10⟩ r' sub' := by
  have : ∀ j : Fin 12, stat ⟨min (j.val + 2) 12, j, min (j.val + 1) 12, min (j.val + 1) 12, min (j.val + 1) 10⟩ (srcR j) (j.val % 2) = some (lvS j, true) ∧
    stat ⟨min (j.val + 2) 12, j.val + 1, min (j.val + 1) 12, min (j.val + 1) 12, min (j.val + 1) 10⟩ (srcR j) (j.val % 2) = some (lvS j, false) ∧
    ∀ (r' : Fin 4) (sub' : Fin 2), ¬ (r'.val = srcR j ∧ sub'.val = j.val % 2) →
      stat ⟨min (j.val + 2) 12, j.val + 1, min (j.val + 1) 12, min (j.val + 1) 12, min (j.val + 1) 10⟩ r' sub' = stat ⟨min (j.val + 2) 12, j, min (j.val + 1) 12, min (j.val + 1) 12, min (j.val + 1) 10⟩ r' sub' := by decide
  exact this ⟨j, hj⟩

theorem st_rS (hj : j < 6) : ∀ (r' : Fin 4) (sub' : Fin 2), stat ⟨min (j + 2) 12, j, j + 1, j, min j 10⟩ r' sub' = stat ⟨min (j + 2) 12, j, j, j, min j 10⟩ r' sub' := by
  have : ∀ (j : Fin 6) (r' : Fin 4) (sub' : Fin 2), stat ⟨min (j.val + 2) 12, j, j + 1, j, min j.val 10⟩ r' sub' = stat ⟨min (j.val + 2) 12, j, j, j, min j.val 10⟩ r' sub' := by decide
  exact this ⟨j, hj⟩

theorem st_rG (hj : j < 12) (h6 : 6 ≤ j) : stat ⟨min (j + 2) 12, j, j + 1, j, min j 10⟩ (dstR j) (j % 2) = some (4, false) ∧
    ∀ (r' : Fin 4) (sub' : Fin 2), ¬ (r'.val = dstR j ∧ sub'.val = j % 2) → stat ⟨min (j + 2) 12, j, j + 1, j, min j 10⟩ r' sub' = stat ⟨min (j + 2) 12, j, j, j, min j 10⟩ r' sub' := by
  have : ∀ (j : Fin 12), 6 ≤ j.val → stat ⟨min (j.val + 2) 12, j, j + 1, j, min j.val 10⟩ (dstR j) (j.val % 2) = some (4, false) ∧
    ∀ (r' : Fin 4) (sub' : Fin 2), ¬ (r'.val = dstR j ∧ sub'.val = j.val % 2) → stat ⟨min (j.val + 2) 12, j, j + 1, j, min j.val 10⟩ r' sub' = stat ⟨min (j.val + 2) 12, j, j, j, min j.val 10⟩ r' sub' := by decide
  exact this ⟨j, hj⟩ h6

theorem st_a (hj : j < 6) : stat ⟨min (j + 2) 12, j, j + 1, j, min j 10⟩ (j / 2 + 1) (j % 2) = some (0, false) ∧
    stat ⟨min (j + 2) 12, j, j + 1, j + 1, min j 10⟩ (j / 2 + 1) (j % 2) = some (if j / 2 + 1 = 3 then 4 else j / 2 + 1, false) ∧
    ∀ (r' : Fin 4) (sub' : Fin 2), ¬ (r'.val = j / 2 + 1 ∧ sub'.val = j % 2) →
      stat ⟨min (j + 2) 12, j, j + 1, j + 1, min j 10⟩ r' sub' = stat ⟨min (j + 2) 12, j, j + 1, j, min j 10⟩ r' sub' := by
  have : ∀ j : Fin 6, stat ⟨min (j.val + 2) 12, j, j.val + 1, j, min j.val 10⟩ (j.val / 2 + 1) (j.val % 2) = some (0, false) ∧
    stat ⟨min (j.val + 2) 12, j, j.val + 1, j.val + 1, min j.val 10⟩ (j.val / 2 + 1) (j.val % 2) = some (if j.val / 2 + 1 = 3 then 4 else j.val / 2 + 1, false) ∧
    ∀ (r' : Fin 4) (sub' : Fin 2), ¬ (r'.val = j.val / 2 + 1 ∧ sub'.val = j.val % 2) →
      stat ⟨min (j.val + 2) 12, j, j.val + 1, j.val + 1, min j.val 10⟩ r' sub' = stat ⟨min (j.val + 2) 12, j, j.val + 1, j, min j.val 10⟩ r' sub' := by decide
  exact this ⟨j, hj⟩

theorem st_gS (hj : j < 12) (h6 : j < 4 ∨ 10 ≤ j) : ∀ (r' : Fin 4) (sub' : Fin 2),
    stat ⟨min (j + 2) 12, j, j + 1, j + 1, min (j + 1) 10⟩ r' sub' = stat ⟨min (j + 2) 12, j, j + 1, j + 1, min j 10⟩ r' sub' := by
  have : ∀ (j : Fin 12), (j.val < 4 ∨ 10 ≤ j.val) → ∀ (r' : Fin 4) (sub' : Fin 2),
    stat ⟨min (j.val + 2) 12, j, j + 1, j + 1, min (j.val + 1) 10⟩ r' sub' = stat ⟨min (j.val + 2) 12, j, j + 1, j + 1, min j.val 10⟩ r' sub' := by decide
  exact this ⟨j, hj⟩ h6

theorem st_gG (hj : j < 10) (h6 : 4 ≤ j) : (∃ h, stat ⟨min (j + 2) 12, j, j + 1, j + 1, min j 10⟩ (dstR (j + 2)) (j % 2) = some (h, false)) ∧
    stat ⟨min (j + 2) 12, j, j + 1, j + 1, min (j + 1) 10⟩ (dstR (j + 2)) (j % 2) = none ∧
    ∀ (r' : Fin 4) (sub' : Fin 2), ¬ (r'.val = dstR (j + 2) ∧ sub'.val = j % 2) →
      stat ⟨min (j + 2) 12, j, j + 1, j + 1, min (j + 1) 10⟩ r' sub' = stat ⟨min (j + 2) 12, j, j + 1, j + 1, min j 10⟩ r' sub' := by
  have h1 : ∀ j : Fin 10, 4 ≤ j.val → stat ⟨min (j.val + 2) 12, j, j + 1, j + 1, min j.val 10⟩ (dstR (j.val + 2)) (j.val % 2) = some (if dstR (j.val + 2) = 0 then 0 else dstR (j.val + 2), false) := by decide
  have h2 : ∀ j : Fin 10, 4 ≤ j.val → stat ⟨min (j.val + 2) 12, j, j + 1, j + 1, min (j.val + 1) 10⟩ (dstR (j.val + 2)) (j.val % 2) = none ∧
    ∀ (r' : Fin 4) (sub' : Fin 2), ¬ (r'.val = dstR (j.val + 2) ∧ sub'.val = j.val % 2) →
      stat ⟨min (j.val + 2) 12, j, j + 1, j + 1, min (j.val + 1) 10⟩ r' sub' = stat ⟨min (j.val + 2) 12, j, j + 1, j + 1, min j.val 10⟩ r' sub' := by decide
  exact ⟨⟨_, h1 ⟨j, hj⟩ h6⟩, h2 ⟨j, hj⟩ h6⟩

end

end Cert.KernelIdeal.Ring
-- ==== Proof.Micro.lean ====
module

public import proofs.«01_k».proof.Proof.Steps

/-! The operations of one micro, as rules on the whole state. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

theorem nb_le (b j : ℕ) (h : j < 12) : (12 * b + j) / 12 = b ∧ (12 * b + j) % 12 = j ∧ (12 * b + j) % 2 = j % 2 := by omega

/-- Wait for one credit. -/
theorem st_cred {α : Type} {Q : α → sProp 𝕄} {x : Bool → AccS} {o : OutS} {n q : ℕ} (d : Bool)
    {sS : Sem sig} {k : PUnit → Prog (TpuEff nD τ sig (Elt F) Λ₀ .tc) α} (e1 : sS = credS d)
    (H : StE PB κ ιs c xb wb (ctr n (1 + d.toNat)) x o ⊢ wpc c (k ⟨⟩) Q)
    (h2 : 2 ≤ n := by omega) (hn : n ≤ 95 := by omega) (hq : q = 0 + d.toNat := by rfl) :
    StE PB κ ιs c xb wb (ctr n q) x o ⊢ wpc c (.op (.semWait sS 1) k) Q := by
  subst hq
  rw [← up_cr d h2] at H
  exact core_cred PB κ ιs c xb wb d (by omega) (by cases d <;> simp [ctr, one])
    (fun d' => by constructor <;> cases d <;> cases d' <;> simp [ctr, one] <;> omega) e1 H

/-- Wait until the send of two micros ago has been read. -/
theorem st_swait {α : Type} {Q : α → sProp 𝕄} {x : Bool → AccS} {o : OutS} {n q : ℕ} (d : Bool) (b j : ℕ) {ou : Bool}
    (hx : x (par b) = .proc b ou)
    {src dst : Memref sig .tc .vmem S512x512 .bf16} {sS : DmaSem sig}
    {hw : src.view.WordExact} {hw' : dst.view.WordExact}
    {k : PUnit → Prog (TpuEff nD τ sig (Elt F) Λ₀ .tc) α} (e1 : sS = sendS d (par j)) (e2 : dst.view.dmaCredit = NT)
    (H : StE PB κ ιs c xb wb (ctr n (3 + d.toNat)) x o ⊢ wpc c (k ⟨⟩) Q)
    (hn : n = 12 * b + j + 2 := by omega) (hb : n ≤ 95 := by omega) (hj : j < 12 := by omega) (hq : q = 2 + d.toNat := by rfl) :
    StE PB κ ιs c xb wb (ctr n q) x o ⊢ wpc c (.op (.waitDma2 sS src dst hw hw') k) Q := by
  subst hq hn
  obtain ⟨h1, h2, h3⟩ := nb_le b j hj
  have up := up_sw (n := 12 * b + j + 2) d (by omega)
  obtain ⟨s1, s2, s3⟩ := st_w hj
  rw [← loc_w0 (b := b) d (by omega) hj hb] at s1 s3
  rw [← loc_w1 (b := b) d (by omega) hj hb, ← up] at s2 s3
  rw [← up] at H
  refine core_swait PB κ ιs c xb wb d (m := 12 * b + j) (ou := ou) (by omega) (by cases d <;> simp [ctr, one]) (by cases d <;> simp [ctr, one] <;> omega) ?_ ?_ ?_ ?_ ?_ e2 H
  · rw [h1]; exact hx
  · rw [h1, h2, h3]; exact s1
  · rw [h1, h2, h3]; exact s2
  · rw [h1, h2, h3]; exact s3
  · rw [par_add]; exact e1

/-- Start a copy into a landing slot. -/
theorem st_sendS {α : Type} {Q : α → sProp 𝕄} {x : Bool → AccS} {o : OutS} {n q : ℕ} (d : Bool) (b j : ℕ)
    (hx : x (par b) = .proc b false)
    {x' : Dev nD} {a : Memref sig .tc .vmem S512x8192 .bf16} {off : Fin 2 → ℕ} {hi : ∀ a, off a + S512x512.size a ≤ S512x8192.size a}
    {h1 : ∀ a, (Rect.unit (s := S512x8192) off S512x512.size hi).stride a = 1}
    {dst : Memref sig .tc .vmem S512x512 .bf16} {sS sR : DmaSem sig}
    {hsc : dst.view.ref.isScScratch = false} {hw : (a.slice (Rect.unit (s := S512x8192) off S512x512.size hi) h1).view.WordExact} {hw' : dst.view.WordExact}
    {hsem : DmaTarget.Typed .vmem (.dma sR : SemLoc sig) (.remote (Dev.tc x' : Thread nD τ) dst (.dma sS) hsc)}
    {k : PUnit → Prog (TpuEff nD τ sig (Elt F) Λ₀ .tc) α}
    (ea : a = accM (par b)) (e2 : off = ![0, 512 * (kk d c (srcR j) (j % 2)).val]) (e1 : x' = nb d c)
    (e3 : dst = slotM d (par j)) (e4 : sS = sendS d (par j)) (e5 : sR = recvS d (par j))
    (H : StE PB κ ιs c xb wb (ctr n (5 + d.toNat)) x o ⊢ wpc c (k ⟨⟩) Q)
    (hn : n = 12 * b + j := by omega) (hb : b < 8 := by omega) (hj : j < 6 := by omega) (hq : q = 4 + d.toNat := by rfl) :
    StE PB κ ιs c xb wb (ctr n q) x o ⊢
      wpc c (.op (.enqueueDma (a.slice (Rect.unit (s := S512x8192) off S512x512.size hi) h1 : Memref sig .tc .vmem S512x512 .bf16)
        (.remote (Dev.tc x' : Thread nD τ) dst (.dma sS) hsc) (.dma sR) hw hw' hsem) k) Q := by
  subst hq hn ea e2
  obtain ⟨i1, i2, i3⟩ := nb_le b j (by omega)
  have up := up_sd d (12 * b + j)
  obtain ⟨s1, s2, s3⟩ := st_s (j := j) (by omega)
  rw [← loc_s0 (b := b) d hb (by omega)] at s1 s3
  rw [← loc_s1 (b := b) d hb (by omega), ← up] at s2 s3
  rw [← up] at H
  refine core_send PB κ ιs c xb wb d (m := 12 * b + j) (by omega) (by cases d <;> simp [ctr, one]) (by cases d <;> simp [ctr, one] <;> omega)
    (by cases d <;> simp [ctr, one] <;> omega) ?_ ?_ ?_ ?_ e1 ?_ ?_ ?_ ?_ H
  · rw [i1]; exact hx
  · rw [i1, i2, i3]; exact s1
  · rw [i1, i2, i3]; exact s2
  · rw [i1, i2, i3]; exact s3
  · unfold srcM accOf; rw [i1, i2, i3]; rfl
  · unfold dstM; rw [i2, if_pos hj, par_add]; exact e3
  · rw [par_add]; exact e4
  · rw [par_add]; exact e5

/-- Start a copy of a complete tile into the same columns of the neighbour. -/
theorem st_sendG {α : Type} {Q : α → sProp 𝕄} {x : Bool → AccS} {o : OutS} {n q : ℕ} (d : Bool) (b j : ℕ)
    (hx : x (par b) = .proc b false)
    {x' : Dev nD} {a : Memref sig .tc .vmem S512x8192 .bf16} {off : Fin 2 → ℕ} {hi : ∀ a, off a + S512x512.size a ≤ S512x8192.size a}
    {h1 : ∀ a, (Rect.unit (s := S512x8192) off S512x512.size hi).stride a = 1} {sS sR : DmaSem sig}
    {hsc : (a.slice (Rect.unit (s := S512x8192) off S512x512.size hi) h1).view.ref.isScScratch = false}
    {hw : (a.slice (Rect.unit (s := S512x8192) off S512x512.size hi) h1).view.WordExact} {hw' : (a.slice (Rect.unit (s := S512x8192) off S512x512.size hi) h1).view.WordExact}
    {hsem : DmaTarget.Typed .vmem (.dma sR : SemLoc sig) (.remote (Dev.tc x' : Thread nD τ) (a.slice (Rect.unit (s := S512x8192) off S512x512.size hi) h1 : Memref sig .tc .vmem S512x512 .bf16) (.dma sS) hsc)}
    {k : PUnit → Prog (TpuEff nD τ sig (Elt F) Λ₀ .tc) α}
    (ea : a = accM (par b)) (e2 : off = ![0, 512 * (kk d c (srcR j) (j % 2)).val]) (e1 : x' = nb d c)
    (e4 : sS = sendS d (par j)) (e5 : sR = recvS d (par j))
    (H : StE PB κ ιs c xb wb (ctr n (5 + d.toNat)) x o ⊢ wpc c (k ⟨⟩) Q)
    (hn : n = 12 * b + j := by omega) (hb : b < 8 := by omega) (hj : j < 12 := by omega) (h6 : 6 ≤ j := by omega) (hq : q = 4 + d.toNat := by rfl) :
    StE PB κ ιs c xb wb (ctr n q) x o ⊢
      wpc c (.op (.enqueueDma (a.slice (Rect.unit (s := S512x8192) off S512x512.size hi) h1 : Memref sig .tc .vmem S512x512 .bf16)
        (.remote (Dev.tc x' : Thread nD τ) (a.slice (Rect.unit (s := S512x8192) off S512x512.size hi) h1 : Memref sig .tc .vmem S512x512 .bf16) (.dma sS) hsc) (.dma sR) hw hw' hsem) k) Q := by
  subst hq hn ea e2
  obtain ⟨i1, i2, i3⟩ := nb_le b j (by omega)
  have up := up_sd d (12 * b + j)
  obtain ⟨s1, s2, s3⟩ := st_s (j := j) (by omega)
  rw [← loc_s0 (b := b) d hb (by omega)] at s1 s3
  rw [← loc_s1 (b := b) d hb (by omega), ← up] at s2 s3
  rw [← up] at H
  refine core_send PB κ ιs c xb wb d (m := 12 * b + j) (by omega) (by cases d <;> simp [ctr, one]) (by cases d <;> simp [ctr, one] <;> omega)
    (by cases d <;> simp [ctr, one] <;> omega) ?_ ?_ ?_ ?_ e1 ?_ ?_ ?_ ?_ H
  · rw [i1]; exact hx
  · rw [i1, i2, i3]; exact s1
  · rw [i1, i2, i3]; exact s2
  · rw [i1, i2, i3]; exact s3
  · unfold srcM accOf; rw [i1, i2, i3]; rfl
  · unfold dstM accOf
    rw [i2, if_neg (by omega), i1, i3]
    have hk := kk_gather d c ⟨(j - 6) / 2, by omega⟩ ⟨j % 2, by omega⟩
    dsimp only at hk
    have e : kk d (nb d c) (dstR j) (j % 2) = kk d c (srcR j) (j % 2) := by
      unfold dstR srcR; rw [if_neg (by omega)]; exact hk
    rw [e]; rfl
  · rw [par_add]; exact e4
  · rw [par_add]; exact e5

/-- Wait for a landing in a slot. -/
theorem st_rwaitS {α : Type} {Q : α → sProp 𝕄} {x : Bool → AccS} {o : OutS} {n q : ℕ} (d : Bool) (b j : ℕ)
    {src dst : Memref sig .tc .vmem S512x512 .bf16} {sS : DmaSem sig}
    {hw : src.view.WordExact} {hw' : dst.view.WordExact}
    {k : PUnit → Prog (TpuEff nD τ sig (Elt F) Λ₀ .tc) α} (e1 : sS = recvS d (par j)) (e2 : dst.view.dmaCredit = NT)
    (H : StE PB κ ιs c xb wb (ctr n (7 + d.toNat)) x o ⊢ wpc c (k ⟨⟩) Q)
    (hn : n = 12 * b + j + 1 := by omega) (hb : b < 8 := by omega) (hj : j < 6 := by omega) (hq : q = 6 + d.toNat := by rfl) :
    StE PB κ ιs c xb wb (ctr n q) x o ⊢ wpc c (.op (.waitDma2 sS src dst hw hw') k) Q := by
  subst hq hn
  obtain ⟨i1, i2, i3⟩ := nb_le b j (by omega)
  have up := up_rv (n := 12 * b + j + 1) d (by omega)
  have s3 := st_rS hj
  rw [← loc_r0 (b := b) d hb (by omega) (by omega), ← loc_r1 (b := b) d hb (by omega) (by omega), ← up] at s3
  rw [← up] at H
  refine core_rwaitS PB κ ιs c xb wb d (r := 12 * b + j) (by omega) (by cases d <;> simp [ctr, one]) (by cases d <;> simp [ctr, one]) (by cases d <;> simp [ctr, one] <;> omega) (by omega)
    (fun d' => by constructor <;> cases d <;> cases d' <;> simp [ctr, one] <;> omega) ?_ ?_ e2 H
  · rw [i1]; exact s3
  · rw [par_add]; exact e1

/-- Wait for the landing of a complete tile. -/
theorem st_rwaitG {α : Type} {Q : α → sProp 𝕄} {x : Bool → AccS} {o : OutS} {n q : ℕ} (d : Bool) (b j : ℕ)
    (hx : x (par b) = .proc b false)
    {src dst : Memref sig .tc .vmem S512x512 .bf16} {sS : DmaSem sig}
    {hw : src.view.WordExact} {hw' : dst.view.WordExact}
    {k : PUnit → Prog (TpuEff nD τ sig (Elt F) Λ₀ .tc) α} (e1 : sS = recvS d (par j)) (e2 : dst.view.dmaCredit = NT)
    (H : StE PB κ ιs c xb wb (ctr n (7 + d.toNat)) x o ⊢ wpc c (k ⟨⟩) Q)
    (hn : n = 12 * b + j + 1 := by omega) (hb : n ≤ 95 := by omega) (hj : j < 12 := by omega) (h6 : 6 ≤ j := by omega) (hq : q = 6 + d.toNat := by rfl) :
    StE PB κ ιs c xb wb (ctr n q) x o ⊢ wpc c (.op (.waitDma2 sS src dst hw hw') k) Q := by
  subst hq hn
  obtain ⟨i1, i2, i3⟩ := nb_le b j (by omega)
  have up := up_rv (n := 12 * b + j + 1) d (by omega)
  obtain ⟨s2, s3⟩ := st_rG hj h6
  rw [← loc_r1 (b := b) d (by omega) (by omega) hb, ← up] at s2
  rw [← loc_r0 (b := b) d (by omega) (by omega) hb, ← loc_r1 (b := b) d (by omega) (by omega) hb, ← up] at s3
  rw [← up] at H
  refine core_rwaitG PB κ ιs c xb wb d (r := 12 * b + j) (by omega) (by cases d <;> simp [ctr, one]) (by cases d <;> simp [ctr, one]) (by cases d <;> simp [ctr, one]) (by omega)
    (fun d' => by constructor <;> cases d <;> cases d' <;> simp [ctr, one] <;> omega) ?_ ?_ ?_ ?_ e2 H
  · rw [i1]; exact hx
  · rw [i1, i2, i3]; exact s2
  · rw [i1, i2, i3]; exact s3
  · rw [par_add]; exact e1

/-- A landing that completes a tile needs no addition. -/
theorem st_skip {x : Bool → AccS} {o : OutS} {n : ℕ} (b j : ℕ) (hn : n = 12 * b + j + 1 := by omega) (hb : n ≤ 95 := by omega) (hj : j < 12 := by omega) (h6 : 6 ≤ j := by omega) :
    StE PB κ ιs c xb wb (ctr n 8) x o ⊢ StE PB κ ιs c xb wb (ctr n 10) x o := by
  subst hn
  have hL : ∀ d b', loc (ctr (12 * b + j + 1) 10) d b' = { loc (ctr (12 * b + j + 1) 8) d b' with ad := min (12 * b + j + 1 - 12 * b') 12 } := by
    intro d b'; rw [loc_ctr, loc_ctr]; cases d <;> (apply lc_ext <;> simp [one])
  have hA : ∀ d b', (loc (ctr (12 * b + j + 1) 8) d b').ad = min (12 * b + j - 12 * b') 12 := by
    intro d b'; rw [loc_ctr]; cases d <;> simp [one]
  have hs : ∀ (d : Bool) (b' : ℕ) (r : Fin 4) (sub : Fin 2), stat (loc (ctr (12 * b + j + 1) 10) d b') r sub = stat (loc (ctr (12 * b + j + 1) 8) d b') r sub := by
    intro d b' r sub
    have hr := r.isLt
    have hsub := sub.isLt
    have : (2 * (r.val - 1) + sub.val < (loc (ctr (12 * b + j + 1) 10) d b').ad) ↔ (2 * (r.val - 1) + sub.val < (loc (ctr (12 * b + j + 1) 8) d b').ad) := by
      rw [hL, hA]; dsimp only; omega
    unfold stat
    simp only [this]
    rw [hL]
  have ht : ∀ (d s : Bool), TmpP PB c d s ((ctr (12 * b + j + 1) 10).rv d) ((ctr (12 * b + j + 1) 10).ad d) ((ctr (12 * b + j + 1) 10).gr d) =
      TmpP PB c d s ((ctr (12 * b + j + 1) 8).rv d) ((ctr (12 * b + j + 1) 8).ad d) ((ctr (12 * b + j + 1) 8).gr d) := by
    intro d s
    have e1 : (ctr (12 * b + j + 1) 10).rv d = 12 * b + j + 1 := by cases d <;> simp [ctr, one]
    have e2 : (ctr (12 * b + j + 1) 8).rv d = 12 * b + j + 1 := by cases d <;> simp [ctr, one]
    have e3 : (ctr (12 * b + j + 1) 10).ad d = 12 * b + j + 1 := by cases d <;> simp [ctr, one]
    have e4 : (ctr (12 * b + j + 1) 8).ad d = 12 * b + j := by cases d <;> simp [ctr, one]
    have e5 : (ctr (12 * b + j + 1) 10).gr d = (ctr (12 * b + j + 1) 8).gr d := by cases d <;> simp [ctr, one]
    rw [e1, e2, e3, e4, e5]
    unfold TmpP
    split
    · rfl
    · rw [if_neg (by omega), if_neg (by omega)]
  have hacc : ∀ (a : Bool) (s : AccS), AccP PB c (ctr (12 * b + j + 1) 10) a s = AccP PB c (ctr (12 * b + j + 1) 8) a s := by
    intro a s
    cases s with
    | any => rfl
    | half => rfl
    | proc b' ou =>
      unfold AccP BkP
      simp only [hs]
  have e1 : (ctr (12 * b + j + 1) 10).cr = (ctr (12 * b + j + 1) 8).cr := by funext d; cases d <;> simp [ctr, one]
  have e2 : (ctr (12 * b + j + 1) 10).sw = (ctr (12 * b + j + 1) 8).sw := by funext d; cases d <;> simp [ctr, one]
  have e3 : (ctr (12 * b + j + 1) 10).sd = (ctr (12 * b + j + 1) 8).sd := by funext d; cases d <;> simp [ctr, one]
  have e4 : (ctr (12 * b + j + 1) 10).rv = (ctr (12 * b + j + 1) 8).rv := by funext d; cases d <;> simp [ctr, one]
  have e5 : (ctr (12 * b + j + 1) 10).gr = (ctr (12 * b + j + 1) 8).gr := by funext d; cases d <;> simp [ctr, one]
  have e6 : OO (ctr (12 * b + j + 1) 10) c = OO (ctr (12 * b + j + 1) 8) c := by unfold OO; rw [e3, e5]
  unfold StE
  simp only [ht, hacc]
  rw [e6, e1, e2, e3, e4, e5]

/-- Read a tile about to be added to. -/
theorem st_ldA {α : Type} {Q : α → sProp 𝕄} {x : Bool → AccS} {o : OutS} {n q : ℕ} (d : Bool) (b j : ℕ)
    (hx : x (par b) = .proc b false)
    {m : Memref sig .tc .vmem S512x8192 .bf16} {off : Fin 2 → ℕ} {hi : ∀ a, off a + S512x512.size a ≤ S512x8192.size a}
    {hl : m.view.LoadsAt (Rect.unit (s := S512x8192) off S512x512.size hi).toLoadRect}
    {k : (S512x512.Idx → Elt F .bf16) → Prog (TpuEff nD τ sig (Elt F) Λ₀ .tc) α}
    (e1 : m = accM (par b)) (e2 : off = ![0, 512 * (kk d c (j / 2 + 1) (j % 2)).val])
    (H : StE PB κ ιs c xb wb (ctr n (8 + d.toNat)) x o ⊢ wpc c (k (tileOf (VAL PB d c b 0) (kk d c (j / 2 + 1) (j % 2)))) Q)
    (hn : n = 12 * b + j + 1 := by omega) (hb : b < 8 := by omega) (hj : j < 6 := by omega) (hq : q = 8 + d.toNat := by rfl) :
    StE PB κ ιs c xb wb (ctr n q) x o ⊢ wpc c (Prog.op (.load m (Rect.unit (s := S512x8192) off S512x512.size hi).toLoadRect hl) k) Q := by
  subst hq hn
  obtain ⟨s1, -, -⟩ := st_a hj
  rw [← loc_a0 (b := b) d hb (by omega) (by omega)] at s1
  exact core_loadA PB κ ιs c xb wb d ⟨j / 2 + 1, by omega⟩ ⟨j % 2, by omega⟩ hx s1 e1 e2 H

/-- Read a landed tile. -/
theorem st_ldT {α : Type} {Q : α → sProp 𝕄} {x : Bool → AccS} {o : OutS} {n q : ℕ} (d : Bool) (b j : ℕ)
    {m : Memref sig .tc .vmem S2x512x512 .bf16} {off : Fin 3 → ℕ} {hi : ∀ a, off a + S1x512x512.size a ≤ S2x512x512.size a}
    {hl : m.view.LoadsAt (Rect.unit (s := S2x512x512) off S1x512x512.size hi).toLoadRect}
    {k : (S1x512x512.Idx → Elt F .bf16) → Prog (TpuEff nD τ sig (Elt F) Λ₀ .tc) α}
    (e1 : m = tmpM d) (e2 : off = ![(par j).toNat, 0, 0])
    (H : ∀ v : S1x512x512.Idx → Elt F .bf16, shapeCast S512x512 v shapeCasts_S1x512x512_S512x512 = sent PB d (pv d c) (12 * b + j) →
      StE PB κ ιs c xb wb (ctr n (8 + d.toNat)) x o ⊢ wpc c (k v) Q)
    (hn : n = 12 * b + j + 1 := by omega) (hb : b < 8 := by omega) (hj : j < 6 := by omega) (hq : q = 8 + d.toNat := by rfl) :
    StE PB κ ιs c xb wb (ctr n q) x o ⊢ wpc c (Prog.op (.load m (Rect.unit (s := S2x512x512) off S1x512x512.size hi).toLoadRect hl) k) Q := by
  subst hq hn
  exact core_loadT PB κ ιs c xb wb d (by cases d <;> simp [ctr, one]) (by cases d <;> simp [ctr, one]) (by cases d <;> simp [ctr, one] <;> omega) (by omega) e1
    (by rw [par_add]; exact e2) H

/-- Store the sum. -/
theorem st_stA {α : Type} {Q : α → sProp 𝕄} {x : Bool → AccS} {o : OutS} {n q : ℕ} (d : Bool) (b j : ℕ)
    (hx : x (par b) = .proc b false)
    {v : S512x512.Idx → Elt F .bf16} (hv : v = sent PB d (pv d c) (12 * b + j))
    {m : Memref sig .tc .vmem S512x8192 .bf16} {off : Fin 2 → ℕ} {hi : ∀ a, off a + S512x512.size a ≤ S512x8192.size a}
    {w : S512x512.Idx → Elt F .bf16} {hst : (m.access (Rect.unit (s := S512x8192) off S512x512.size hi)).Stores Finset.univ}
    {hm : (Finset.univ : Finset S512x512.Idx) = Finset.univ ∨ ∀ a, (Rect.unit (s := S512x8192) off S512x512.size hi).stride a = 1}
    {k : PUnit → Prog (TpuEff nD τ sig (Elt F) Λ₀ .tc) α}
    (e1 : m = accM (par b)) (e2 : off = ![0, 512 * (kk d c (j / 2 + 1) (j % 2)).val])
    (hw : w = shapeCast S512x512 (addf (tileOf (VAL PB d c b 0) (kk d c (j / 2 + 1) (j % 2))) v) shapeCasts_S512x512_S512x512)
    (H : StE PB κ ιs c xb wb (ctr n (9 + d.toNat)) x o ⊢ wpc c (k ⟨⟩) Q)
    (hn : n = 12 * b + j + 1 := by omega) (hb : b < 8 := by omega) (hj : j < 6 := by omega) (hq : q = 8 + d.toNat := by rfl) :
    StE PB κ ιs c xb wb (ctr n q) x o ⊢ wpc c (Prog.op (.store m (Rect.unit (s := S512x8192) off S512x512.size hi) w Finset.univ hst hm) k) Q := by
  subst hq hn
  obtain ⟨i1, i2, i3⟩ := nb_le b j (by omega)
  obtain ⟨s1, s2, s3⟩ := st_a hj
  have up := up_ad (n := 12 * b + j + 1) d (by omega)
  rw [← loc_a0 (b := b) d hb (by omega) (by omega)] at s1 s3
  rw [← loc_a1 (b := b) d hb (by omega) (by omega), ← up] at s2 s3
  rw [← up] at H
  refine core_storeA PB κ ιs c xb wb d (r := 12 * b + j) (h := 0) (h' := if j / 2 + 1 = 3 then 4 else j / 2 + 1) (by cases d <;> simp [ctr, one]) (by cases d <;> simp [ctr, one]) (by cases d <;> simp [ctr, one] <;> omega) (by omega)
    ?_ ?_ ?_ ?_ ?_ ?_ ?_ H
  · rw [i1]; exact hx
  · rw [i1, i2, i3]; exact s1
  · rw [i1, i2, i3]; exact s2
  · rw [i1, i2, i3]; exact s3
  · unfold accOf; rw [i1]; exact e1
  · rw [i2, i3]; exact e2
  · have := add_val PB c d (r := 12 * b + j) (by omega) (v' := v) hv
    rw [i1, i2, i3] at this ⊢
    rw [hw]; exact this

/-- Grant a landing slot back. -/
theorem st_grantS {α : Type} {Q : α → sProp 𝕄} {x : Bool → AccS} {o : OutS} {n q : ℕ} (d : Bool) (b j : ℕ)
    {x' : Dev nD} {sS : Sem sig} {hr : τ.routes (c : Thread nD τ) (x' : Thread nD τ) = true}
    {k : PUnit → Prog (TpuEff nD τ sig (Elt F) Λ₀ .tc) α} (e0 : x' = pv d c) (e1 : sS = credS d)
    (H : StE PB κ ιs c xb wb (ctr n (11 + d.toNat)) x o ⊢ wpc c (k ⟨⟩) Q)
    (h6 : j < 4 ∨ 10 ≤ j := by omega) (hn : n = 12 * b + j + 1 := by omega) (hb : n ≤ 94 := by omega) (hj : j < 12 := by omega) (hq : q = 10 + d.toNat := by rfl) :
    StE PB κ ιs c xb wb (ctr n q) x o ⊢ wpc c (.op (.semSignal (x' : Thread nD τ) sS 1) k) Q := by
  subst hq hn
  obtain ⟨i1, i2, i3⟩ := nb_le b j hj
  have up := up_gr (n := 12 * b + j + 1) d (by omega) hb
  have s3 := st_gS hj h6
  rw [← loc_g0 (b := b) d (by omega) (by omega) hb, ← loc_g1 (b := b) d (by omega) (by omega) hb, ← up] at s3
  rw [← up] at H
  refine core_grantS PB κ ιs c xb wb d (hr := hr) (g := 12 * b + j) (by omega) (by cases d <;> simp [ctr, one] <;> omega) (by cases d <;> simp [ctr, one]) (by cases d <;> simp [ctr, one]) (by omega)
    ?_ e0 e1 H
  rw [i1]; exact s3

/-- Grant a tile of the accumulator. -/
theorem st_grantG {α : Type} {Q : α → sProp 𝕄} {x : Bool → AccS} {o : OutS} {n q : ℕ} (d : Bool) (b j : ℕ)
    (hx : x (par b) = .proc b false)
    {x' : Dev nD} {sS : Sem sig} {hr : τ.routes (c : Thread nD τ) (x' : Thread nD τ) = true}
    {k : PUnit → Prog (TpuEff nD τ sig (Elt F) Λ₀ .tc) α} (e0 : x' = pv d c) (e1 : sS = credS d)
    (H : StE PB κ ιs c xb wb (ctr n (11 + d.toNat)) x o ⊢ wpc c (k ⟨⟩) Q)
    (hn : n = 12 * b + j + 1 := by omega) (hb : b < 8 := by omega) (h4 : 4 ≤ j := by omega) (hj : j < 10 := by omega) (hq : q = 10 + d.toNat := by rfl) :
    StE PB κ ιs c xb wb (ctr n q) x o ⊢ wpc c (.op (.semSignal (x' : Thread nD τ) sS 1) k) Q := by
  subst hq hn
  have i1 : (12 * b + j + 2) / 12 = b := by omega
  have i2 : (12 * b + j + 2) % 12 = j + 2 := by omega
  have i3 : (12 * b + j + 2) % 2 = j % 2 := by omega
  have up := up_gr (n := 12 * b + j + 1) d (by omega) (by omega)
  obtain ⟨⟨h, s1⟩, s2, s3⟩ := st_gG hj h4
  rw [← loc_g0 (b := b) d (by omega) (by omega) (by omega)] at s1 s3
  rw [← loc_g1 (b := b) d (by omega) (by omega) (by omega), ← up] at s2 s3
  rw [← up] at H
  refine core_grantG PB κ ιs c xb wb d (hr := hr) (g := 12 * b + j) (h := h) (by omega) (by cases d <;> simp [ctr, one] <;> omega) (by cases d <;> simp [ctr, one]) (by cases d <;> simp [ctr, one]) (by omega)
    ?_ ?_ ?_ ?_ e0 e1 H
  · rw [i1]; exact hx
  · rw [i1, i2, i3]; exact s1
  · rw [i1, i2, i3]; exact s2
  · rw [i1, i2, i3]; exact s3

end

end Cert.KernelIdeal.Ring
-- ==== Proof.Blocks.lean ====
module

public import proofs.«01_k».proof.Proof.Micro
public import proofs.«01_k».proof.Proof.Gen.KernelIdeal.Skeleton

/-! Whole row blocks: computing one into an accumulator, and copying a reduced one out. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ### The tiles of an accumulator -/

theorem kk_inj (c : Dev nD) (p q : Tl) (h : kk p.1 c p.2.1 p.2.2 = kk q.1 c q.2.1 q.2.2) : p = q := by
  revert c p q; decide

theorem kk_surj (c : Dev nD) (k : Fin 16) : ∃ p : Tl, kk p.1 c p.2.1 p.2.2 = k := by
  revert c k; decide

theorem mem_rectK (k : Fin 16) (i : S512x8192.Idx) : i ∈ (rectK k).set ↔ 512 * k.val ≤ (i 1).val ∧ (i 1).val < 512 * k.val + 512 := by
  unfold rectK
  rw [Rect.mem_set_unit]
  constructor
  · intro h; exact h 1
  · intro h a
    fin_cases a
    · exact ⟨Nat.zero_le _, by have := (i 0).isLt; show (i 0).val < 0 + 512; simpa using this⟩
    · exact h

theorem tiles_disj (c : Dev nD) (p q : Tl) (h : p ≠ q) :
    Disjoint (rectK (kk p.1 c p.2.1 p.2.2)).set (rectK (kk q.1 c q.2.1 q.2.2)).set := by
  rw [Finset.disjoint_left]
  intro i h1 h2
  rw [mem_rectK] at h1 h2
  exact h (kk_inj c p q (Fin.ext (by omega)))

theorem tiles_cover (c : Dev nD) : ((Finset.univ : Finset Tl).biUnion fun p => (rectK (kk p.1 c p.2.1 p.2.2)).set) = (Finset.univ : Finset S512x8192.Idx) := by
  rw [Finset.eq_univ_iff_forall]
  intro i
  have hi : (i 1).val < 8192 := (i 1).isLt
  obtain ⟨p, hp⟩ := kk_surj c ⟨(i 1).val / 512, by omega⟩
  refine Finset.mem_biUnion.mpr ⟨p, Finset.mem_univ _, ?_⟩
  rw [mem_rectK, hp]
  dsimp only
  omega

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

/-- An accumulator cut into its tiles. -/
theorem to_tiles (a : Bool) (q : PosShare TreeShare) (X : AccT F) :
    (owns (c : Thread nD τ) (accM a) q X : sProp 𝕄) ⊢
      bigSep (Finset.univ : Finset Tl) (fun p => owns (Val := Elt F) (c : Thread nD τ) (blkM a (kk p.1 c p.2.1 p.2.2)) q (tileOf X (kk p.1 c p.2.1 p.2.2))) :=
  owns_rects (c : Thread nD τ) (accM a) q (fun p : Tl => rectK (kk p.1 c p.2.1 p.2.2)) (fun _ _ => rfl) (tiles_disj c) (tiles_cover c) X

/-- And put together again. -/
theorem of_tiles (a : Bool) (q : PosShare TreeShare) (X : AccT F) :
    bigSep (Finset.univ : Finset Tl) (fun p => owns (Val := Elt F) (c : Thread nD τ) (blkM a (kk p.1 c p.2.1 p.2.2)) q (tileOf X (kk p.1 c p.2.1 p.2.2))) ⊢
      (owns (c : Thread nD τ) (accM a) q X : sProp 𝕄) :=
  owns_of_rects (c : Thread nD τ) (accM a) q (fun p : Tl => rectK (kk p.1 c p.2.1 p.2.2)) (fun _ _ => rfl) (tiles_disj c) (tiles_cover c) X

/-! ### The block product -/

theorem rx_inb (b : Fin 8) : ∀ a, (![512 * b.val, 0] : Fin 2 → ℕ) a + S512x1024.size a ≤ S4096x1024.size a := by
  intro a; fin_cases a
  · show 512 * b.val + 512 ≤ 4096; omega
  · show 0 + 1024 ≤ 1024; omega
theorem rw_inb (h : Bool) : ∀ a, (![0, 4096 * h.toNat] : Fin 2 → ℕ) a + S1024x4096.size a ≤ S1024x8192.size a := by
  cases h <;> decide
theorem rh_inb (h : Bool) : ∀ a, (![0, 4096 * h.toNat] : Fin 2 → ℕ) a + S512x4096.size a ≤ S512x8192.size a := by
  cases h <;> decide

/-- Rows of one block, columns of one half. -/
def rectX (b : Fin 8) : Rect S4096x1024 := Rect.unit (s := S4096x1024) ![512 * b.val, 0] S512x1024.size (rx_inb b)
def rectW (h : Bool) : Rect S1024x8192 := Rect.unit (s := S1024x8192) ![0, 4096 * h.toNat] S1024x4096.size (rw_inb h)
def rectH (h : Bool) : Rect S512x8192 := Rect.unit (s := S512x8192) ![0, 4096 * h.toNat] S512x4096.size (rh_inb h)

def xRows (X : S4096x1024.Idx → Elt F .bf16) (b : ℕ) : S512x1024.Idx → Elt F .bf16 := fun j => X ((rectX (fin8 b)).emb j)
def wCols (W : S1024x8192.Idx → Elt F .bf16) (h : Bool) : S1024x4096.Idx → Elt F .bf16 := fun j => W ((rectW h).emb j)

/-- The place of a column in its half. -/
def inHalf (i : S512x8192.Idx) : S512x4096.Idx := fun a => ⟨(![(i 0).val, (i 1).val % 4096] : Fin 2 → ℕ) a, by
  fin_cases a
  · exact (i 0).isLt
  · show (i 1).val % 4096 < 4096; omega⟩

/-- Block `b` of the product of a device's own columns and rows. -/
def PBx (xb : Dev nD → S4096x1024.Idx → Elt F .bf16) (wb : Dev nD → S1024x8192.Idx → Elt F .bf16) (c : Dev nD) (b : ℕ) : AccT F := fun i =>
  k0_pay10 (xRows (xb c) b) (wCols (wb c) (decide (4096 ≤ (i 1).val))) (inHalf i)

theorem emb_half (h : Bool) (j : S512x4096.Idx) : decide (4096 ≤ (((rectH h).emb j) 1).val) = h ∧ inHalf ((rectH h).emb j) = j := by
  have hj : (j 1).val < 4096 := (j 1).isLt
  have e1 : (((rectH h).emb j) 1).val = 4096 * h.toNat + (j 1).val := by show 4096 * h.toNat + 1 * (j 1).val = _; omega
  have e0 : (((rectH h).emb j) 0).val = (j 0).val := by show 0 + 1 * (j 0).val = _; omega
  refine ⟨?_, ?_⟩
  · rw [e1]; cases h <;> simp <;> omega
  · funext a
    apply Fin.ext
    fin_cases a
    · show (((rectH h).emb j) 0).val = _; exact e0
    · show (((rectH h).emb j) 1).val % 4096 = _
      rw [e1]; cases h <;> simp <;> omega

theorem PBx_half (b : ℕ) (h : Bool) (j : S512x4096.Idx) : PBx xb wb c b ((rectH h).emb j) = k0_pay10 (xRows (xb c) b) (wCols (wb c) h) j := by
  obtain ⟨h1, h2⟩ := emb_half h j
  unfold PBx; rw [h1, h2]

theorem mem_half (h : Bool) (i : S512x8192.Idx) : i ∈ (rectH h).set ↔ decide (4096 ≤ (i 1).val) = h := by
  have hi : (i 1).val < 8192 := (i 1).isLt
  unfold rectH
  rw [Rect.mem_set_unit]
  constructor
  · intro H
    have h1 : 4096 * h.toNat ≤ (i 1).val ∧ (i 1).val < 4096 * h.toNat + 4096 := H 1
    cases h <;> simp at h1 ⊢ <;> omega
  · intro H a
    fin_cases a
    · exact ⟨Nat.zero_le _, by have := (i 0).isLt; show (i 0).val < 0 + 512; simpa using this⟩
    · show 4096 * h.toNat ≤ (i 1).val ∧ (i 1).val < 4096 * h.toNat + 4096
      cases h <;> simp at H ⊢ <;> omega

/-- Read a row block of the left factor. -/
theorem st_ldX {α : Type} {Q : α → sProp 𝕄} {K : Ctr} {x : Bool → AccS} {o : OutS} (b : ℕ)
    {m : Memref sig .tc .vmem S4096x1024 .bf16} {off : Fin 2 → ℕ} {hi : ∀ a, off a + S512x1024.size a ≤ S4096x1024.size a}
    {hl : m.view.LoadsAt (Rect.unit (s := S4096x1024) off S512x1024.size hi).toLoadRect}
    {k : (S512x1024.Idx → Elt F .bf16) → Prog (TpuEff nD τ sig (Elt F) Λ₀ .tc) α}
    (e1 : m = Memref.whole cc0_stg0_0) (e2 : off = ![512 * (fin8 b).val, 0])
    (H : StE PB κ ιs c xb wb K x o ⊢ wpc c (k (xRows (xb c) b)) Q) :
    StE PB κ ιs c xb wb K x o ⊢ wpc c (Prog.op (.load m (Rect.unit (s := S4096x1024) off S512x1024.size hi).toLoadRect hl) k) Q := by
  subst e1 e2
  unfold StE WinP
  iintro ⟨#R, HO, HCr, HRel, HSw, HRv, HGr, HT, HA, HOu, ⟨Hx, Hw⟩⟩
  iapply (load_part c (m := Memref.whole cc0_stg0_0) (r := rectX (fin8 b)) (k := k)) $$ Hx
  iintro Hx
  iapply H
  unfold StE WinP
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT]; · iexact HT
  isplitl [HA]; · iexact HA
  isplitl [HOu]; · iexact HOu
  isplitl [Hx]; · iexact Hx
  iexact Hw

/-- Read half the columns of the right factor. -/
theorem st_ldW {α : Type} {Q : α → sProp 𝕄} {K : Ctr} {x : Bool → AccS} {o : OutS} (h : Bool)
    {m : Memref sig .tc .vmem S1024x8192 .bf16} {off : Fin 2 → ℕ} {hi : ∀ a, off a + S1024x4096.size a ≤ S1024x8192.size a}
    {hl : m.view.LoadsAt (Rect.unit (s := S1024x8192) off S1024x4096.size hi).toLoadRect}
    {k : (S1024x4096.Idx → Elt F .bf16) → Prog (TpuEff nD τ sig (Elt F) Λ₀ .tc) α}
    (e1 : m = Memref.whole cc0_stg1_0) (e2 : off = ![0, 4096 * h.toNat])
    (H : StE PB κ ιs c xb wb K x o ⊢ wpc c (k (wCols (wb c) h)) Q) :
    StE PB κ ιs c xb wb K x o ⊢ wpc c (Prog.op (.load m (Rect.unit (s := S1024x8192) off S1024x4096.size hi).toLoadRect hl) k) Q := by
  subst e1 e2
  unfold StE WinP
  iintro ⟨#R, HO, HCr, HRel, HSw, HRv, HGr, HT, HA, HOu, ⟨Hx, Hw⟩⟩
  iapply (load_part c (m := Memref.whole cc0_stg1_0) (r := rectW h) (k := k)) $$ Hw
  iintro Hw
  iapply H
  unfold StE WinP
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT]; · iexact HT
  isplitl [HA]; · iexact HA
  isplitl [HOu]; · iexact HOu
  isplitl [Hx]; · iexact Hx
  iexact Hw

/-- What an accumulator not in use holds. -/
def Idle (PB : Dev nD → ℕ → AccT F) (c : Dev nD) (a : Bool) (s : AccS) (X : AccT F) : Prop :=
  match s with
  | .any => True
  | .half b => ∀ i : S512x8192.Idx, (i 1).val < 4096 → X i = PB c b i
  | .proc _ _ => False

theorem idle_open (K : Ctr) (a : Bool) (s : AccS) (hs : s = .any ∨ ∃ b, s = .half b) :
    AccP PB c K a s ⊢ iprop(∃ X : AccT F, ⌜Idle PB c a s X⌝ ∗ owns (Val := Elt F) (c : Thread nD τ) (accM a) fullShare X) := by
  rcases hs with rfl | ⟨b, rfl⟩
  · unfold AccP any Idle
    iintro ⟨%X, H⟩; iexists X; isplitr
    · ipureintro; trivial
    · iexact H
  · unfold AccP Idle; exact BI.Entails.refl _

theorem idle_close (K : Ctr) (a : Bool) (s : AccS) :
    iprop(∃ X : AccT F, ⌜Idle PB c a s X⌝ ∗ owns (Val := Elt F) (c : Thread nD τ) (accM a) fullShare X) ⊢ AccP PB c K a s := by
  rcases s with _ | b | ⟨b, ou⟩
  · unfold AccP any
    iintro ⟨%X, -, H⟩; iexists X; iexact H
  · unfold AccP Idle; exact BI.Entails.refl _
  · unfold Idle
    iintro ⟨%X, %h, H⟩; exact h.elim

/-- Read half of an accumulator not in use. -/
theorem st_ldH {α : Type} {Q : α → sProp 𝕄} {K : Ctr} {x : Bool → AccS} {o : OutS} (a : Bool) (h : Bool)
    (hx : x a = .any ∨ ∃ b, x a = .half b)
    {m : Memref sig .tc .vmem S512x8192 .bf16} {off : Fin 2 → ℕ} {hi : ∀ a, off a + S512x4096.size a ≤ S512x8192.size a}
    {hl : m.view.LoadsAt (Rect.unit (s := S512x8192) off S512x4096.size hi).toLoadRect}
    {k : (S512x4096.Idx → Elt F .bf16) → Prog (TpuEff nD τ sig (Elt F) Λ₀ .tc) α}
    (e1 : m = accM a) (e2 : off = ![0, 4096 * h.toNat])
    (H : ∀ v, StE PB κ ιs c xb wb K x o ⊢ wpc c (k v) Q) :
    StE PB κ ιs c xb wb K x o ⊢ wpc c (Prog.op (.load m (Rect.unit (s := S512x8192) off S512x4096.size hi).toLoadRect hl) k) Q := by
  subst e1 e2
  unfold StE
  iintro ⟨#R, HO, HCr, HRel, HSw, HRv, HGr, HT, HA, HOu, HW⟩
  ihave HA := (bsp (Ψ := fun a => AccP PB c K a (x a)) a rfl) $$ HA
  icases HA with ⟨HA, HAB⟩
  ihave HA := (idle_open K a (x a) hx) $$ HA
  icases HA with ⟨%X, %hX, HA⟩
  iapply (load_part c (m := accM a) (r := rectH h) (k := k)) $$ HA
  iintro HA
  iapply (H _)
  unfold StE
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT]; · iexact HT
  isplitl [HA HAB]
  · iapply HAB
    iapply (idle_close K a (x a))
    iexists X
    isplitr
    · ipureintro; exact hX
    · iexact HA
  isplitl [HOu]; · iexact HOu
  iexact HW

/-- No micro of the block has begun. -/
def Fresh (K : Ctr) (b : ℕ) : Prop := ∀ d, loc K d b = ⟨0, 0, 0, 0, 0⟩
/-- Every tile of the block is complete and read by no send. -/
def Done (K : Ctr) (b : ℕ) : Prop := ∀ (d : Bool) (r : Fin 4) (sub : Fin 2), stat (loc K d b) r sub = some (4, false)

theorem stat_fresh : ∀ (r : Fin 4) (sub : Fin 2), stat ⟨0, 0, 0, 0, 0⟩ r sub = some (0, false) := by decide
theorem stat_done : ∀ (r : Fin 4) (sub : Fin 2), stat ⟨12, 12, 12, 12, 10⟩ r sub = some (4, false) := by decide

theorem fresh_tiles {K : Ctr} {b : ℕ} (hb : Fresh K b) :
    (owns (c : Thread nD τ) (accM (par b)) fullShare (PB c b) : sProp 𝕄) ⊢ bigSep (Finset.univ : Finset Tl) (BkP PB c K b false) := by
  refine (to_tiles _ _ _).trans (Entails.of_eq (bigSep_congr fun p _ => ?_))
  unfold BkP
  rw [hb, stat_fresh]
  rfl

/-- Store a half of the block: first the left columns, then the right. -/
theorem st_stH {α : Type} {Q : α → sProp 𝕄} {K : Ctr} {x x' : Bool → AccS} {o : OutS} (b : ℕ) (h : Bool)
    (hx : x (par b) = if h then .half b else .any) (hx' : x' (par b) = if h then .proc b false else .half b) (hxo : x' (!par b) = x (!par b))
    (hb : Fresh K b)
    {m : Memref sig .tc .vmem S512x8192 .bf16} {off : Fin 2 → ℕ} {hi : ∀ a, off a + S512x4096.size a ≤ S512x8192.size a}
    {w : S512x4096.Idx → Elt F .bf16} {hst : (m.access (Rect.unit (s := S512x8192) off S512x4096.size hi)).Stores Finset.univ}
    {hm : (Finset.univ : Finset S512x4096.Idx) = Finset.univ ∨ ∀ a, (Rect.unit (s := S512x8192) off S512x4096.size hi).stride a = 1}
    {k : PUnit → Prog (TpuEff nD τ sig (Elt F) Λ₀ .tc) α}
    (e1 : m = accM (par b)) (e2 : off = ![0, 4096 * h.toNat])
    (hw : w = k0_pay10 (xRows (xb c) b) (wCols (wb c) h))
    (H : StE (PBx xb wb) κ ιs c xb wb K x' o ⊢ wpc c (k ⟨⟩) Q) :
    StE (PBx xb wb) κ ιs c xb wb K x o ⊢ wpc c (Prog.op (.store m (Rect.unit (s := S512x8192) off S512x4096.size hi) w Finset.univ hst hm) k) Q := by
  subst e1 e2 hw
  unfold StE
  iintro ⟨#R, HO, HCr, HRel, HSw, HRv, HGr, HT, HA, HOu, HW⟩
  ihave HA := (bsp (Ψ := fun a => AccP (PBx xb wb) c K a (x' a)) (par b) (by rw [hxo])) $$ HA
  icases HA with ⟨HA, HAB⟩
  ihave HA := (idle_open K (par b) (x (par b)) (by rw [hx]; cases h <;> simp)) $$ HA
  icases HA with ⟨%X, %hX, HA⟩
  iapply (store_part c (m := accM (par b)) (r := rectH h) (k := k)) $$ HA
  iintro %Y %hY HA
  iapply H
  unfold StE
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT]; · iexact HT
  isplitl [HA HAB]
  · iapply HAB
    have hin : ∀ i : S512x8192.Idx, decide (4096 ≤ (i 1).val) = h → Y i = PBx xb wb c b i := by
      intro i hi
      have hm := (mem_half h i).mpr hi
      rw [← Rect.map_emb_univ, Finset.mem_map] at hm
      obtain ⟨j, -, rfl⟩ := hm
      exact (hY.1 j).trans (PBx_half b h j).symm
    cases h
    · rw [hx', if_neg (by decide)]
      iapply (idle_close K (par b) (.half b))
      iexists Y
      isplitr
      · ipureintro; exact fun i hi => hin i (by simp; omega)
      · iexact HA
    · have e : Y = PBx xb wb c b := by
        funext i
        by_cases hi : 4096 ≤ (i 1).val
        · exact hin i (by simp [hi])
        · rw [hY.2 i (fun hm => by have := (mem_half true i).mp hm; simp at this; omega)]
          rw [hx, if_pos rfl] at hX
          exact hX i (by omega)
      rw [e, hx', if_pos rfl]
      unfold AccP
      isplitr
      · ipureintro; rfl
      iapply (fresh_tiles (PB := PBx xb wb) hb); iexact HA
  isplitl [HOu]; · iexact HOu
  iexact HW

end

end Cert.KernelIdeal.Ring
-- ==== Proof.Outs.lean ====
module

public import proofs.«01_k».proof.Proof.Blocks

/-! Copying a reduced row block out to the result array, and waiting for the copy. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

/-- Every tile of the block is complete. -/
def Ready (K : Ctr) (b : ℕ) : Prop := ∀ (d : Bool) (r : Fin 4) (sub : Fin 2), ∃ fl, stat (loc K d b) r sub = some (4, fl)

theorem val_full (d : Bool) (b : ℕ) : VAL PB d c b 4 = FV PB b := by unfold VAL; rw [if_pos rfl]

theorem tile_lend {K : Ctr} {b : ℕ} (hb : Ready K b) (p : Tl) :
    BkP PB c K b false p ⊢ iprop(BkP PB c K b true p ∗ owns (Val := Elt F) (c : Thread nD τ) (blkM (par b) (kk p.1 c p.2.1 p.2.2)) fullShare.right (tileOf (FV PB b) (kk p.1 c p.2.1 p.2.2))) := by
  obtain ⟨fl, hfl⟩ := hb p.1 p.2.1 p.2.2
  unfold BkP
  rw [hfl]
  unfold BkS
  cases fl
  · dsimp only
    rw [val_full]
    exact (owns_split c _ _).1
  · dsimp only
    rw [val_full]
    iintro H
    isplitr
    · iempintro
    · iexact H

theorem sep_apart {I : Type} (s : Finset I) (X Y : I → sProp 𝕄) : bigSep s (fun i => iprop(X i ∗ Y i)) ⊢ (iprop(bigSep s X ∗ bigSep s Y) : sProp 𝕄) :=
  Entails.of_eq (bigSep_sep s X Y)

/-- The right half of a complete accumulator, for the output copy to read. -/
theorem tiles_lend {K : Ctr} {b : ℕ} (hb : Ready K b) :
    bigSep (Finset.univ : Finset Tl) (BkP PB c K b false) ⊢
      iprop(bigSep (Finset.univ : Finset Tl) (BkP PB c K b true) ∗ owns (Val := Elt F) (c : Thread nD τ) (accM (par b)) fullShare.right (FV PB b)) := by
  refine (bigSep_mono fun p _ => tile_lend hb p).trans ((sep_apart _ _ _).trans ?_)
  iintro ⟨H1, H2⟩
  isplitl [H1]; · iexact H1
  iapply (of_tiles (par b) fullShare.right (FV PB b)); iexact H2

theorem acc_rejoin (a : Bool) (X : AccT F) :
    iprop(owns (Val := Elt F) (c : Thread nD τ) (accM a) fullShare.left X ∗ owns (Val := Elt F) (c : Thread nD τ) (accM a) fullShare.right X) ⊢
      (owns (Val := Elt F) (c : Thread nD τ) (accM a) fullShare X : sProp 𝕄) := (owns_halves _ _ _ X).2

/-- All copies of the block done, the accumulator is whole again. -/
theorem tiles_back {K : Ctr} {b : ℕ} (hb : Done K b) :
    iprop(bigSep (Finset.univ : Finset Tl) (BkP PB c K b true) ∗ owns (Val := Elt F) (c : Thread nD τ) (accM (par b)) fullShare.right (FV PB b)) ⊢
      any c (accM (par b)) := by
  have e : bigSep (Finset.univ : Finset Tl) (BkP PB c K b true) = bigSep (Finset.univ : Finset Tl) (fun p => owns (Val := Elt F) (c : Thread nD τ) (blkM (par b) (kk p.1 c p.2.1 p.2.2)) fullShare.left (tileOf (FV PB b) (kk p.1 c p.2.1 p.2.2))) :=
    bigSep_congr fun p _ => by
      unfold BkP
      rw [hb]
      unfold BkS
      dsimp only
      rw [val_full]
  rw [e]
  iintro ⟨H1, H2⟩
  ihave H1 := (of_tiles (par b) fullShare.left (FV PB b)) $$ H1
  unfold any
  iexists (FV PB b)
  iapply (acc_rejoin (par b) (FV PB b))
  isplitl [H1]; · iexact H1
  iexact H2

theorem par_blk (e : Bool) (r : ℕ) : par (2 * r + e.toNat) = e := by unfold par; cases e <;> simp <;> omega

theorem written_paid (M : Memref sig .tc .hbm S512x8192 .bf16) (N : Memref sig .tc .vmem S512x8192 .bf16) {X : S512x8192.Idx → Elt F .bf16}
    {P : sProp 𝕄} (hP : iprop(owns (Val := Elt F) (c : Thread nD τ) M fullShare X ∗ owns (Val := Elt F) (c : Thread nD τ) N fullShare.right X) ⊢ P)
    (fd : Buf (Elt F) (M.view.loc (c : Thread nD τ))) (fs : Buf (Elt F) (N.view.loc (c : Thread nD τ))) (hfs : N.view.read (Elt F) fs = X) :
    iprop((M.view.loc (c : Thread nD τ) ↦[M.view.set]{fullShare} (M.view.write (Elt F) fd (N.view.read (Elt F) fs) Finset.univ))
        ∗ (N.view.loc (c : Thread nD τ) ↦[N.view.set]{fullShare.right} fs)) ⊢ P := by
  refine BI.Entails.trans (BIClass.sep_mono (owns_written c M fd _ hfs) ?_) hP
  unfold owns
  iintro H
  iexists fs
  isplitr
  · ipureintro; exact hfs
  · iexact H

/-- A local copy of a whole accumulator into a row block, by the cell's duty. -/
theorem copy_raw {α : Type} {Q : α → sProp 𝕄} (e : Bool) {r : ℕ} (hr : r < 4) (M : Memref sig .tc .hbm S512x8192 .bf16) (N : Memref sig .tc .vmem S512x8192 .bf16)
    {X : S512x8192.Idx → Elt F .bf16} {hwx : N.view.WordExact} {hwy : M.view.WordExact}
    {hsem : DmaTarget.Typed (nD := nD) .vmem (.dma (outS e) : SemLoc sig) (.here M : DmaTarget (nD := nD) (τ := τ) (sig := sig) .tc .hbm S512x8192 .bf16)}
    {k : PUnit → Prog (TpuEff nD τ sig (Elt F) Λ₀ .tc) α} (hN : M.view.amount (.dma (outS e)) = NO)
    (hP : iprop(owns (Val := Elt F) (c : Thread nD τ) M fullShare X ∗ owns (Val := Elt F) (c : Thread nD τ) N fullShare.right X) ⊢ (Rd PB).payload (outC e c) r 0) :
    iprop(cellInv (ER (F := F)) (Rd PB) (κ (outC e c)) (outC e c) ∗ owns (Val := Elt F) (c : Thread nD τ) N fullShare.right X ∗ any c M
        ∗ dutyTok (ER (F := F)) (outC e c) r 0 ∗ reached (ER (F := F)) (outC e c) r) ⊢
      iprop((cred (tallyAt (outC e c) 0 NO) -∗ wpc c (k ⟨⟩) Q) -∗ wpc c (.op (.enqueueDma N (.here M) (.dma (outS e)) hwx hwy hsem) k) Q) := by
  unfold any owns
  iintro ⟨#HI, ⟨%fs, %hfs, Hr⟩, ⟨%Y, %fd, -, HD⟩, Ht, #Hrd⟩
  have hpay := written_paid M N hP fd fs hfs
  iapply (Rounds.wp_copy_pointsTo 𝒱₀ (ER (F := F)) (Rd PB) (c : Thread nD τ) none (src := N) (dst := M) (sem := .dma (outS e)) (q := fullShare.right) (fs := fs) (fd := fd)
      (κ := κ (outC e c)) (r := r) (d := 0)
      (by rw [duties_out PB c e hr]; exact Finset.mem_singleton_self _) 0 NO hN (amount_out PB c e _ _) hpay)
  isplitr; · iexact HI
  isplitl [Hr]; · iexact Hr
  isplitl [HD]; · iexact HD
  isplitl [Ht]; · iexact Ht
  iexact Hrd

/-- Start the copy of block `2 r + e`. -/
theorem st_out {α : Type} {Q : α → sProp 𝕄} {K : Ctr} {x x' : Bool → AccS} {o o' : OutS} (e : Bool) (r : ℕ)
    (hx : x e = .proc (2 * r + e.toNat) false) (hx' : x' e = .proc (2 * r + e.toNat) true) (hxo : x' (!e) = x (!e))
    (hs : o.s e = r) (hw0 : o.w e = r) (hs' : o'.s e = r + 1) (hw' : o'.w e = r) (hso : o'.s (!e) = o.s (!e)) (hwo : o'.w (!e) = o.w (!e))
    (hb : Ready K (2 * r + e.toNat))
    {src : Memref sig .tc .vmem S512x8192 .bf16} {dst : Memref sig .tc .hbm S512x8192 .bf16} {sS : DmaSem sig}
    {hwx : src.view.WordExact} {hwy : dst.view.WordExact}
    {hsem : DmaTarget.Typed (nD := nD) .vmem (.dma sS : SemLoc sig) (.here dst : DmaTarget (nD := nD) (τ := τ) (sig := sig) .tc .hbm S512x8192 .bf16)}
    {k : PUnit → Prog (TpuEff nD τ sig (Elt F) Λ₀ .tc) α}
    (e1 : src = accM e) (e2 : dst = outM (fin8 (2 * r + e.toNat))) (e4 : sS = outS e)
    (H : StE PB κ ιs c xb wb K x' o' ⊢ wpc c (k ⟨⟩) Q) (hr : r < 4 := by omega) :
    StE PB κ ιs c xb wb K x o ⊢
      wpc c (.op (.enqueueDma src (.here dst) (.dma sS) hwx hwy hsem) k) Q := by
  subst e1 e2 e4
  unfold StE
  iintro ⟨#R, HO, HCr, HRel, HSw, HRv, HGr, HT, HA, HOu, HW⟩
  ihave HA := (bsp (Ψ := fun a => AccP PB c K a (x' a)) e (by rw [hxo])) $$ HA
  rw [hx, hx']
  unfold AccP
  icases HA with ⟨⟨-, HA⟩, HAB⟩
  ihave HA := (tiles_lend hb) $$ HA
  icases HA with ⟨HA, Hr⟩
  ihave HOu := (bsp (Ψ := fun b => OutP PB c b (o'.s b) (o'.w b)) e (by rw [hso, hwo])) $$ HOu
  rw [hs, hw0, hs', hw', par_blk]
  unfold OutP
  icases HOu with ⟨⟨Hat, #Hrd, Htk, Hcs, Hdone, Hrest⟩, HOB⟩
  ihave Htk := (Entails.of_eq (bigSep_Ico_succ_bot hr (fun r => dutyTok (ER (F := F)) (outC e c) r 0))) $$ Htk
  icases Htk with ⟨Ht, Htk⟩
  ihave Hrest := (Entails.of_eq (bigSep_Ico_succ_bot hr (fun r => any (F := F) c (outM (fin8 (2 * r + e.toNat)))))) $$ Hrest
  icases Hrest with ⟨HD, Hrest⟩
  iapply (copy_raw (κ := κ) e hr (outM (fin8 (2 * r + e.toNat))) (accM e) (X := FV PB (2 * r + e.toNat)) (out_credit _)
      (by rw [payload_out]; exact BI.Entails.refl _)) $$ [Hr HD Ht]
  · isplitr
    · iapply (recs_cell PB κ ιs (.out e) (by simp) c); iexact R
    isplitl [Hr]; · iexact Hr
    isplitl [HD]; · iexact HD
    isplitl [Ht]; · iexact Ht
    iexact Hrd
  iintro Hc
  iapply H
  unfold StE
  isplitr; · iexact R
  isplitl [HO]; · iexact HO
  isplitl [HCr]; · iexact HCr
  isplitl [HRel]; · iexact HRel
  isplitl [HSw]; · iexact HSw
  isplitl [HRv]; · iexact HRv
  isplitl [HGr]; · iexact HGr
  isplitl [HT]; · iexact HT
  isplitl [HA HAB]
  · iapply HAB
    isplitr
    · ipureintro; exact par_blk e r
    iexact HA
  isplitr [HW]
  · iapply HOB
    isplitl [Hat]; · iexact Hat
    isplitr; · iexact Hrd
    isplitl [Htk]; · iexact Htk
    isplitl [Hc]
    · rw [bigSep_Ico_succ_bot (Nat.lt_succ_self r), Finset.Ico_self]
      isplitl [Hc]; · iexact Hc
      rw [bigSep_empty]; iempintro
    isplitl [Hdone]; · iexact Hdone
    iexact Hrest
  iexact HW

theorem range_push (r : ℕ) (X : ℕ → sProp 𝕄) : iprop(X r ∗ bigSep (Finset.range r) X) ⊢ (bigSep (Finset.range (r + 1)) X : sProp 𝕄) := by
  rw [Finset.range_add_one, bigSep_insert Finset.notMem_range_self]
  exact BI.Entails.refl _

/-- Wait for it: the accumulator is free. -/
theorem st_owait {α : Type} {Q : α → sProp 𝕄} {K : Ctr} {x x' : Bool → AccS} {o o' : OutS} (e : Bool) (r : ℕ)
    (hx : x e = .proc (2 * r + e.toNat) true) (hx' : x' e = .any) (hxo : x' (!e) = x (!e))
    (hs : o.s e = r + 1) (hw0 : o.w e = r) (hs' : o'.s e = r + 1) (hw1 : o'.w e = r + 1) (hso : o'.s (!e) = o.s (!e)) (hwo : o'.w (!e) = o.w (!e))
    (hb : Done K (2 * r + e.toNat))
    {sp sp' : Space} {s s' : Shape} {src : Memref sig .tc sp s .bf16} {dst : Memref sig .tc sp' s' .bf16} {sS : DmaSem sig}
    {hw : src.view.WordExact} {hw' : dst.view.WordExact}
    {k : PUnit → Prog (TpuEff nD τ sig (Elt F) Λ₀ .tc) α} (e1 : sS = outS e) (e2 : dst.view.dmaCredit = NO)
    (H : StE PB κ ιs c xb wb K x' o' ⊢ wpc c (k ⟨⟩) Q) (hr : r < 4 := by omega) :
    StE PB κ ιs c xb wb K x o ⊢ wpc c (.op (.waitDma2 sS src dst hw hw') k) Q := by
  subst e1
  unfold StE
  iintro ⟨#R, ⟨%W, HO⟩, HCr, HRel, HSw, HRv, HGr, HT, HA, HOu, HW⟩
  ihave HA := (bsp (Ψ := fun a => AccP PB c K a (x' a)) e (by rw [hxo])) $$ HA
  rw [hx, hx']
  unfold AccP
  icases HA with ⟨⟨-, HA⟩, HAB⟩
  ihave HOu := (bsp (Ψ := fun b => OutP PB c b (o'.s b) (o'.w b)) e (by rw [hso, hwo])) $$ HOu
  rw [hs, hw0, hs', hw1]
  unfold OutP
  icases HOu with ⟨⟨Hat, -, Htk, Hcs, Hdone, Hrest⟩, HOB⟩
  ihave Hcs := (Entails.of_eq (bigSep_Ico_succ_bot (Nat.lt_succ_self r) (fun _ => cred (tallyAt (outC e c) 0 NO)))) $$ Hcs
  icases Hcs with ⟨Hc, Hcs⟩
  have hmw : (levAts L lv : sProp 𝕄) ⊢ MayWait (c : Thread nD τ) (.dma (outS e)) 0 (OO K c) :=
    mayWait K c _ 0 (by omega) (fun d' => by simp only [lv, kd_out, lvK]; omega)
  iapply (Rounds.wp_wait_rest_token 𝒱₀ (ER (F := F)) (Rd PB) (c : Thread nD τ) none (κ := κ (outC e c)) (k' := NO)
      (fun K' => (wpE_waitDma2_eq (src := src) (dst := dst) 𝒱₀ (c : Thread nD τ) none Set.univ K').trans (by rw [e2])) (Set.mem_univ _) 0 (O := OO K c) (W := W) (R := r) (m := 0) (T := ∅)
      (by rw [expect_out PB c e hr, Nat.zero_add])) $$ [Hc HO Hat]
  · isplitr
    · iapply (recs_cell PB κ ιs (.out e) (by simp) c); iexact R
    isplitl [Hc]; · iexact Hc
    isplitl [HO]; · iexact HO
    isplitr
    · iapply hmw; iapply (recs_lev PB κ ιs); iexact R
    iexact Hat
  iintro ⟨HO, Hat, #Hrd, Hp⟩
  have hpay : (bigSep ((Rd PB).duties (outC e c) r \ ∅) (fun d => (Rd PB).payload (outC e c) r d) : sProp 𝕄) ⊢ outPay PB e c r := by
    rw [Finset.sdiff_empty, duties_out PB c e hr, bigSep_singleton, payload_out]
  ihave Hp := hpay $$ Hp
  unfold outPay
  icases Hp with ⟨Hp, Hr⟩
  iapply H
  unfold StE
  isplitr; · iexact R
  isplitl [HO]; · iexists _; iexact HO
  isplitl [HCr]; · iexact HCr
  isplitl [HRel]; · iexact HRel
  isplitl [HSw]; · iexact HSw
  isplitl [HRv]; · iexact HRv
  isplitl [HGr]; · iexact HGr
  isplitl [HT]; · iexact HT
  isplitl [HA HAB Hr]
  · iapply HAB
    have hback := tiles_back (PB := PB) (c := c) hb
    rw [par_blk] at hback
    iapply hback
    isplitl [HA]; · iexact HA
    iexact Hr
  isplitr [HW]
  · iapply HOB
    isplitl [Hat]; · iexact Hat
    isplitr; · iexact Hrd
    isplitl [Htk]; · iexact Htk
    isplitl [Hcs]; · iexact Hcs
    isplitl [Hdone Hp]
    · iapply (range_push r (fun r => owns (Val := Elt F) (c : Thread nD τ) (outM (fin8 (2 * r + e.toNat))) fullShare (FV PB (2 * r + e.toNat))))
      isplitl [Hp]; · iexact Hp
      iexact Hdone
    iexact Hrest
  iexact HW

end

end Cert.KernelIdeal.Ring
-- ==== Proof.Start.lean ====
module

public import proofs.«01_k».proof.Proof.Outs

/-! The entry: the landing places of micros 0 and 1 are released, then the neighbours meet at the barrier. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable (PB : Dev nD → ℕ → AccT F) (κ : GSem nD τ sig → ℕ) (ιs : Key → ℕ) (c : Dev nD)
variable (xb : Dev nD → S4096x1024.Idx → Elt F .bf16) (wb : Dev nD → S1024x8192.Idx → Elt F .bf16)

def x00 : Bool → AccS := fun _ => .any
def o00 : OutS := ⟨fun _ => 0, fun _ => 0⟩

/-- The credits of direction `d` before anything is released, with the two landing buffers. -/
def GrI (d : Bool) : sProp 𝕄 :=
  iprop(bigSep (Finset.Ico 0 94) (fun k => dutyTok (ER (F := F)) (credC d (pv d c)) 0 k) ∗
    bigSep (Finset.Ico 0 96) (fun m => readerAt (ES (F := F)) (d, c, m) 0) ∗ any c (slotM d false) ∗ any c (slotM d true))

/-- The credits of direction `d` once the two landing buffers are released. -/
def GrO (d : Bool) : sProp 𝕄 :=
  iprop(bigSep (Finset.Ico 0 94) (fun k => dutyTok (ER (F := F)) (credC d (pv d c)) 0 k) ∗
    bigSep (Finset.Ico (0 + 2) 96) (fun m => readerAt (ES (F := F)) (d, c, m) 0) ∗ relTo (F := F) d c (0 + 2))

/-- The barrier: its wait, and the two signals. -/
def BarI : sProp 𝕄 :=
  iprop(atPos (ER (F := F)) (barC c) 0 ∅ 0 ∗ cred (tallyAt (barC c) 0 2) ∗
    (dutyTok (ER (F := F)) (barC (nb true c)) 0 0 ∗ reached (ER (F := F)) (barC (nb true c)) 0) ∗
    (dutyTok (ER (F := F)) (barC (nb false c)) 0 1 ∗ reached (ER (F := F)) (barC (nb false c)) 0) ∗
    (reached (ER (F := F)) (credC false c) 0 ∗ reached (ER (F := F)) (credC true c) 0))

/-- What the device owes on entry. -/
def OI : CellTallies nD τ sig ℕ := OO (ctr 0 0) c + tallyAt (barC (nb false c)) 0 1 + tallyAt (barC (nb true c)) 0 1

/-- Everything device `c` holds on entry. -/
def StI : sProp 𝕄 :=
  iprop(recs PB κ ιs ∗ (∃ W, owes (c : Thread nD τ) (OI c) W) ∗
    bigSep (Finset.univ : Finset Bool) (fun d => CrP (F := F) c d 0) ∗
    bigSep (Finset.univ : Finset Bool) (fun d => SwP (F := F) c d 0 0) ∗
    bigSep (Finset.univ : Finset Bool) (fun d => RvP (F := F) c d 0) ∗
    bigSep (Finset.univ : Finset Bool) (fun d => GrI (F := F) c d) ∗
    bigSep (Finset.univ : Finset Bool) (fun a => any (F := F) c (accM a)) ∗
    bigSep (Finset.univ : Finset Bool) (fun b => OutP PB c b 0 0) ∗
    WinP c xb wb ∗ BarI (F := F) c)

end

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

theorem reach_first (d : Bool) : RvP (F := F) c d 0 ⊢ (iprop(reached (ER (F := F)) (recvC d (par 0) c) (0 / 2) ∗ reached (ER (F := F)) (recvC d (par 1) c) (1 / 2)) : sProp 𝕄) := by
  unfold RvP rPos
  iintro ⟨⟨-, H⟩, ⟨-, H'⟩, -⟩
  isplitl [H]; · iexact H
  iexact H'

theorem relTo_two (d : Bool) : iprop((released (ES (F := F)) (d, c, 0) 1 ∗ reached (ER (F := F)) (recvC d (par 0) c) (0 / 2)) ∗
    (released (ES (F := F)) (d, c, 1) 1 ∗ reached (ER (F := F)) (recvC d (par 1) c) (1 / 2))) ⊢ relTo (F := F) d c 2 := by
  unfold relTo
  refine BIBase.Entails.trans ?_ (Entails.of_eq (bigSep_range_succ 1 (relF (F := F) d c)).symm)
  rw [bigSep_range_succ 0, Finset.range_zero, bigSep_empty]
  unfold relF
  iintro ⟨H, H'⟩
  isplitl [H']; · iexact H'
  isplitl [H]; · iexact H
  iempintro

theorem nb_nb (d : Bool) (c : Dev nD) : nb d (nb (!d) c) = c := by revert c; revert d; decide

theorem slot_any (d s : Bool) (m : ℕ) (hm : m % 12 < 6) (hs : par m = s) : (any c (slotM d s) : sProp 𝕄) ⊢ Sl (d, c, m) :=
  Entails.of_eq (by rw [← hs, Sl_eq]; unfold dstM; rw [if_pos hm])

/-- Release the two landing buffers of direction `d`. -/
theorem open_slots (d : Bool) :
    iprop(recs PB κ ιs ∗ RvP (F := F) c d 0 ∗ GrI (F := F) c d) ⊢ (|={Set.univ}=> (RvP (F := F) c d 0 ∗ GrO (F := F) c d ∗ relTo (F := F) d c 2) : sProp 𝕄) := by
  iintro ⟨#R, HR, HG⟩
  ihave HR := (persistent_entails_left (reach_first d)) $$ HR
  icases HR with ⟨HR, #⟨H0, H1⟩⟩
  unfold GrI
  icases HG with ⟨Htk, Hrd, Ha, Hb⟩
  ihave Hrd := (Entails.of_eq (bigSep_Ico_succ_bot (show 0 < 96 by omega) (fun m => readerAt (ES (F := F)) (d, c, m) 0))) $$ Hrd
  icases Hrd with ⟨Hra, Hrd⟩
  ihave Hrd := (Entails.of_eq (bigSep_Ico_succ_bot (show 0 + 1 < 96 by omega) (fun m => readerAt (ES (F := F)) (d, c, m) 0))) $$ Hrd
  icases Hrd with ⟨Hrb, Hrd⟩
  ihave Ha := (slot_any (c := c) d false 0 (by omega) rfl) $$ Ha
  ihave Hb := (slot_any (c := c) d true 1 (by omega) rfl) $$ Hb
  imod (slot_release (ES (F := F)) (Set.mem_univ (ιs (d, c, 0))) (Sl_false (d, c, 0)) 0) $$ [Hra Ha] with ⟨-, #Hf0⟩
  · isplitr
    · iapply (recs_slot PB κ ιs d c (show 0 < 96 by omega)); iexact R
    isplitl [Hra]; · iexact Hra
    iexact Ha
  imod (slot_release (ES (F := F)) (Set.mem_univ (ιs (d, c, 1))) (Sl_false (d, c, 1)) 0) $$ [Hrb Hb] with ⟨-, #Hf1⟩
  · isplitr
    · iapply (recs_slot PB κ ιs d c (show 1 < 96 by omega)); iexact R
    isplitl [Hrb]; · iexact Hrb
    iexact Hb
  imodintro
  ihave #Hall := (relTo_two d) $$ []
  · isplitr
    · isplitr; · iexact Hf0
      iexact H0
    isplitr; · iexact Hf1
    iexact H1
  isplitl [HR]; · iexact HR
  isplitl [Htk Hrd]
  · unfold GrO
    isplitl [Htk]; · iexact Htk
    isplitl [Hrd]; · iexact Hrd
    iexact Hall
  iexact Hall

theorem two_bool (X : Bool → sProp 𝕄) : bigSep (Finset.univ : Finset Bool) X ⊢ (iprop(X false ∗ X true) : sProp 𝕄) := by
  rw [show (Finset.univ : Finset Bool) = insert false {true} by decide, bigSep_insert (by decide), bigSep_singleton]
  exact BI.Entails.refl _

theorem bool_two (X : Bool → sProp 𝕄) : iprop(X false ∗ X true) ⊢ (bigSep (Finset.univ : Finset Bool) X : sProp 𝕄) := by
  rw [show (Finset.univ : Finset Bool) = insert false {true} by decide, bigSep_insert (by decide), bigSep_singleton]
  exact BI.Entails.refl _

theorem nb_pv' (d : Bool) (c : Dev nD) : nb (!d) c = pv d c := by revert c; revert d; decide

theorem bar_split : (iprop((relTo (F := F) false (pv true c) 2 ∗ reached (ER (F := F)) (credC true (pv true c)) 0) ∗
      relTo (F := F) true (pv false c) 2 ∗ reached (ER (F := F)) (credC false (pv false c)) 0) : sProp 𝕄) ⊢
    iprop(bigSep (Finset.univ : Finset Bool) (fun d => RelP (F := F) c d 0) ∗
      reached (ER (F := F)) (credC true (pv true c)) 0 ∗ reached (ER (F := F)) (credC false (pv false c)) 0) := by
  iintro ⟨⟨HA, HrA⟩, ⟨HB, HrB⟩⟩
  isplitl [HA HB]
  · iapply (bool_two (fun d => RelP (F := F) c d 0))
    unfold RelP
    rw [show nb false c = pv true c from nb_pv' true c, show nb true c = pv false c from nb_pv' false c]
    isplitl [HA]; · iexact HA
    iexact HB
  isplitl [HrA]; · iexact HrA
  iexact HrB

theorem barP_two : (bigSep ((Rd PB).duties (barC c) 0 \ ∅) (fun d => (Rd PB).payload (barC c) 0 d) : sProp 𝕄) ⊢
    iprop(bigSep (Finset.univ : Finset Bool) (fun d => RelP (F := F) c d 0) ∗
      reached (ER (F := F)) (credC true (pv true c)) 0 ∗ reached (ER (F := F)) (credC false (pv false c)) 0) := by
  rw [Finset.sdiff_empty, duties_bar, bigSep_insert (by decide), bigSep_singleton, payload_bar, payload_bar,
    show par 0 = false by decide, show par 1 = true by decide, Bool.not_false, Bool.not_true,
    show nb false c = pv true c from nb_pv' true c, show nb true c = pv false c from nb_pv' false c]
  exact bar_split

theorem grO_grP (d : Bool) : iprop(GrO (F := F) c d ∗ reached (ER (F := F)) (credC d (pv d c)) 0) ⊢ GrP (F := F) c d 0 := by
  unfold GrO GrP
  iintro ⟨⟨Ht, Hrd, Hr⟩, H⟩
  isplitl [Ht]; · iexact Ht
  isplitl [H]; · iexact H
  isplitl [Hrd]; · iexact Hrd
  iexact Hr

theorem four_emp : (iprop(emp) : sProp 𝕄) ⊢ iprop(emp ∗ emp ∗ emp ∗ emp) := by
  iintro -
  isplitr; · iempintro
  isplitr; · iempintro
  isplitr; · iempintro
  iempintro

theorem tmp_start : (iprop(emp) : sProp 𝕄) ⊢ bigSep (Finset.univ : Finset (Bool × Bool)) (fun p => TmpP PB c p.1 p.2 ((ctr 0 0).rv p.1) ((ctr 0 0).ad p.1) ((ctr 0 0).gr p.1)) := by
  have h : ∀ p : Bool × Bool, TmpP PB c p.1 p.2 ((ctr 0 0).rv p.1) ((ctr 0 0).ad p.1) ((ctr 0 0).gr p.1) = iprop(emp) := fun p => by
    unfold TmpP
    exact if_pos (by obtain ⟨d, s⟩ := p; revert d s; decide)
  rw [show (fun p : Bool × Bool => TmpP PB c p.1 p.2 ((ctr 0 0).rv p.1) ((ctr 0 0).ad p.1) ((ctr 0 0).gr p.1)) = fun _ => iprop(emp) from funext h,
    show (Finset.univ : Finset (Bool × Bool)) = insert (false, false) (insert (false, true) (insert (true, false) {(true, true)})) by decide,
    bigSep_insert (by decide), bigSep_insert (by decide), bigSep_insert (by decide), bigSep_singleton]
  exact four_emp

/-- What a program does not touch is kept. -/
theorem st_keep {α : Type} {Q : α → sProp 𝕄} {S R : sProp 𝕄} {p : Prog (TpuEff nD τ sig (Elt F) Λ₀ .tc) α} (h : S ⊢ wpc c p Q) :
    iprop(S ∗ R) ⊢ wpc c p (fun r => iprop(Q r ∗ R)) := by
  refine BIBase.Entails.trans (BIClass.sep_mono h (BI.Entails.refl _)) ?_
  unfold wpc
  exact wp_frame_r _ _ _

/-- The barrier: both neighbours' landing buffers are known to be free. -/
theorem st_barrier {α : Type} {Q : α → sProp 𝕄} {a b : Dev nD} {s1 s2 s3 : Sem sig} {hr1 : τ.routes (c : Thread nD τ) (a : Thread nD τ) = true} {hr2 : τ.routes (c : Thread nD τ) (b : Thread nD τ) = true}
    {k : PUnit → Prog (TpuEff nD τ sig (Elt F) Λ₀ .tc) α} (ea : a = nb true c) (eb : b = nb false c) (e1 : s1 = barS) (e2 : s2 = barS) (e3 : s3 = barS)
    (H : StE PB κ ιs c xb wb (ctr 0 0) x00 o00 ⊢ wpc c (k ⟨⟩) Q) :
    StI PB κ ιs c xb wb ⊢ wpc c (.op (.semSignal (a : Thread nD τ) s1 1) fun _ => .op (.semSignal (b : Thread nD τ) s2 1) fun _ => .op (.semWait s3 2) k)
      (fun r => iprop(Q r ∗ atPos (ER (F := F)) (barC c) 1 ∅ 0)) := by
  subst ea eb e1 e2 e3
  unfold StI
  iintro ⟨#R, ⟨%W, HO⟩, HCr, HSw, HRv, HGr, HA, HOu, HW, HB⟩
  unfold BarI
  icases HB with ⟨Hat, Hc, ⟨Ht0, #Hr0⟩, ⟨Ht1, #Hr1⟩, ⟨#HcA, #HcB⟩⟩
  ihave HRv := (two_bool (fun d => RvP (F := F) c d 0)) $$ HRv
  icases HRv with ⟨HRA, HRB⟩
  ihave HGr := (two_bool (fun d => GrI (F := F) c d)) $$ HGr
  icases HGr with ⟨HGA, HGB⟩
  imod (open_slots (PB := PB) (κ := κ) (ιs := ιs) (c := c) false) $$ [HRA HGA] with ⟨HRA, HGA, #HrelA⟩
  · isplitr; · iexact R
    isplitl [HRA]; · iexact HRA
    iexact HGA
  imod (open_slots (PB := PB) (κ := κ) (ιs := ιs) (c := c) true) $$ [HRB HGB] with ⟨HRB, HGB, #HrelB⟩
  · isplitr; · iexact R
    isplitl [HRB]; · iexact HRB
    iexact HGB
  unfold OI
  iapply (Rounds.wp_signal 𝒱₀ (ER (F := F)) (Rd PB) (c : Thread nD τ) none (dst := (nb true c : Thread nD τ)) (sem := barS) (r := 0) (d := 0) (k' := 1)
      (κ := κ (barC (nb true c))) (by rw [duties_bar]; decide) (amount_bar PB (nb true c) _ _) 0
      (OO (ctr 0 0) c + tallyAt (barC (nb false c)) 0 1) rfl (W := W) (hr := hr1)) $$ [HO Ht0]
  · isplitr
    · iapply (recs_cell PB κ ιs .bar (by simp) (nb true c)); iexact R
    isplitl [HO]; · iexact HO
    isplitl [Ht0]; · iexact Ht0
    isplitr
    · rw [payload_bar]
      rw [show par 0 = false by decide, show nb false (nb true c) = c from nb_nb false c, Bool.not_false]
      isplitr; · iexact HrelA
      iexact HcB
    iexact Hr0
  iintro HO
  iapply (Rounds.wp_signal 𝒱₀ (ER (F := F)) (Rd PB) (c : Thread nD τ) none (dst := (nb false c : Thread nD τ)) (sem := barS) (r := 0) (d := 1) (k' := 1)
      (κ := κ (barC (nb false c))) (by rw [duties_bar]; decide) (amount_bar PB (nb false c) _ _) 0
      (OO (ctr 0 0) c) rfl (W := W) (hr := hr2)) $$ [HO Ht1]
  · isplitr
    · iapply (recs_cell PB κ ιs .bar (by simp) (nb false c)); iexact R
    isplitl [HO]; · iexact HO
    isplitl [Ht1]; · iexact Ht1
    isplitr
    · rw [payload_bar]
      rw [show par 1 = true by decide, show nb true (nb false c) = c from nb_nb true c, Bool.not_true]
      isplitr; · iexact HrelB
      iexact HcA
    iexact Hr1
  iintro HO
  have hmw : (levAts L lv : sProp 𝕄) ⊢ MayWait (c : Thread nD τ) (.reg barS) 0 (OO (ctr 0 0) c) :=
    mayWait (ctr 0 0) c _ 0 (by omega) (fun d' => by simp only [lv, kd_bar, lvK]; omega)
  iapply (Rounds.wp_wait_rest_token 𝒱₀ (ER (F := F)) (Rd PB) (c : Thread nD τ) none (κ := κ (barC c)) (k' := 2)
      (wpE_semWait_eq 𝒱₀ (c : Thread nD τ) none Set.univ) (Set.mem_univ _) 0 (O := OO (ctr 0 0) c) (W := W) (R := 0) (m := 0) (T := ∅)
      (by rw [expect_bar])) $$ [Hc HO Hat]
  · isplitr
    · iapply (recs_cell PB κ ιs .bar (by simp) c); iexact R
    isplitl [Hc]; · iexact Hc
    isplitl [HO]; · iexact HO
    isplitr
    · iapply hmw; iapply (recs_lev PB κ ιs); iexact R
    iexact Hat
  iintro ⟨HO, Hat, -, Hp⟩
  ihave Hp := (barP_two (PB := PB) (c := c)) $$ Hp
  icases Hp with ⟨Hp, HrB, HrA⟩
  iapply (st_keep (c := c) H)
  isplitr [Hat]
  swap
  · iexact Hat
  unfold StE
  isplitr; · iexact R
  isplitl [HO]; · iexists _; iexact HO
  isplitl [HCr]; · iexact HCr
  isplitl [Hp]; · iexact Hp
  isplitl [HSw]; · iexact HSw
  isplitl [HRA HRB]
  · iapply (bool_two (fun d => RvP (F := F) c d ((ctr 0 0).rv d)))
    isplitl [HRA]; · iexact HRA
    iexact HRB
  isplitl [HGA HGB HrA HrB]
  · iapply (bool_two (fun d => GrP (F := F) c d ((ctr 0 0).gr d)))
    isplitl [HGA HrA]
    · iapply (grO_grP (c := c) false)
      isplitl [HGA]; · iexact HGA
      iexact HrA
    iapply (grO_grP (c := c) true)
    isplitl [HGB]; · iexact HGB
    iexact HrB
  isplitr
  · iapply (tmp_start (PB := PB) (c := c)); iempintro
  isplitl [HA]; · iexact HA
  isplitl [HOu]; · iexact HOu
  iexact HW

end

end Cert.KernelIdeal.Ring
-- ==== Proof.Cells.lean ====
module

public import proofs.«01_k».proof.Proof.Start

/-! The cells of the protocol, and every cell's duties and credits dealt to the devices that pay and receive them. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ### The cells -/

def semOf : Kd → SemLoc sig
  | .bar => .reg barS | .cred d => .reg (credS d) | .send d s => .dma (sendS d s) | .recv d s => .dma (recvS d s)
  | .out o => .dma (outS o) | .idle => .dma 0

theorem gOf_eq (k : Kd) (c : Dev nD) : gOf k c = ((c : Thread nD τ), semOf k) := by cases k <;> rfl

/-- The kinds of the kernel's own semaphores. -/
def okd : Fin 12 → Kd :=
  ![.cred false, .send false false, .send false true, .recv false false, .recv false true, .out false,
    .cred true, .send true false, .send true true, .recv true false, .recv true true, .out true]

abbrev osem (k : Fin 12) : SemLoc sig := semOf (okd k)

theorem okd_own (k : Fin 12) : okd k ≠ .idle ∧ okd k ≠ .bar := by revert k; decide
theorem osem_inj : Function.Injective osem := by decide
theorem osem_ne_bar : ∀ k : Fin 12, osem k ≠ .reg barS := by decide
theorem own_facts : Pipeline.OwnSemFacts spec0 osem := by decide

def barEmb : Dev nD ↪ GSem nD τ sig := ⟨fun c => barC c, fun _ _ h => congrArg (fun g : GSem nD τ sig => g.1.1) h⟩
def scEmb : Dev nD × Fin 12 ↪ GSem nD τ sig :=
  ⟨fun p => ((p.1 : Thread nD τ), osem p.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem cells_apart : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

theorem okd_onto (k : Kd) (h1 : k ≠ .idle) (h2 : k ≠ .bar) : ∃ i, okd i = k := by
  rcases k with _ | d | ⟨d, s⟩ | ⟨d, s⟩ | o | _
  · exact absurd rfl h2
  · cases d
    · exact ⟨0, rfl⟩
    · exact ⟨6, rfl⟩
  · cases d <;> cases s
    · exact ⟨1, rfl⟩
    · exact ⟨2, rfl⟩
    · exact ⟨7, rfl⟩
    · exact ⟨8, rfl⟩
  · cases d <;> cases s
    · exact ⟨3, rfl⟩
    · exact ⟨4, rfl⟩
    · exact ⟨9, rfl⟩
    · exact ⟨10, rfl⟩
  · cases o
    · exact ⟨5, rfl⟩
    · exact ⟨11, rfl⟩
  · exact absurd rfl h1

theorem allK_ne {k : Kd} (h : k ∈ allK) : k ≠ .idle := by rintro rfl; exact absurd h (by decide)

theorem cell_mem {k : Kd} (hk : k ≠ .idle) (c : Dev nD) : gOf k c ∈ (barCells ∪ scCells : Finset (GSem nD τ sig)) := by
  by_cases hb : k = .bar
  · subst hb
    exact Finset.mem_union_left _ (Finset.mem_map_of_mem barEmb (Finset.mem_univ c))
  · obtain ⟨i, rfl⟩ := okd_onto k hk hb
    rw [gOf_eq]
    exact Finset.mem_union_right _ (Finset.mem_map_of_mem scEmb (Finset.mem_univ (c, i)))

theorem twelve_split (X : Kd → sProp 𝕄) : (bigSep (Finset.univ : Finset (Fin 12)) fun k => X (okd k)) ⊢
    bigSep (Finset.univ : Finset Bool) fun d => iprop(X (.cred d) ∗ (X (.send d false) ∗ X (.send d true)) ∗ (X (.recv d false) ∗ X (.recv d true)) ∗ X (.out d)) := by
  rw [bigSep_univ_eq_bigSepL [(0 : Fin 12), 1, 2, 3, 4, 5, 6, 7, 8, 9, 10, 11] (by decide) (by decide)]
  refine BI.Entails.trans ?_ (bool_two _)
  show iprop(X (.cred false) ∗ X (.send false false) ∗ X (.send false true) ∗ X (.recv false false) ∗ X (.recv false true) ∗ X (.out false) ∗
    X (.cred true) ∗ X (.send true false) ∗ X (.send true true) ∗ X (.recv true false) ∗ X (.recv true true) ∗ X (.out true)) ⊢ _
  iintro ⟨H1, H2, H3, H4, H5, H6, K1, K2, K3, K4, K5, K6⟩
  isplitl [H1 H2 H3 H4 H5 H6]
  · isplitl [H1]; · iexact H1
    isplitl [H2 H3]
    · isplitl [H2]; · iexact H2
      iexact H3
    isplitl [H4 H5]
    · isplitl [H4]; · iexact H4
      iexact H5
    iexact H6
  · isplitl [K1]; · iexact K1
    isplitl [K2 K3]
    · isplitl [K2]; · iexact K2
      iexact K3
    isplitl [K4 K5]
    · isplitl [K4]; · iexact K4
      iexact K5
    iexact K6

theorem twelve_join (X : Kd → sProp 𝕄) : (bigSep (Finset.univ : Finset Bool) fun d => iprop(X (.cred d) ∗ (X (.send d false) ∗ X (.send d true)) ∗ (X (.recv d false) ∗ X (.recv d true)) ∗ X (.out d))) ⊢
    (bigSep (Finset.univ : Finset (Fin 12)) fun k => X (okd k)) := by
  rw [bigSep_univ_eq_bigSepL [(0 : Fin 12), 1, 2, 3, 4, 5, 6, 7, 8, 9, 10, 11] (by decide) (by decide)]
  refine (two_bool _).trans ?_
  show _ ⊢ iprop(X (.cred false) ∗ X (.send false false) ∗ X (.send false true) ∗ X (.recv false false) ∗ X (.recv false true) ∗ X (.out false) ∗
    X (.cred true) ∗ X (.send true false) ∗ X (.send true true) ∗ X (.recv true false) ∗ X (.recv true true) ∗ X (.out true))
  iintro ⟨⟨H1, ⟨H2, H3⟩, ⟨H4, H5⟩, H6⟩, ⟨K1, ⟨K2, K3⟩, ⟨K4, K5⟩, K6⟩⟩
  isplitl [H1]; · iexact H1
  isplitl [H2]; · iexact H2
  isplitl [H3]; · iexact H3
  isplitl [H4]; · iexact H4
  isplitl [H5]; · iexact H5
  isplitl [H6]; · iexact H6
  isplitl [K1]; · iexact K1
  isplitl [K2]; · iexact K2
  isplitl [K3]; · iexact K3
  isplitl [K4]; · iexact K4
  isplitl [K5]; · iexact K5
  iexact K6

/-! ### The tokens -/

def tk : Fin 5 × Bool × Dev nD × ℕ → GSem nD τ sig × ℕ × ℕ
  | (0, d, c, n) => (barC c, n, d.toNat)
  | (1, d, c, n) => (credC d c, 0, n)
  | (2, d, c, n) => (sendC d (par n) c, n / 2, 0)
  | (3, d, c, n) => (recvC d (par n) c, n / 2, 0)
  | (4, d, c, n) => (outC d c, n, 0)

/-- Which token a cell, a round and a duty name. -/
def untk (t : GSem nD τ sig × ℕ × ℕ) : Fin 5 × Bool × Dev nD × ℕ :=
  match kd t.1.2 with
  | .bar => (0, decide (t.2.2 = 1), t.1.1.1, t.2.1)
  | .cred d => (1, d, t.1.1.1, t.2.2)
  | .send d s => (2, d, t.1.1.1, mic s t.2.1)
  | .recv d s => (3, d, t.1.1.1, mic s t.2.1)
  | .out o => (4, o, t.1.1.1, t.2.1)
  | .idle => (0, false, 0, 0)

theorem untk_tk (x : Fin 5 × Bool × Dev nD × ℕ) : untk (tk x) = x := by
  obtain ⟨j, d, c, n⟩ := x
  fin_cases j
  · show untk (barC c, n, d.toNat) = _
    unfold untk
    simp only [kd_bar]
    cases d <;> rfl
  · show untk (credC d c, 0, n) = _
    unfold untk
    simp only [kd_cred]
    rfl
  · show untk (sendC d (par n) c, n / 2, 0) = _
    unfold untk
    simp only [kd_send, mic_par]
    rfl
  · show untk (recvC d (par n) c, n / 2, 0) = _
    unfold untk
    simp only [kd_recv, mic_par]
    rfl
  · show untk (outC d c, n, 0) = _
    unfold untk
    simp only [kd_out]
    rfl

def tkEmb : Fin 5 × Bool × Dev nD × ℕ ↪ GSem nD τ sig × ℕ × ℕ := ⟨tk, (show Function.LeftInverse untk tk from untk_tk).injective⟩

def allToks : Finset (GSem nD τ sig × ℕ × ℕ) :=
  (Finset.univ ×ˢ Finset.univ ×ˢ Finset.univ ×ˢ Finset.range 96).map tkEmb

def nbE (d : Bool) : Dev nD ≃ Dev nD := ⟨nb d, pv d, pv_nb d, nb_pv d⟩

/-- A family over pairs, one first component at a time. -/
theorem over_pairs {I J : Type} [DecidableEq I] [DecidableEq J] (t : Finset J) (f : I × J → sProp 𝕄) (s : Finset I) :
    bigSep (s ×ˢ t) f = bigSep s fun i => bigSep t fun j => f (i, j) := by
  refine Finset.induction_on s ?_ fun a s ha ih => ?_
  · simp only [Finset.empty_product, bigSep_empty]
  have hd : Disjoint (t.map ⟨fun j => (a, j), fun _ _ h => congrArg Prod.snd h⟩) (s ×ˢ t) := by
    rw [Finset.disjoint_left]
    intro x hx hy
    obtain ⟨j, -, rfl⟩ := Finset.mem_map.mp hx
    exact ha (Finset.mem_product.mp hy).1
  have hu : insert a s ×ˢ t = t.map ⟨fun j => (a, j), fun _ _ h => congrArg Prod.snd h⟩ ∪ s ×ˢ t := by
    ext ⟨i, j⟩
    simp only [Finset.mem_product, Finset.mem_insert, Finset.mem_union, Finset.mem_map, Function.Embedding.coeFn_mk]
    constructor
    · rintro ⟨h | h, hj⟩
      · exact .inl ⟨j, hj, by subst h; exact rfl⟩
      · exact .inr ⟨h, hj⟩
    · rintro (⟨j', hj, h⟩ | h)
      · exact ⟨.inl (congrArg Prod.fst h).symm, by have e : j' = j := congrArg Prod.snd h; exact e ▸ hj⟩
      · exact ⟨.inr h.1, h.2⟩
  rw [hu, bigSep_union hd, ih, bigSep_map, bigSep_insert ha]
  rfl

/-- Holdings listed by direction and device, dealt out with a turn of the devices. -/
theorem deal (N : ℕ) (f : Bool × Dev nD × ℕ → sProp 𝕄) (e : Bool → Dev nD ≃ Dev nD) :
    bigSep (Finset.univ ×ˢ Finset.univ ×ˢ Finset.range N) f =
      bigSep Finset.univ fun c => bigSep Finset.univ fun d => bigSep (Finset.range N) fun n => f (d, e d c, n) := by
  have h : ∀ d : Bool, (bigSep (Finset.univ ×ˢ Finset.range N) fun j : Dev nD × ℕ => f (d, j)) =
      bigSep Finset.univ fun c => bigSep (Finset.range N) fun n => f (d, e d c, n) := fun d => by
    rw [over_pairs, bigSep_univ_equiv (e d)]
  rw [over_pairs, show (fun d => bigSep (Finset.univ ×ˢ Finset.range N) fun j : Dev nD × ℕ => f (d, j)) = fun d => bigSep Finset.univ fun c => bigSep (Finset.range N) fun n => f (d, e d c, n) from funext h]
  exact bigSep_univ_comm _

theorem less (N : ℕ) (h : N ≤ 96) (X : Dev nD → Bool → ℕ → sProp 𝕄) :
    (bigSep Finset.univ fun c => bigSep Finset.univ fun d => bigSep (Finset.range 96) (X c d)) ⊢
      bigSep Finset.univ fun c => bigSep Finset.univ fun d => bigSep (Finset.range N) (X c d) :=
  bigSep_mono fun _ _ => bigSep_mono fun _ _ => bigSep_subset (Finset.range_mono h)

theorem sep_meet {I : Type} (s : Finset I) (X Y : I → sProp 𝕄) : (iprop(bigSep s X ∗ bigSep s Y) : sProp 𝕄) ⊢ bigSep s (fun i => iprop(X i ∗ Y i)) :=
  Entails.of_eq (bigSep_sep s X Y).symm

theorem pair2 (X Y : Dev nD → Bool → sProp 𝕄) :
    iprop((bigSep Finset.univ fun c => bigSep Finset.univ (X c)) ∗ (bigSep Finset.univ fun c => bigSep Finset.univ (Y c))) ⊢
      bigSep Finset.univ fun c => bigSep Finset.univ fun d => iprop(X c d ∗ Y c d) := by
  refine (sep_meet Finset.univ _ _).trans (bigSep_mono fun c _ => ?_)
  exact sep_meet Finset.univ _ _

/-- What device `c` pays in direction `d`. -/
def DutD (c : Dev nD) (d : Bool) : sProp 𝕄 :=
  iprop(bigSep (Finset.range 1) (fun n => dutyTok (ER (F := F)) (barC (nb (!d) c)) n d.toNat) ∗
    bigSep (Finset.range 94) (fun k => dutyTok (ER (F := F)) (credC d (pv d c)) 0 k) ∗
    bigSep (Finset.range 96) (fun n => dutyTok (ER (F := F)) (sendC d (par n) c) (n / 2) 0) ∗
    bigSep (Finset.range 96) (fun n => dutyTok (ER (F := F)) (recvC d (par n) (nb d c)) (n / 2) 0) ∗
    bigSep (Finset.range 4) (fun n => dutyTok (ER (F := F)) (outC d c) n 0))

theorem toks_dealt : (bigSep allToks fun x => (dutyTok (ER (F := F)) x.1 x.2.1 x.2.2 : sProp 𝕄)) ⊢
    bigSep Finset.univ fun c => bigSep Finset.univ (DutD (F := F) c) := by
  unfold allToks
  rw [bigSep_map, over_pairs, bigSep_univ_eq_bigSepL [(0 : Fin 5), 1, 2, 3, 4] (by decide) (by decide)]
  have e0 : (bigSep (Finset.univ ×ˢ Finset.univ ×ˢ Finset.range 96) fun y : Bool × Dev nD × ℕ => (dutyTok (ER (F := F)) (barC y.2.1) y.2.2 y.1.toNat : sProp 𝕄)) ⊢ _ :=
    (Entails.of_eq (deal (F := F) 96 _ (fun d => nbE (!d)))).trans (less 1 (by omega) (fun c d n => dutyTok (ER (F := F)) (barC (nb (!d) c)) n d.toNat))
  have e1 : (bigSep (Finset.univ ×ˢ Finset.univ ×ˢ Finset.range 96) fun y : Bool × Dev nD × ℕ => (dutyTok (ER (F := F)) (credC y.1 y.2.1) 0 y.2.2 : sProp 𝕄)) ⊢ _ :=
    (Entails.of_eq (deal (F := F) 96 _ (fun d => (nbE d).symm))).trans (less 94 (by omega) (fun c d n => dutyTok (ER (F := F)) (credC d (pv d c)) 0 n))
  have e2 : (bigSep (Finset.univ ×ˢ Finset.univ ×ˢ Finset.range 96) fun y : Bool × Dev nD × ℕ => (dutyTok (ER (F := F)) (sendC y.1 (par y.2.2) y.2.1) (y.2.2 / 2) 0 : sProp 𝕄)) ⊢ _ :=
    (Entails.of_eq (deal (F := F) 96 _ (fun _ => Equiv.refl _))).trans (less 96 (by omega) (fun c d n => dutyTok (ER (F := F)) (sendC d (par n) c) (n / 2) 0))
  have e3 : (bigSep (Finset.univ ×ˢ Finset.univ ×ˢ Finset.range 96) fun y : Bool × Dev nD × ℕ => (dutyTok (ER (F := F)) (recvC y.1 (par y.2.2) y.2.1) (y.2.2 / 2) 0 : sProp 𝕄)) ⊢ _ :=
    (Entails.of_eq (deal (F := F) 96 _ nbE)).trans (less 96 (by omega) (fun c d n => dutyTok (ER (F := F)) (recvC d (par n) (nb d c)) (n / 2) 0))
  have e4 : (bigSep (Finset.univ ×ˢ Finset.univ ×ˢ Finset.range 96) fun y : Bool × Dev nD × ℕ => (dutyTok (ER (F := F)) (outC y.1 y.2.1) y.2.2 0 : sProp 𝕄)) ⊢ _ :=
    (Entails.of_eq (deal (F := F) 96 _ (fun _ => Equiv.refl _))).trans (less 4 (by omega) (fun c d n => dutyTok (ER (F := F)) (outC d c) n 0))
  refine (BIClass.sep_mono e0 (BIClass.sep_mono e1 (BIClass.sep_mono e2 (BIClass.sep_mono e3 e4)))).trans ?_
  unfold DutD
  refine (BIClass.sep_mono (BI.Entails.refl _) ((BIClass.sep_mono (BI.Entails.refl _) ((BIClass.sep_mono (BI.Entails.refl _) (pair2 _ _)).trans (pair2 _ _))).trans (pair2 _ _))).trans (pair2 _ _)

/-! ### The landing places -/

theorem slots_dealt : (iprop(bigSep keys (fun k => readerAt (ES (F := F)) k 0) ∗ bigSep (keys ×ˢ Finset.range 1) (fun x => writeTok (ES (F := F)) x.1 (x.2 + 1))) : sProp 𝕄) ⊢
    bigSep Finset.univ fun c => bigSep Finset.univ fun d =>
      iprop(bigSep (Finset.range 96) (fun m => readerAt (ES (F := F)) (d, c, m) 0) ∗ bigSep (Finset.range 96) (fun n => writeTok (ES (F := F)) (d, nb d c, n) 1)) := by
  refine BIBase.Entails.trans ?_ (pair2 (fun c d => bigSep (Finset.range 96) (fun m => readerAt (ES (F := F)) (d, c, m) 0)) (fun c d => bigSep (Finset.range 96) (fun n => writeTok (ES (F := F)) (d, nb d c, n) 1)))
  have h1 := Entails.of_eq (deal (F := F) 96 (fun k => readerAt (ES (F := F)) k 0) (fun _ => Equiv.refl _))
  have h2 : (bigSep (keys ×ˢ Finset.range 1) (fun x => writeTok (ES (F := F)) x.1 (x.2 + 1)) : sProp 𝕄) ⊢
      bigSep Finset.univ fun c => bigSep Finset.univ fun d => bigSep (Finset.range 96) (fun n => writeTok (ES (F := F)) (d, nb d c, n) 1) := by
    rw [over_pairs]
    simp only [Finset.range_one, bigSep_singleton]
    exact Entails.of_eq (deal (F := F) 96 (fun k => writeTok (ES (F := F)) k 1) nbE)
  iintro ⟨Ha, Hb⟩
  isplitl [Ha]
  · iapply h1; iexact Ha
  · iapply h2; iexact Hb

/-! ### The credits -/

/-- The credits of device `c`'s own waits in direction `d`. -/
def CrdD (c : Dev nD) (d : Bool) : sProp 𝕄 :=
  iprop(bigSep (Finset.Ico 0 96) (fun n => cred (tallyAt (recvC d (par n) c) n NT)) ∗
    bigSep (Finset.Ico 0 94) (fun k => cred (tallyAt (credC d c) k 1)))

theorem cred_dir (c : Dev nD) (d : Bool) : (Pipeline.launchCred (fun x => OD d x 0 0) c : sProp 𝕄) ⊢ CrdD (F := F) c d := by
  unfold OD CrdD
  rw [Pipeline.launchCred_add, Pipeline.launchCred_sum, Pipeline.launchCred_sum]
  exact BIClass.sep_mono
    (bigSep_mono fun n _ => Pipeline.launchCred_tallyAt (.dma (recvS d (par n))) (nb d) (pv d) (nb_pv d) (pv_nb d) n NT c)
    (bigSep_mono fun k _ => Pipeline.launchCred_tallyAt (.reg (credS d)) (pv d) (nb d) (pv_nb d) (nb_pv d) k 1 c)

theorem oi_eq : OI = fun x => ((OD false x 0 0 + OD true x 0 0) + tallyAt (barC (nb false x)) 0 1) + tallyAt (barC (nb true x)) 0 1 := rfl

theorem creds_dealt (c : Dev nD) : (Pipeline.launchCred OI c : sProp 𝕄) ⊢ iprop(cred (tallyAt (barC c) 0 2) ∗ bigSep Finset.univ (CrdD (F := F) c)) := by
  rw [oi_eq, Pipeline.launchCred_add, Pipeline.launchCred_add, Pipeline.launchCred_add]
  have hA := Pipeline.launchCred_tallyAt (Ix := ℕ) (Val := Elt F) (Name := ℕ) (U := UU) (Lvl := ℕ) (nD := nD) (τ := τ) (sig := sig) (.reg barS) (nb false) (pv false) (nb_pv false) (pv_nb false) 0 1 c
  have hB := Pipeline.launchCred_tallyAt (Ix := ℕ) (Val := Elt F) (Name := ℕ) (U := UU) (Lvl := ℕ) (nD := nD) (τ := τ) (sig := sig) (.reg barS) (nb true) (pv true) (nb_pv true) (pv_nb true) 0 1 c
  refine (BIClass.sep_mono (BIClass.sep_mono (BIClass.sep_mono (cred_dir c false) (cred_dir c true)) hA) hB).trans ?_
  iintro ⟨⟨⟨HF, HT⟩, HA⟩, HB⟩
  isplitl [HA HB]
  · rw [show (tallyAt (barC c) 0 2 : CellTallies nD τ sig ℕ) = tallyAt (barC c) 0 1 + tallyAt (barC c) 0 1 from (tallyAt_add _ _ 1 1).symm]
    iapply (cred_add _ _).2
    isplitl [HA]; · iexact HA
    iexact HB
  · iapply (bool_two (CrdD (F := F) c))
    isplitl [HF]; · iexact HF
    iexact HT

end Cert.KernelIdeal.Ring
-- ==== Proof.Ops.lean ====
module

public import proofs.«01_k».proof.Proof.Start

/-! The kernel's offsets, neighbours and buffers in the terms of the schedule. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section

/-- A function of the kernel's buffers, at the kernel's buffers. -/
abbrev app {β : Type 1} (f : ∀ (arg0 : Memref sig .tc .vmem S4096x1024 .bf16) (_ : arg0.IsWhole) (arg1 : Memref sig .tc .vmem S1024x8192 .bf16) (_ : arg1.IsWhole)
    (arg2 : Memref sig .tc .hbm S4096x8192 .bf16) (_ : arg2.IsWhole) (arg3 : Memref sig .tc .vmem S512x8192 .bf16) (_ : arg3.IsWhole)
    (arg4 : Memref sig .tc .vmem S512x8192 .bf16) (_ : arg4.IsWhole) (arg5 : Memref sig .tc .vmem S2x512x512 .bf16) (_ : arg5.IsWhole)
    (arg6 : Memref sig .tc .vmem S2x512x512 .bf16) (_ : arg6.IsWhole) (_arg7 _arg8 _arg9 _arg10 : DmaSems sig S2) (_arg11 _arg12 : Sems sig S_) (_arg13 : DmaSems sig S2), β) : β :=
  f (Memref.whole cc0_stg0_0) (Memref.isWhole_whole _) (Memref.whole cc0_stg1_0) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9 cc0_scratch10

theorem right_eq (c : Dev nD) {f : Dev nD → ℕ} (h : ∀ c, f c = (c.val + 1) % 4) {hf : f c < nD} : (⟨f c, hf⟩ : Dev nD) = c + 1 := by
  apply Fin.ext; simp only [h]; rfl
theorem left_eq (c : Dev nD) {f : Dev nD → ℕ} (h : ∀ c, f c = (c.val + 3) % 4) {hf : f c < nD} : (⟨f c, hf⟩ : Dev nD) = c + 3 := by
  apply Fin.ext; simp only [h]; rfl

theorem acc0 (t : ℕ) : (Memref.whole cc0_scratch0 : Memref sig .tc .vmem S512x8192 .bf16) = accM (par (2 * t)) := by
  rw [show par (2 * t) = false by unfold par; simp]; rfl
theorem acc1 (t : ℕ) : (Memref.whole cc0_scratch1 : Memref sig .tc .vmem S512x8192 .bf16) = accM (par (2 * t + 1)) := by
  rw [show par (2 * t + 1) = true by unfold par; simp]; rfl

theorem off1_kk (c : Dev nD) (r₁ : Fin 3) (r₂ : Fin 2) : k0_off1 c (BitVec.ofNat 32 r₁.val) (BitVec.ofNat 32 (512 * r₂.val)) =
    ![0, 512 * (kk false c (srcR (2 * r₁.val + r₂.val)) ((2 * r₁.val + r₂.val) % 2)).val] := by
  rw [k0_off1_eq]; revert c r₁ r₂; decide
theorem off2_kk (c : Dev nD) (r₁ : Fin 3) (r₂ : Fin 2) : k0_off2 c (BitVec.ofNat 32 r₁.val) (BitVec.ofNat 32 (512 * r₂.val)) =
    ![0, 512 * (kk true c (srcR (2 * r₁.val + r₂.val)) ((2 * r₁.val + r₂.val) % 2)).val] := by
  rw [k0_off2_eq]; revert c r₁ r₂; decide
theorem off4_kk (c : Dev nD) (r₁ : Fin 3) (r₂ : Fin 2) : k0_off4 c (BitVec.ofNat 32 r₁.val) (BitVec.ofNat 32 (512 * r₂.val)) =
    ![0, 512 * (kk false c ((2 * r₁.val + r₂.val) / 2 + 1) ((2 * r₁.val + r₂.val) % 2)).val] := by
  rw [k0_off4_eq]; revert c r₁ r₂; decide
theorem off5_kk (c : Dev nD) (r₁ : Fin 3) (r₂ : Fin 2) : k0_off5 c (BitVec.ofNat 32 r₁.val) (BitVec.ofNat 32 (512 * r₂.val)) =
    ![0, 512 * (kk true c ((2 * r₁.val + r₂.val) / 2 + 1) ((2 * r₁.val + r₂.val) % 2)).val] := by
  rw [k0_off5_eq]; revert c r₁ r₂; decide
theorem off7_kk (c : Dev nD) (r₁ : Fin 3) (r₂ : Fin 2) : k0_off7 c (BitVec.ofNat 32 r₁.val) (BitVec.ofNat 32 (512 * r₂.val)) =
    ![0, 512 * (kk false c (srcR (6 + 2 * r₁.val + r₂.val)) ((6 + 2 * r₁.val + r₂.val) % 2)).val] := by
  rw [k0_off7_eq]; revert c r₁ r₂; decide
theorem off8_kk (c : Dev nD) (r₁ : Fin 3) (r₂ : Fin 2) : k0_off8 c (BitVec.ofNat 32 r₁.val) (BitVec.ofNat 32 (512 * r₂.val)) =
    ![0, 512 * (kk true c (srcR (6 + 2 * r₁.val + r₂.val)) ((6 + 2 * r₁.val + r₂.val) % 2)).val] := by
  rw [k0_off8_eq]; revert c r₁ r₂; decide

theorem ctr_next (n : ℕ) : ctr n 12 = ctr (n + 1) 0 := by
  refine Ctr.ext ?_ ?_ ?_ ?_ ?_ ?_ <;> funext d <;> cases d <;> simp [ctr, one]

end

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

/-- Pass on to the next micro. -/
theorem st_next {α : Type} {p : Prog (TpuEff nD τ sig (Elt F) Λ₀ .tc) α} {Q : α → sProp 𝕄} {x : Bool → AccS} {o : OutS} {n : ℕ} (m : ℕ)
    (H : StE PB κ ιs c xb wb (ctr m 0) x o ⊢ wpc c p Q) (hm : m = n + 1 := by omega) :
    StE PB κ ιs c xb wb (ctr n 12) x o ⊢ wpc c p Q := by
  subst hm; rw [ctr_next]; exact H

/-- A finished program. -/
theorem st_done {α : Type} {Q : α → sProp 𝕄} {S : sProp 𝕄} {r : α} (h : S ⊢ Q r) : S ⊢ wpc c (.ret r) Q := by
  unfold wpc
  rw [wp_ret]
  iintro H
  imodintro
  iapply h
  iexact H

/-- A finished program, with a fact of its result. -/
theorem st_fact {α : Type} {S : sProp 𝕄} {r : α} {φ : α → Prop} (h : φ r) : S ⊢ wpc c (.ret r) (fun r => iprop(⌜φ r⌝ ∗ S)) := by
  refine st_done ?_
  iintro H
  isplitr
  · ipureintro; exact h
  · iexact H

/-- One program after another. -/
theorem st_bind {α β : Type} {Q : β → sProp 𝕄} {S S' : sProp 𝕄} {p : Prog (TpuEff nD τ sig (Elt F) Λ₀ .tc) α} {k : α → Prog (TpuEff nD τ sig (Elt F) Λ₀ .tc) β}
    (h : S ⊢ wpc c p (fun _ => S')) (H : ∀ r, S' ⊢ wpc c (k r) Q) : S ⊢ wpc c (p.bind k) Q := by
  refine BI.Entails.trans h ?_
  unfold wpc
  change Idealize.SL.BI.Entails _ ((wp Idealize.ShloMosaic.frame (wpE defs₀ 𝒱₀ c.tc none) Set.univ (p >>= k)) Q)
  rw [wp_bind]
  exact wp_mono _ _ _ fun r => H r

theorem st_bindf {α β : Type} {Q : β → sProp 𝕄} {S S' : sProp 𝕄} {φ : α → Prop} {p : Prog (TpuEff nD τ sig (Elt F) Λ₀ .tc) α} {k : α → Prog (TpuEff nD τ sig (Elt F) Λ₀ .tc) β}
    (h : S ⊢ wpc c p (fun r => iprop(⌜φ r⌝ ∗ S'))) (H : ∀ r, φ r → S' ⊢ wpc c (k r) Q) : S ⊢ wpc c (p.bind k) Q := by
  refine BI.Entails.trans h ?_
  unfold wpc
  change Idealize.SL.BI.Entails _ ((wp Idealize.ShloMosaic.frame (wpE defs₀ 𝒱₀ c.tc none) Set.univ (p >>= k)) Q)
  rw [wp_bind]
  refine wp_mono _ _ _ fun r => ?_
  iintro ⟨%hr, HS⟩
  iapply (H r hr)
  iexact HS
end

end Cert.KernelIdeal.Ring
-- ==== Proof.LoopS.lean ====
module

public import proofs.«01_k».proof.Proof.Ops

/-! The pieces of the loop body that depend on the round: what the first and the last round leave out, the
products of the next blocks and the copies of finished blocks to the output. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section

theorem trips_lt (t : Fin k0_t1_loop.trips) : t.val < 4 := lt_of_lt_of_eq t.isLt (by decide)

theorem pos_iff : ∀ t : Fin k0_t1_loop.trips, Scalar.cmpi .ne ((Scalar.extui (Scalar.cmpi .sgt (Scf.iv 0#32 1#32 t) 0#32) : BitVec 32)) 0#32 = 1#1 ↔ 0 < t.val := by decide +kernel
theorem ge_iff : ∀ t : Fin k0_t1_loop.trips, Scalar.cmpi .ne ((Scalar.extui (Scalar.cmpi .sge (Scf.iv 0#32 1#32 t) 1#32) : BitVec 32)) 0#32 = 1#1 ↔ 0 < t.val := by decide +kernel
theorem cond2_iff : ∀ t : Fin k0_t1_loop.trips, k0_cond2 t = 1#1 ↔ 0 < t.val := by decide +kernel
theorem cond3_iff : ∀ t : Fin k0_t1_loop.trips, k0_cond3 t = 1#1 ↔ 0 < t.val := by decide +kernel
theorem cond6_iff : ∀ t : Fin k0_t1_loop.trips, k0_cond6 t = 1#1 ↔ t.val < 3 := by decide +kernel
theorem cond7_iff : ∀ t : Fin k0_t1_loop.trips, k0_cond7 t = 1#1 ↔ t.val < 3 := by decide +kernel
theorem cond8_iff : ∀ t : Fin k0_t1_loop.trips, k0_cond8 t = 1#1 ↔ t.val < 3 := by decide +kernel

/-- A block of the output by the offset of its rows. -/
theorem out_at (b : Fin 8) {off : Fin 2 → ℕ} (e : off = ![512 * b.val, 0]) {hi : ∀ a, off a + S512x8192.size a ≤ S4096x8192.size a}
    {h1 : ∀ a, (Rect.unit (s := S4096x8192) off S512x8192.size hi).stride a = 1} :
    ((Memref.whole main_v1).slice (Rect.unit (s := S4096x8192) off S512x8192.size hi) h1 : Memref sig .tc .hbm S512x8192 .bf16) = outM b := by
  subst e; rfl

theorem off3_fin8 : ∀ t : Fin k0_t1_loop.trips, 0 < t.val → k0_off3 t = ![512 * (fin8 (2 * (t.val - 1) + true.toNat)).val, 0] := by decide +kernel
theorem off9_fin8 : ∀ t : Fin k0_t1_loop.trips, k0_off9 t = ![512 * (fin8 (2 * t.val + false.toNat)).val, 0] := by decide +kernel
theorem off6_fin8 : ∀ t : Fin k0_t1_loop.trips, k0_off6 t = ![512 * (fin8 (2 * t.val + 1)).val, 0] := by decide +kernel
theorem off10_fin8 : ∀ t : Fin k0_t1_loop.trips, t.val < 3 → k0_off10 t = ![512 * (fin8 (2 * t.val + 2)).val, 0] := by decide +kernel
theorem off11_fin8 : ∀ t : Fin k0_t1_loop.trips, t.val < 3 → k0_off11 t = ![512 * (fin8 (2 * t.val + 2)).val, 0] := by decide +kernel

theorem par_even (t : ℕ) : par (2 * t) = false := by unfold par; simp
theorem par_odd (t : ℕ) : par (2 * t + 1) = true := by unfold par; simp
theorem par_odd' (t : ℕ) (h : 0 < t) : par (2 * t - 1) = true := by unfold par; simp; omega
theorem par_even' (t : ℕ) : par (2 * t + 2) = false := by unfold par; simp

/-- The two accumulators. -/
def xs (x0 x1 : AccS) : Bool → AccS := fun a => bif a then x1 else x0
/-- The output copies of the two accumulators. -/
def os (s0 w0 s1 w1 : ℕ) : OutS := ⟨fun a => bif a then s1 else s0, fun a => bif a then w1 else w0⟩
/-- The odd accumulator when round `t` begins. -/
def x1b (t : ℕ) (ou : Bool) : AccS := if t = 0 then .any else .proc (2 * t - 1) ou
/-- The even accumulator when round `t` begins. -/
def x0b (t : ℕ) : AccS := if t < 4 then .proc (2 * t) false else .proc 6 true

/-- The even accumulator while its next block is half computed. -/
def x0m (t : ℕ) : AccS := if t < 3 then .half (2 * t + 2) else .proc (2 * t) true

theorem xs0 {x0 x1 : AccS} (t : ℕ) : xs x0 x1 (par (2 * t)) = x0 := by rw [par_even]; rfl
theorem xs1 {x0 x1 : AccS} (t : ℕ) : xs x0 x1 (par (2 * t + 1)) = x1 := by rw [par_odd]; rfl
theorem xs1' {x0 x1 : AccS} {t : ℕ} (h : 0 < t) : xs x0 x1 (par (2 * t - 1)) = x1 := by rw [par_odd' t h]; rfl
theorem xs2 {x0 x1 : AccS} (t : ℕ) : xs x0 x1 (par (2 * t + 2)) = x0 := by rw [par_even']; rfl
theorem x1b_pos {t : ℕ} (h : 0 < t) (ou : Bool) : x1b t ou = .proc (2 * t - 1) ou := if_neg (by omega)
theorem x1b_out {t : ℕ} (h : 0 < t) (ou : Bool) : x1b t ou = .proc (2 * (t - 1) + true.toNat) ou := by
  rw [x1b_pos h, show 2 * (t - 1) + true.toNat = 2 * t - 1 by simp; omega]
theorem x1b_zero {t : ℕ} (h : t = 0) (ou : Bool) : x1b t ou = .any := if_pos h
theorem x0m_lt {t : ℕ} (h : t < 3) : x0m t = .half (2 * t + 2) := if_pos h
theorem x0m_ge {t : ℕ} (h : ¬ t < 3) : x0m t = .proc (2 * t) true := if_neg h
theorem x0b_lt {t : ℕ} (h : t < 3) : x0b (t + 1) = .proc (2 * t + 2) false := if_pos (by omega)
theorem x0b_ge {t : ℕ} (h : ¬ t < 3) (h' : t < 4) : x0b (t + 1) = .proc (2 * t) true := by
  have : t = 3 := by omega
  subst this; rfl

/-- Counters of one block once its sends are made, the last one perhaps still being read. -/
theorem ready_lc : ∀ (r : Fin 4) (sub : Fin 2), ∃ fl, stat ⟨12, 11, 12, 12, 10⟩ r sub = some (4, fl) := by decide

theorem four_cases {t : ℕ} (h : t < 4) : t = 0 ∨ t = 1 ∨ t = 2 ∨ t = 3 := by omega

theorem ready_odd (t : ℕ) (ht : t < 4) (h : 0 < t) : Ready (ctr (24 * t + 1) 0) (2 * (t - 1) + true.toNat) := by
  intro d r sub
  have : loc (ctr (24 * t + 1) 0) d (2 * (t - 1) + true.toNat) = ⟨12, 11, 12, 12, 10⟩ := by
    rcases four_cases ht with rfl | rfl | rfl | rfl <;> first | exact absurd h (by decide) | (cases d <;> rfl)
  rw [this]; exact ready_lc r sub
theorem ready_even (t : ℕ) (ht : t < 4) : Ready (ctr (24 * t + 13) 0) (2 * t + false.toNat) := by
  intro d r sub
  have : loc (ctr (24 * t + 13) 0) d (2 * t + false.toNat) = ⟨12, 11, 12, 12, 10⟩ := by
    rcases four_cases ht with rfl | rfl | rfl | rfl <;> cases d <;> rfl
  rw [this]; exact ready_lc r sub
theorem done_odd (t : ℕ) (ht : t < 4) (h : 0 < t) : Done (ctr (24 * t + 5) 0) (2 * (t - 1) + true.toNat) := by
  intro d r sub
  have : loc (ctr (24 * t + 5) 0) d (2 * (t - 1) + true.toNat) = ⟨12, 12, 12, 12, 10⟩ := by
    rcases four_cases ht with rfl | rfl | rfl | rfl <;> first | exact absurd h (by decide) | (cases d <;> rfl)
  rw [this]; exact stat_done r sub
theorem done_even (t : ℕ) (ht : t < 4) : Done (ctr (24 * t + 17) 0) (2 * t + false.toNat) := by
  intro d r sub
  have : loc (ctr (24 * t + 17) 0) d (2 * t + false.toNat) = ⟨12, 12, 12, 12, 10⟩ := by
    rcases four_cases ht with rfl | rfl | rfl | rfl <;> (cases d <;> rfl)
  rw [this]; exact stat_done r sub
theorem fresh_odd (t : ℕ) (ht : t < 4) (i : ℕ) (hi : i = 5 ∨ i = 6) : Fresh (ctr (24 * t + i) 0) (2 * t + 1) := by
  intro d
  rcases hi with rfl | rfl <;> rcases four_cases ht with rfl | rfl | rfl | rfl <;> (cases d <;> rfl)
theorem fresh_even (t : ℕ) (ht : t < 4) (i : ℕ) (hi : i = 17 ∨ i = 18) : Fresh (ctr (24 * t + i) 0) (2 * t + 2) := by
  intro d
  rcases hi with rfl | rfl <;> rcases four_cases ht with rfl | rfl | rfl | rfl <;> (cases d <;> rfl)

theorem ctr_first {t : ℕ} (h : t = 0) : ctr (24 * t) 0 = ctr (24 * t) 4 := by
  subst h; refine Ctr.ext ?_ ?_ ?_ ?_ ?_ ?_ <;> funext d <;> cases d <;> rfl
theorem ctr_first' {t : ℕ} (h : t = 0) : ctr (24 * t) 6 = ctr (24 * t + 1) 0 := by
  subst h; refine Ctr.ext ?_ ?_ ?_ ?_ ?_ ?_ <;> funext d <;> cases d <;> rfl
theorem ctr_second {t : ℕ} (h : t = 0) : ctr (24 * t + 1) 0 = ctr (24 * t + 1) 4 := by
  subst h; refine Ctr.ext ?_ ?_ ?_ ?_ ?_ ?_ <;> funext d <;> cases d <;> rfl
theorem ctr_last : ctr 95 10 = ctr 96 0 := by
  refine Ctr.ext ?_ ?_ ?_ ?_ ?_ ?_ <;> funext d <;> cases d <;> rfl

end

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

/-- The round's opening: the first tile of the even block is sent to the right. -/
theorem part1 (t : Fin k0_t1_loop.trips) {x : Bool → AccS} {o : OutS} (h0 : x (par (2 * t.val)) = .proc (2 * t.val) false)
    (h1 : 0 < t.val → x (par (2 * t.val - 1)) = .proc (2 * t.val - 1) false) (v2 v5 v7 : BitVec 32) :
    StE PB κ ιs c xb wb (ctr (24 * t.val) 0) x o ⊢ wpc c (app (k0_part1 (F := F)) c v2 v5 v7 0#32 1#32 t)
      (fun (r : BitVec 32) => iprop(⌜r = Scf.iv 0#32 1#32 t⌝ ∗ StE PB κ ιs c xb wb (ctr (24 * t.val) 5) x o)) := by
  rw [k0_part1_eq_skeleton]
  unfold app k0_part1_skel
  simp only [semSignalWord, semWaitWord, Prog.lift, Prog.bind_op, Prog.bind_ret, Prog.pure_eq_ret]
  have ht := trips_lt t
  by_cases hp : 0 < t.val
  · rw [dif_pos ((pos_iff t).2 hp)]
    replace h1 := h1 hp
    refine st_cred false rfl ?_
    refine st_cred true rfl ?_
    refine st_swait false (2 * t.val - 1) 10 h1 rfl rfl ?_
    refine st_swait true (2 * t.val - 1) 10 h1 rfl rfl ?_
    refine st_sendS false (2 * t.val) 0 h0 (acc0 t.val) (off1_kk c 0 0) (right_eq c k0_dev3_eq) rfl rfl rfl ?_
    exact st_fact (φ := fun (r : BitVec 32) => r = _) rfl
  · rw [dif_neg (fun h => hp ((pos_iff t).1 h))]
    have hz : t.val = 0 := by omega
    rw [ctr_first hz]
    refine st_sendS false (2 * t.val) 0 h0 (acc0 t.val) (off1_kk c 0 0) (right_eq c k0_dev3_eq) rfl rfl rfl ?_
    exact st_fact (φ := fun (r : BitVec 32) => r = _) rfl

/-- The first tile to the left; from the second round on the previous block's last tile lands, and the block
itself leaves for the output. -/
theorem part2 (t : Fin k0_t1_loop.trips) (v2 v5 v7 arg14 : BitVec 32) (ha : arg14 = Scf.iv 0#32 1#32 t) :
    StE PB κ ιs c xb wb (ctr (24 * t.val) 5) (xs (.proc (2 * t.val) false) (x1b t.val false)) (os t.val (min t.val 3) (t.val - 1) (t.val - 1)) ⊢
      wpc c (app (k0_part2 (F := F)) c v2 v5 v7 t arg14)
      (fun _ => StE PB κ ιs c xb wb (ctr (24 * t.val + 1) 5) (xs (.proc (2 * t.val) false) (x1b t.val true)) (os t.val (min t.val 3) t.val (t.val - 1))) := by
  rw [k0_part2_eq_skeleton]
  unfold app k0_part2_skel
  simp only [semSignalWord, semWaitWord, Prog.lift, Prog.bind_op, Prog.bind_ret, Prog.pure_eq_ret]
  have ht := trips_lt t
  subst ha
  have h0 := xs0 (x0 := .proc (2 * t.val) false) (x1 := x1b t.val false) t.val
  refine st_sendS true (2 * t.val) 0 h0 (acc0 t.val) (off2_kk c 0 0) (left_eq c k0_dev4_eq) rfl rfl rfl ?_
  by_cases hp : 0 < t.val
  · rw [dif_pos ((cond2_iff t).2 hp)]
    have h1 : xs (.proc (2 * t.val) false) (x1b t.val false) (par (2 * t.val - 1)) = .proc (2 * t.val - 1) false := by rw [xs1' hp, x1b_pos hp]
    refine st_rwaitG false (2 * t.val - 1) 11 h1 rfl rfl ?_
    refine st_rwaitG true (2 * t.val - 1) 11 h1 rfl rfl ?_
    refine BIBase.Entails.trans (st_skip (2 * t.val - 1) 11) ?_
    refine st_grantS (hr := Topo.routes_tc _ _) false (2 * t.val - 1) 11 (left_eq c k0_dev5_eq) rfl ?_
    refine st_grantS (hr := Topo.routes_tc _ _) true (2 * t.val - 1) 11 (right_eq c k0_dev6_eq) rfl ?_
    refine st_next (24 * t.val + 1) ?_
    rw [dif_pos ((cond3_iff t).2 hp)]
    refine st_out true (t.val - 1) (x' := xs (.proc (2 * t.val) false) (x1b t.val true)) (o' := os t.val (min t.val 3) t.val (t.val - 1)) ?_ ?_ ?_ ?_ ?_ ?_ ?_ ?_ ?_ ?_ ?_ ?_ ?_ ?_ (by omega)
    · exact x1b_out hp false
    · exact x1b_out hp true
    · exact rfl
    · exact rfl
    · exact rfl
    · show t.val = _; omega
    · exact rfl
    · exact rfl
    · exact rfl
    · exact ready_odd t.val ht hp
    · exact rfl
    · exact out_at _ (off3_fin8 t hp)
    · exact rfl
    rw [dif_pos ((pos_iff t).2 hp)]
    replace h1 : xs (.proc (2 * t.val) false) (x1b t.val true) (par (2 * t.val - 1)) = .proc (2 * t.val - 1) true := by rw [xs1' hp, x1b_pos hp]
    refine st_cred false rfl ?_
    refine st_cred true rfl ?_
    refine st_swait false (2 * t.val - 1) 11 h1 rfl rfl ?_
    refine st_swait true (2 * t.val - 1) 11 h1 rfl rfl ?_
    have h0 := xs0 (x0 := .proc (2 * t.val) false) (x1 := x1b t.val true) t.val
    refine st_sendS false (2 * t.val) 1 h0 (acc0 t.val) (off1_kk c 0 1) (right_eq c k0_dev7_eq) rfl rfl rfl ?_
    exact st_done (BI.Entails.refl _)
  · rw [dif_neg (fun h => hp ((cond2_iff t).1 h)), dif_neg (fun h => hp ((cond3_iff t).1 h)), dif_neg (fun h => hp ((pos_iff t).1 h))]
    have hz : t.val = 0 := by omega
    rw [show ctr (24 * t.val) (5 + true.toNat) = ctr (24 * t.val + 1) 0 from ctr_first' hz, ctr_second hz]
    refine st_sendS false (2 * t.val) 1 h0 (acc0 t.val) (off1_kk c 0 1) (right_eq c k0_dev7_eq) rfl rfl rfl ?_
    refine st_done (Entails.of_eq ?_)
    rw [x1b_zero hz, x1b_zero hz, show t.val - 1 = t.val by omega]
    rfl

/-- The odd accumulator's previous block has left; the left half of the next block is computed. -/
theorem part15 (t : Fin k0_t1_loop.trips) (v2 arg14 : BitVec 32) (v471 : BitVec 1)
    (hv : v471 = Scalar.cmpi .ne (Scalar.extui (Scalar.cmpi .sge (Scf.iv 0#32 1#32 t) 1#32) : BitVec 32) 0#32) :
    StE (PBx xb wb) κ ιs c xb wb (ctr (24 * t.val + 5) 0) (xs (.proc (2 * t.val) false) (x1b t.val true)) (os t.val (min t.val 3) t.val (t.val - 1)) ⊢
      wpc c (app (k0_part15 (F := F)) v2 t arg14 v471)
      (fun _ => StE (PBx xb wb) κ ιs c xb wb (ctr (24 * t.val + 5) 2) (xs (.proc (2 * t.val) false) (.half (2 * t.val + 1))) (os t.val (min t.val 3) t.val t.val)) := by
  rw [k0_part15_eq_skeleton]
  unfold app k0_part15_skel
  simp only [semSignalWord, semWaitWord, Prog.lift, Prog.bind_op, Prog.bind_ret, Prog.pure_eq_ret]
  have ht := trips_lt t
  subst hv
  rcases Nat.eq_zero_or_pos t.val with hz | hp
  on_goal 1 =>
    rw [dif_neg (fun h => absurd ((ge_iff t).1 h) (by omega)), x1b_zero hz, show t.val - 1 = t.val by omega]
  on_goal 2 =>
    rw [dif_pos ((ge_iff t).2 hp)]
    refine st_owait true (t.val - 1) (x' := xs (.proc (2 * t.val) false) .any) (o' := os t.val (min t.val 3) t.val t.val) ?_ ?_ ?_ ?_ ?_ ?_ ?_ ?_ ?_ ?_ ?_ ?_ ?_ (by omega)
    · exact x1b_out hp true
    · exact rfl
    · exact rfl
    · show t.val = _; omega
    · exact rfl
    · show t.val = _; omega
    · show t.val = _; omega
    · exact rfl
    · exact rfl
    · exact done_odd t.val ht hp
    · exact rfl
    · exact rfl
  all_goals
    refine st_ldX (2 * t.val + 1) rfl (off6_fin8 t) ?_
    refine st_ldW false rfl rfl ?_
    refine st_ldH true false (.inl rfl) rfl rfl fun v => ?_
    refine st_stH (2 * t.val + 1) false (x' := xs (.proc (2 * t.val) false) (.half (2 * t.val + 1))) (xs1 _) (xs1 _) (by rw [par_odd]; rfl)
      (fresh_odd t.val ht 5 (.inl rfl)) (acc1 t.val) rfl rfl ?_
    refine st_cred false rfl ?_
    refine st_cred true rfl ?_
    exact st_done (BI.Entails.refl _)

/-- The fourth addition; the factors of the next block's right half are read. -/
theorem part18 (t : Fin k0_t1_loop.trips) {x : Bool → AccS} {o : OutS} (h0 : x (par (2 * t.val)) = .proc (2 * t.val) false) (v5 v7 arg14 v533 v536 : BitVec 32) :
    StE PB κ ιs c xb wb (ctr (24 * t.val + 5) 8) x o ⊢ wpc c (app (k0_part18 (F := F)) c v5 v7 t arg14 v533 v536)
      (fun (r : FVec F S512x4096 .bf16) => iprop(⌜r = k0_pay13 (xRows (xb c) (2 * t.val + 1)) (wCols (wb c) true)⌝ ∗ StE PB κ ιs c xb wb (ctr (24 * t.val + 6) 0) x o)) := by
  rw [k0_part18_eq_skeleton]
  unfold app k0_part18_skel
  simp only [semSignalWord, semWaitWord, Prog.lift, Prog.bind_op, Prog.bind_ret, Prog.pure_eq_ret]
  have ht := trips_lt t
  refine st_ldA false (2 * t.val) 4 h0 (acc0 t.val) (off4_kk c 2 0) ?_
  refine st_ldT false (2 * t.val) 4 rfl rfl fun v hv => ?_
  refine st_ldA false (2 * t.val) 4 h0 (acc0 t.val) (off4_kk c 2 0) ?_
  refine st_stA false (2 * t.val) 4 h0 hv (acc0 t.val) (off4_kk c 2 0) rfl ?_
  refine st_ldA true (2 * t.val) 4 h0 (acc0 t.val) (off5_kk c 2 0) ?_
  refine st_ldT true (2 * t.val) 4 rfl rfl fun v hv => ?_
  refine st_ldA true (2 * t.val) 4 h0 (acc0 t.val) (off5_kk c 2 0) ?_
  refine st_stA true (2 * t.val) 4 h0 hv (acc0 t.val) (off5_kk c 2 0) rfl ?_
  refine st_grantG (hr := Topo.routes_tc _ _) false (2 * t.val) 4 h0 (left_eq c k0_dev25_eq) rfl ?_
  refine st_grantG (hr := Topo.routes_tc _ _) true (2 * t.val) 4 h0 (right_eq c k0_dev26_eq) rfl ?_
  refine st_next (24 * t.val + 6) ?_
  refine st_ldX (2 * t.val + 1) rfl (off6_fin8 t) ?_
  refine st_ldW true rfl rfl ?_
  exact st_fact (φ := fun (r : FVec F S512x4096 .bf16) => r = _) rfl

/-- The right half of the next odd block is stored. -/
theorem part19 (t : Fin k0_t1_loop.trips) {o : OutS} (v2 : BitVec 32) (v584 : FVec F S512x4096 .bf16)
    (hv : v584 = k0_pay13 (xRows (xb c) (2 * t.val + 1)) (wCols (wb c) true)) :
    StE (PBx xb wb) κ ιs c xb wb (ctr (24 * t.val + 6) 0) (xs (.proc (2 * t.val) false) (.half (2 * t.val + 1))) o ⊢ wpc c (app (k0_part19 (F := F)) v2 v584)
      (fun _ => StE (PBx xb wb) κ ιs c xb wb (ctr (24 * t.val + 6) 3) (xs (.proc (2 * t.val) false) (.proc (2 * t.val + 1) false)) o) := by
  rw [k0_part19_eq_skeleton]
  unfold app k0_part19_skel
  simp only [semSignalWord, semWaitWord, Prog.lift, Prog.bind_op, Prog.bind_ret, Prog.pure_eq_ret]
  have ht := trips_lt t
  subst hv
  refine st_ldH true true (.inr ⟨_, rfl⟩) rfl rfl fun v => ?_
  refine st_stH (2 * t.val + 1) true (x' := xs (.proc (2 * t.val) false) (.proc (2 * t.val + 1) false)) (xs1 _) (xs1 _) (by rw [par_odd]; rfl)
    (fresh_odd t.val ht 6 (.inr rfl)) (acc1 t.val) rfl rfl ?_
  have h0 := xs0 (x0 := .proc (2 * t.val) false) (x1 := .proc (2 * t.val + 1) false) t.val
  refine st_cred false rfl ?_
  refine st_cred true rfl ?_
  refine st_swait false (2 * t.val) 4 h0 rfl rfl ?_
  exact st_done (BI.Entails.refl _)

/-- The even block is complete and leaves for the output. -/
theorem part36 (t : Fin k0_t1_loop.trips) (v2 v5 v7 arg14 : BitVec 32) :
    StE PB κ ιs c xb wb (ctr (24 * t.val + 12) 6) (xs (.proc (2 * t.val) false) (.proc (2 * t.val + 1) false)) (os t.val (min t.val 3) t.val t.val) ⊢
      wpc c (app (k0_part36 (F := F)) c v2 v5 v7 t arg14)
      (fun _ => StE PB κ ιs c xb wb (ctr (24 * t.val + 13) 0) (xs (.proc (2 * t.val) true) (.proc (2 * t.val + 1) false)) (os (t.val + 1) (min t.val 3) t.val t.val)) := by
  rw [k0_part36_eq_skeleton]
  unfold app k0_part36_skel
  simp only [semSignalWord, semWaitWord, Prog.lift, Prog.bind_op, Prog.bind_ret, Prog.pure_eq_ret]
  have ht := trips_lt t
  have h0 := xs0 (x0 := .proc (2 * t.val) false) (x1 := .proc (2 * t.val + 1) false) t.val
  refine st_rwaitG false (2 * t.val) 11 h0 rfl rfl ?_
  refine st_rwaitG true (2 * t.val) 11 h0 rfl rfl ?_
  refine BIBase.Entails.trans (st_skip (2 * t.val) 11) ?_
  refine st_grantS (hr := Topo.routes_tc _ _) false (2 * t.val) 11 (left_eq c k0_dev53_eq) rfl ?_
  refine st_grantS (hr := Topo.routes_tc _ _) true (2 * t.val) 11 (right_eq c k0_dev54_eq) rfl ?_
  refine st_next (24 * t.val + 13) ?_
  refine st_out false t.val (x' := xs (.proc (2 * t.val) true) (.proc (2 * t.val + 1) false)) (o' := os (t.val + 1) (min t.val 3) t.val t.val) ?_ ?_ ?_ ?_ ?_ ?_ ?_ ?_ ?_ ?_ ?_ ?_ ?_ ?_ (by omega)
  · exact rfl
  · exact rfl
  · exact rfl
  · exact rfl
  · show min t.val 3 = _; omega
  · exact rfl
  · show min t.val 3 = _; omega
  · exact rfl
  · exact rfl
  · exact ready_even t.val ht
  · exact rfl
  · exact out_at _ (off9_fin8 t)
  · exact rfl
  exact st_done (BI.Entails.refl _)

/-- The even accumulator is free again, but for the last round; the left half of its next block is computed. -/
theorem part50 (t : Fin k0_t1_loop.trips) (v2 v7 arg14 v1405 : BitVec 32) :
    StE (PBx xb wb) κ ιs c xb wb (ctr (24 * t.val + 16) 10) (xs (.proc (2 * t.val) true) (.proc (2 * t.val + 1) false)) (os (t.val + 1) (min t.val 3) t.val t.val) ⊢
      wpc c (app (k0_part50 (F := F)) c v2 v7 t arg14 v1405)
      (fun _ => StE (PBx xb wb) κ ιs c xb wb (ctr (24 * t.val + 17) 3) (xs (x0m t.val) (.proc (2 * t.val + 1) false)) (os (t.val + 1) (min (t.val + 1) 3) t.val t.val)) := by
  rw [k0_part50_eq_skeleton]
  unfold app k0_part50_skel
  simp only [semSignalWord, semWaitWord, Prog.lift, Prog.bind_op, Prog.bind_ret, Prog.pure_eq_ret]
  have ht := trips_lt t
  refine st_grantS (hr := Topo.routes_tc _ _) false (2 * t.val + 1) 3 (left_eq c k0_dev69_eq) rfl ?_
  refine st_grantS (hr := Topo.routes_tc _ _) true (2 * t.val + 1) 3 (right_eq c k0_dev70_eq) rfl ?_
  refine st_next (24 * t.val + 17) ?_
  have h1 := xs1 (x0 := x0m t.val) (x1 := .proc (2 * t.val + 1) false) t.val
  by_cases hp : t.val < 3
  on_goal 1 =>
    rw [dif_pos ((cond6_iff t).2 hp)]
    refine st_owait false t.val (x' := xs .any (.proc (2 * t.val + 1) false)) (o' := os (t.val + 1) (min (t.val + 1) 3) t.val t.val) ?_ ?_ ?_ ?_ ?_ ?_ ?_ ?_ ?_ ?_ ?_ ?_ ?_ (by omega)
    · exact rfl
    · exact rfl
    · exact rfl
    · exact rfl
    · show min t.val 3 = _; omega
    · exact rfl
    · show min (t.val + 1) 3 = _; omega
    · exact rfl
    · exact rfl
    · exact done_even t.val ht
    · exact rfl
    · exact rfl
    refine st_ldX (2 * t.val + 2) rfl (off10_fin8 t hp) ?_
    refine st_ldW false rfl rfl ?_
    refine st_ldH false false (.inl rfl) rfl rfl fun v => ?_
    refine st_stH (2 * t.val + 2) false (x' := xs (x0m t.val) (.proc (2 * t.val + 1) false)) (xs2 _) ((xs2 _).trans (x0m_lt hp)) (by rw [par_even']; rfl)
      (fresh_even t.val ht 17 (.inl rfl)) (by rw [par_even']; rfl) rfl rfl ?_
  on_goal 2 =>
    rw [dif_neg (fun h => hp ((cond6_iff t).1 h)), ← x0m_ge hp, show min t.val 3 = min (t.val + 1) 3 by omega]
  all_goals
    refine st_cred false rfl ?_
    refine st_cred true rfl ?_
    refine st_swait false (2 * t.val + 1) 3 h1 rfl rfl ?_
    exact st_done (BI.Entails.refl _)

/-- The right half of the next even block, but for the last round. -/
theorem part53 (t : Fin k0_t1_loop.trips) {o : OutS} (v2 v5 v7 arg14 v1460 v1463 : BitVec 32) (v1484 : FVec F S512x512 .bf16)
    (hv : v1484 = addf (tileOf (VAL (PBx xb wb) false c (2 * t.val + 1) 0) (kk false c (4 / 2 + 1) (4 % 2))) (sent (PBx xb wb) false (pv false c) (12 * (2 * t.val + 1) + 4))) :
    StE (PBx xb wb) κ ιs c xb wb (ctr (24 * t.val + 17) 8) (xs (x0m t.val) (.proc (2 * t.val + 1) false)) o ⊢
      wpc c (app (k0_part53 (F := F)) c v2 v5 v7 t arg14 v1460 v1463 v1484)
      (fun _ => StE (PBx xb wb) κ ιs c xb wb (ctr (24 * t.val + 18) 0) (xs (x0b (t.val + 1)) (.proc (2 * t.val + 1) false)) o) := by
  rw [k0_part53_eq_skeleton]
  unfold app k0_part53_skel
  simp only [semSignalWord, semWaitWord, Prog.lift, Prog.bind_op, Prog.bind_ret, Prog.pure_eq_ret]
  have ht := trips_lt t
  subst hv
  have h1 := xs1 (x0 := x0m t.val) (x1 := .proc (2 * t.val + 1) false) t.val
  refine st_ldA false (2 * t.val + 1) 4 h1 (acc1 t.val) (off4_kk c 2 0) ?_
  refine st_stA false (2 * t.val + 1) 4 h1 rfl (acc1 t.val) (off4_kk c 2 0) rfl ?_
  refine st_ldA true (2 * t.val + 1) 4 h1 (acc1 t.val) (off5_kk c 2 0) ?_
  refine st_ldT true (2 * t.val + 1) 4 rfl rfl fun v hv => ?_
  refine st_ldA true (2 * t.val + 1) 4 h1 (acc1 t.val) (off5_kk c 2 0) ?_
  refine st_stA true (2 * t.val + 1) 4 h1 hv (acc1 t.val) (off5_kk c 2 0) rfl ?_
  refine st_grantG (hr := Topo.routes_tc _ _) false (2 * t.val + 1) 4 h1 (left_eq c k0_dev73_eq) rfl ?_
  refine st_grantG (hr := Topo.routes_tc _ _) true (2 * t.val + 1) 4 h1 (right_eq c k0_dev74_eq) rfl ?_
  refine st_next (24 * t.val + 18) ?_
  by_cases hp : t.val < 3
  · rw [dif_pos ((cond7_iff t).2 hp)]
    refine st_ldX (2 * t.val + 2) rfl (off11_fin8 t hp) ?_
    refine st_ldW true rfl rfl ?_
    refine st_ldH false true (.inr ⟨_, x0m_lt hp⟩) rfl rfl fun v => ?_
    refine st_stH (2 * t.val + 2) true (x' := xs (x0b (t.val + 1)) (.proc (2 * t.val + 1) false)) ((xs2 _).trans (x0m_lt hp)) ((xs2 _).trans (x0b_lt hp)) (by rw [par_even']; rfl)
      (fresh_even t.val ht 18 (.inr rfl)) (by rw [par_even']; rfl) rfl rfl ?_
    exact st_done (BI.Entails.refl _)
  · rw [dif_neg (fun h => hp ((cond7_iff t).1 h)), x0b_ge hp ht, ← x0m_ge hp]
    exact st_done (BI.Entails.refl _)

end

end Cert.KernelIdeal.Ring
-- ==== Proof.LoopA.lean ====
module

public import proofs.«01_k».proof.Proof.Ops

/-! The first half of the loop body, piece by piece: the reduce-scatter of the even block. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

/-- Micro 1 of a round, piece 3 of the loop body. -/
theorem part3 {t : ℕ} (ht : t < 4) {x : Bool → AccS} {o : OutS} (h0 : x (par (2 * t)) = .proc (2 * t) false) (v2 : BitVec 32) (v5 : BitVec 32) (v7 : BitVec 32) :
    StE PB κ ιs c xb wb (ctr (24 * t + 1) 5) x o ⊢ wpc c (app (k0_part3 (F := F)) c v2 v5 v7)
      (fun _ => StE PB κ ιs c xb wb (ctr (24 * t + 1) 7) x o) := by
  rw [k0_part3_eq_skeleton]
  unfold app k0_part3_skel
  simp only [semSignalWord, semWaitWord, Prog.lift, Prog.bind_op, Prog.bind_ret, Prog.pure_eq_ret]
  refine st_sendS true (2 * t) 1 h0 (acc0 t) (off2_kk c 0 1) (left_eq c k0_dev8_eq) rfl rfl rfl ?_
  refine st_rwaitS false (2 * t) 0 rfl rfl ?_
  exact st_done (BI.Entails.refl _)

/-- Micro 1 of a round, piece 4 of the loop body. -/
theorem part4 {t : ℕ} (ht : t < 4) {x : Bool → AccS} {o : OutS} (h0 : x (par (2 * t)) = .proc (2 * t) false) (v5 : BitVec 32) (v7 : BitVec 32) (v157 : BitVec 32) (v160 : BitVec 32) :
    StE PB κ ιs c xb wb (ctr (24 * t + 1) 7) x o ⊢ wpc c (app (k0_part4 (F := F)) c v5 v7 v157 v160)
      (fun _ => StE PB κ ιs c xb wb (ctr (24 * t + 1) 11) x o) := by
  rw [k0_part4_eq_skeleton]
  unfold app k0_part4_skel
  simp only [semSignalWord, semWaitWord, Prog.lift, Prog.bind_op, Prog.bind_ret, Prog.pure_eq_ret]
  refine st_rwaitS true (2 * t) 0 rfl rfl ?_
  refine st_ldA false (2 * t) 0 h0 (acc0 t) (off4_kk c 0 0) ?_
  refine st_ldT false (2 * t) 0 rfl rfl fun v hv => ?_
  refine st_ldA false (2 * t) 0 h0 (acc0 t) (off4_kk c 0 0) ?_
  refine st_stA false (2 * t) 0 h0 hv (acc0 t) (off4_kk c 0 0) rfl ?_
  refine st_ldA true (2 * t) 0 h0 (acc0 t) (off5_kk c 0 0) ?_
  refine st_ldT true (2 * t) 0 rfl rfl fun v hv => ?_
  refine st_ldA true (2 * t) 0 h0 (acc0 t) (off5_kk c 0 0) ?_
  refine st_stA true (2 * t) 0 h0 hv (acc0 t) (off5_kk c 0 0) rfl ?_
  refine st_grantS (hr := Topo.routes_tc _ _) false (2 * t) 0 (left_eq c k0_dev9_eq) rfl ?_
  exact st_done (BI.Entails.refl _)

/-- Micros 1 to 2 of a round, piece 5 of the loop body. -/
theorem part5 {t : ℕ} (ht : t < 4) {x : Bool → AccS} {o : OutS} (h0 : x (par (2 * t)) = .proc (2 * t) false) (v2 : BitVec 32) :
    StE PB κ ιs c xb wb (ctr (24 * t + 1) 11) x o ⊢ wpc c (app (k0_part5 (F := F)) c v2)
      (fun _ => StE PB κ ιs c xb wb (ctr (24 * t + 2) 4) x o) := by
  rw [k0_part5_eq_skeleton]
  unfold app k0_part5_skel
  simp only [semSignalWord, semWaitWord, Prog.lift, Prog.bind_op, Prog.bind_ret, Prog.pure_eq_ret]
  refine st_grantS (hr := Topo.routes_tc _ _) true (2 * t) 0 (right_eq c k0_dev10_eq) rfl ?_
  refine st_next (24 * t + 2) ?_
  refine st_cred false rfl ?_
  refine st_cred true rfl ?_
  refine st_swait false (2 * t) 0 h0 rfl rfl ?_
  refine st_swait true (2 * t) 0 h0 rfl rfl ?_
  exact st_done (BI.Entails.refl _)

/-- Micro 2 of a round, piece 6 of the loop body. -/
theorem part6 {t : ℕ} (ht : t < 4) {x : Bool → AccS} {o : OutS} (h0 : x (par (2 * t)) = .proc (2 * t) false) (v2 : BitVec 32) (v5 : BitVec 32) (v7 : BitVec 32) :
    StE PB κ ιs c xb wb (ctr (24 * t + 2) 4) x o ⊢ wpc c (app (k0_part6 (F := F)) c v2 v5 v7)
      (fun _ => StE PB κ ιs c xb wb (ctr (24 * t + 2) 6) x o) := by
  rw [k0_part6_eq_skeleton]
  unfold app k0_part6_skel
  simp only [semSignalWord, semWaitWord, Prog.lift, Prog.bind_op, Prog.bind_ret, Prog.pure_eq_ret]
  refine st_sendS false (2 * t) 2 h0 (acc0 t) (off1_kk c 1 0) (right_eq c k0_dev11_eq) rfl rfl rfl ?_
  refine st_sendS true (2 * t) 2 h0 (acc0 t) (off2_kk c 1 0) (left_eq c k0_dev12_eq) rfl rfl rfl ?_
  exact st_done (BI.Entails.refl _)

/-- Micro 2 of a round, piece 7 of the loop body. -/
theorem part7 {t : ℕ} (ht : t < 4) {x : Bool → AccS} {o : OutS} (h0 : x (par (2 * t)) = .proc (2 * t) false) (v7 : BitVec 32) (v247 : BitVec 32) (v250 : BitVec 32) :
    StE PB κ ιs c xb wb (ctr (24 * t + 2) 6) x o ⊢ wpc c (app (k0_part7 (F := F)) c v7 v247 v250)
      (fun (r : (Σ' (v277 : Vec F S512x512 .bf16), FVec F S512x512 .bf16)) => iprop(⌜r.1 = tileOf (VAL PB true c (2 * t) 0) (kk true c (1 / 2 + 1) (1 % 2)) ∧ r.2 = sent PB true (pv true c) (12 * (2 * t) + 1)⌝ ∗ StE PB κ ιs c xb wb (ctr (24 * t + 2) 9) x o)) := by
  rw [k0_part7_eq_skeleton]
  unfold app k0_part7_skel
  simp only [semSignalWord, semWaitWord, Prog.lift, Prog.bind_op, Prog.bind_ret, Prog.pure_eq_ret]
  refine st_rwaitS false (2 * t) 1 rfl rfl ?_
  refine st_rwaitS true (2 * t) 1 rfl rfl ?_
  refine st_ldA false (2 * t) 1 h0 (acc0 t) (off4_kk c 0 1) ?_
  refine st_ldT false (2 * t) 1 rfl rfl fun v hv => ?_
  refine st_ldA false (2 * t) 1 h0 (acc0 t) (off4_kk c 0 1) ?_
  refine st_stA false (2 * t) 1 h0 hv (acc0 t) (off4_kk c 0 1) rfl ?_
  refine st_ldA true (2 * t) 1 h0 (acc0 t) (off5_kk c 0 1) ?_
  refine st_ldT true (2 * t) 1 rfl rfl fun v hv => ?_
  exact st_fact (φ := fun (r : (Σ' (v277 : Vec F S512x512 .bf16), FVec F S512x512 .bf16)) => r.1 = tileOf (VAL PB true c (2 * t) 0) (kk true c (1 / 2 + 1) (1 % 2)) ∧ r.2 = sent PB true (pv true c) (12 * (2 * t) + 1)) ⟨rfl, hv⟩

/-- Micros 2 to 3 of a round, piece 8 of the loop body. -/
theorem part8 {t : ℕ} (ht : t < 4) {x : Bool → AccS} {o : OutS} (h0 : x (par (2 * t)) = .proc (2 * t) false) (v2 : BitVec 32) (v5 : BitVec 32) (v7 : BitVec 32) (v250 : BitVec 32) (v277 : Vec F S512x512 .bf16) (v279 : FVec F S512x512 .bf16) (e1 : v277 = tileOf (VAL PB true c (2 * t) 0) (kk true c (1 / 2 + 1) (1 % 2))) (e2 : v279 = sent PB true (pv true c) (12 * (2 * t) + 1)) :
    StE PB κ ιs c xb wb (ctr (24 * t + 2) 9) x o ⊢ wpc c (app (k0_part8 (F := F)) c v2 v5 v7 v250 v277 v279)
      (fun _ => StE PB κ ιs c xb wb (ctr (24 * t + 3) 2) x o) := by
  rw [k0_part8_eq_skeleton]
  subst e1 e2
  unfold app k0_part8_skel
  simp only [semSignalWord, semWaitWord, Prog.lift, Prog.bind_op, Prog.bind_ret, Prog.pure_eq_ret]
  refine st_ldA true (2 * t) 1 h0 (acc0 t) (off5_kk c 0 1) ?_
  refine st_stA true (2 * t) 1 h0 rfl (acc0 t) (off5_kk c 0 1) rfl ?_
  refine st_grantS (hr := Topo.routes_tc _ _) false (2 * t) 1 (left_eq c k0_dev13_eq) rfl ?_
  refine st_grantS (hr := Topo.routes_tc _ _) true (2 * t) 1 (right_eq c k0_dev14_eq) rfl ?_
  refine st_next (24 * t + 3) ?_
  refine st_cred false rfl ?_
  refine st_cred true rfl ?_
  exact st_done (BI.Entails.refl _)

/-- Micro 3 of a round, piece 9 of the loop body. -/
theorem part9 {t : ℕ} (ht : t < 4) {x : Bool → AccS} {o : OutS} (h0 : x (par (2 * t)) = .proc (2 * t) false) (v2 : BitVec 32) (v5 : BitVec 32) (v7 : BitVec 32) :
    StE PB κ ιs c xb wb (ctr (24 * t + 3) 2) x o ⊢ wpc c (app (k0_part9 (F := F)) c v2 v5 v7)
      (fun _ => StE PB κ ιs c xb wb (ctr (24 * t + 3) 6) x o) := by
  rw [k0_part9_eq_skeleton]
  unfold app k0_part9_skel
  simp only [semSignalWord, semWaitWord, Prog.lift, Prog.bind_op, Prog.bind_ret, Prog.pure_eq_ret]
  refine st_swait false (2 * t) 1 h0 rfl rfl ?_
  refine st_swait true (2 * t) 1 h0 rfl rfl ?_
  refine st_sendS false (2 * t) 3 h0 (acc0 t) (off1_kk c 1 1) (right_eq c k0_dev15_eq) rfl rfl rfl ?_
  refine st_sendS true (2 * t) 3 h0 (acc0 t) (off2_kk c 1 1) (left_eq c k0_dev16_eq) rfl rfl rfl ?_
  exact st_done (BI.Entails.refl _)

/-- Micro 3 of a round, piece 10 of the loop body. -/
theorem part10 {t : ℕ} (ht : t < 4) {x : Bool → AccS} {o : OutS} (h0 : x (par (2 * t)) = .proc (2 * t) false) (v2 : BitVec 32) (v7 : BitVec 32) (v331 : BitVec 32) (c4_i32_339 : BitVec 32) :
    StE PB κ ιs c xb wb (ctr (24 * t + 3) 6) x o ⊢ wpc c (app (k0_part10 (F := F)) c v2 v7 v331 c4_i32_339)
      (fun (r : (Σ' (v337 : BitVec 32) (v340 : BitVec 32), Vec F S512x512 .bf16)) => iprop(⌜r.2.2 = tileOf (VAL PB false c (2 * t) 0) (kk false c (2 / 2 + 1) (2 % 2))⌝ ∗ StE PB κ ιs c xb wb (ctr (24 * t + 3) 8) x o)) := by
  rw [k0_part10_eq_skeleton]
  unfold app k0_part10_skel
  simp only [semSignalWord, semWaitWord, Prog.lift, Prog.bind_op, Prog.bind_ret, Prog.pure_eq_ret]
  refine st_rwaitS false (2 * t) 2 rfl rfl ?_
  refine st_rwaitS true (2 * t) 2 rfl rfl ?_
  refine st_ldA false (2 * t) 2 h0 (acc0 t) (off4_kk c 1 0) ?_
  exact st_fact (φ := fun (r : (Σ' (v337 : BitVec 32) (v340 : BitVec 32), Vec F S512x512 .bf16)) => r.2.2 = tileOf (VAL PB false c (2 * t) 0) (kk false c (2 / 2 + 1) (2 % 2))) rfl

/-- Micros 3 to 4 of a round, piece 11 of the loop body. -/
theorem part11 {t : ℕ} (ht : t < 4) {x : Bool → AccS} {o : OutS} (h0 : x (par (2 * t)) = .proc (2 * t) false) (v2 : BitVec 32) (v5 : BitVec 32) (v7 : BitVec 32) (v337 : BitVec 32) (v340 : BitVec 32) (v358 : Vec F S512x512 .bf16) (e1 : v358 = tileOf (VAL PB false c (2 * t) 0) (kk false c (2 / 2 + 1) (2 % 2))) :
    StE PB κ ιs c xb wb (ctr (24 * t + 3) 8) x o ⊢ wpc c (app (k0_part11 (F := F)) c v2 v5 v7 v337 v340 v358)
      (fun _ => StE PB κ ιs c xb wb (ctr (24 * t + 4) 1) x o) := by
  rw [k0_part11_eq_skeleton]
  subst e1
  unfold app k0_part11_skel
  simp only [semSignalWord, semWaitWord, Prog.lift, Prog.bind_op, Prog.bind_ret, Prog.pure_eq_ret]
  refine st_ldT false (2 * t) 2 rfl rfl fun v hv => ?_
  refine st_ldA false (2 * t) 2 h0 (acc0 t) (off4_kk c 1 0) ?_
  refine st_stA false (2 * t) 2 h0 hv (acc0 t) (off4_kk c 1 0) rfl ?_
  refine st_ldA true (2 * t) 2 h0 (acc0 t) (off5_kk c 1 0) ?_
  refine st_ldT true (2 * t) 2 rfl rfl fun v hv => ?_
  refine st_ldA true (2 * t) 2 h0 (acc0 t) (off5_kk c 1 0) ?_
  refine st_stA true (2 * t) 2 h0 hv (acc0 t) (off5_kk c 1 0) rfl ?_
  refine st_grantS (hr := Topo.routes_tc _ _) false (2 * t) 2 (left_eq c k0_dev17_eq) rfl ?_
  refine st_grantS (hr := Topo.routes_tc _ _) true (2 * t) 2 (right_eq c k0_dev18_eq) rfl ?_
  refine st_next (24 * t + 4) ?_
  refine st_cred false rfl ?_
  exact st_done (BI.Entails.refl _)

/-- Micro 4 of a round, piece 12 of the loop body. -/
theorem part12 {t : ℕ} (ht : t < 4) {x : Bool → AccS} {o : OutS} (h0 : x (par (2 * t)) = .proc (2 * t) false) (v5 : BitVec 32) (v7 : BitVec 32) :
    StE PB κ ιs c xb wb (ctr (24 * t + 4) 1) x o ⊢ wpc c (app (k0_part12 (F := F)) c v5 v7)
      (fun _ => StE PB κ ιs c xb wb (ctr (24 * t + 4) 5) x o) := by
  rw [k0_part12_eq_skeleton]
  unfold app k0_part12_skel
  simp only [semSignalWord, semWaitWord, Prog.lift, Prog.bind_op, Prog.bind_ret, Prog.pure_eq_ret]
  refine st_cred true rfl ?_
  refine st_swait false (2 * t) 2 h0 rfl rfl ?_
  refine st_swait true (2 * t) 2 h0 rfl rfl ?_
  refine st_sendS false (2 * t) 4 h0 (acc0 t) (off1_kk c 2 0) (right_eq c k0_dev19_eq) rfl rfl rfl ?_
  exact st_done (BI.Entails.refl _)

/-- Micro 4 of a round, piece 13 of the loop body. -/
theorem part13 {t : ℕ} (ht : t < 4) {x : Bool → AccS} {o : OutS} (h0 : x (par (2 * t)) = .proc (2 * t) false) (v2 : BitVec 32) (v7 : BitVec 32) :
    StE PB κ ιs c xb wb (ctr (24 * t + 4) 5) x o ⊢ wpc c (app (k0_part13 (F := F)) c v2 v7)
      (fun _ => StE PB κ ιs c xb wb (ctr (24 * t + 4) 7) x o) := by
  rw [k0_part13_eq_skeleton]
  unfold app k0_part13_skel
  simp only [semSignalWord, semWaitWord, Prog.lift, Prog.bind_op, Prog.bind_ret, Prog.pure_eq_ret]
  refine st_sendS true (2 * t) 4 h0 (acc0 t) (off2_kk c 2 0) (left_eq c k0_dev20_eq) rfl rfl rfl ?_
  refine st_rwaitS false (2 * t) 3 rfl rfl ?_
  exact st_done (BI.Entails.refl _)

/-- Micros 4 to 5 of a round, piece 14 of the loop body. -/
theorem part14 {t : ℕ} (ht : t < 4) {x : Bool → AccS} {o : OutS} (h0 : x (par (2 * t)) = .proc (2 * t) false) (v5 : BitVec 32) (v7 : BitVec 32) (arg14 : BitVec 32) (v427 : BitVec 32) (v430 : BitVec 32) (v439 : BitVec 32) :
    StE PB κ ιs c xb wb (ctr (24 * t + 4) 7) x o ⊢ wpc c (app (k0_part14 (F := F)) c v5 v7 arg14 v427 v430 v439)
      (fun (r : (BitVec 1)) => iprop(⌜r = Scalar.cmpi .ne (Scalar.extui (Scalar.cmpi .sge arg14 1#32)) 0#32⌝ ∗ StE PB κ ιs c xb wb (ctr (24 * t + 5) 0) x o)) := by
  rw [k0_part14_eq_skeleton]
  unfold app k0_part14_skel
  simp only [semSignalWord, semWaitWord, Prog.lift, Prog.bind_op, Prog.bind_ret, Prog.pure_eq_ret]
  refine st_rwaitS true (2 * t) 3 rfl rfl ?_
  refine st_ldA false (2 * t) 3 h0 (acc0 t) (off4_kk c 1 1) ?_
  refine st_ldT false (2 * t) 3 rfl rfl fun v hv => ?_
  refine st_ldA false (2 * t) 3 h0 (acc0 t) (off4_kk c 1 1) ?_
  refine st_stA false (2 * t) 3 h0 hv (acc0 t) (off4_kk c 1 1) rfl ?_
  refine st_ldA true (2 * t) 3 h0 (acc0 t) (off5_kk c 1 1) ?_
  refine st_ldT true (2 * t) 3 rfl rfl fun v hv => ?_
  refine st_ldA true (2 * t) 3 h0 (acc0 t) (off5_kk c 1 1) ?_
  refine st_stA true (2 * t) 3 h0 hv (acc0 t) (off5_kk c 1 1) rfl ?_
  refine st_grantS (hr := Topo.routes_tc _ _) false (2 * t) 3 (left_eq c k0_dev21_eq) rfl ?_
  refine st_grantS (hr := Topo.routes_tc _ _) true (2 * t) 3 (right_eq c k0_dev22_eq) rfl ?_
  refine st_next (24 * t + 5) ?_
  exact st_fact (φ := fun (r : (BitVec 1)) => r = Scalar.cmpi .ne (Scalar.extui (Scalar.cmpi .sge arg14 1#32)) 0#32) rfl

end

end Cert.KernelIdeal.Ring
-- ==== Proof.LoopB.lean ====
module

public import proofs.«01_k».proof.Proof.Ops

/-! The all-gather of the even block. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

/-- Micro 5 of a round, piece 16 of the loop body. -/
theorem part16 {t : ℕ} (ht : t < 4) {x : Bool → AccS} {o : OutS} (h0 : x (par (2 * t)) = .proc (2 * t) false) (v2 : BitVec 32) (v5 : BitVec 32) (v7 : BitVec 32) :
    StE PB κ ιs c xb wb (ctr (24 * t + 5) 2) x o ⊢ wpc c (app (k0_part16 (F := F)) c v2 v5 v7)
      (fun _ => StE PB κ ιs c xb wb (ctr (24 * t + 5) 6) x o) := by
  rw [k0_part16_eq_skeleton]
  unfold app k0_part16_skel
  simp only [semSignalWord, semWaitWord, Prog.lift, Prog.bind_op, Prog.bind_ret, Prog.pure_eq_ret]
  refine st_swait false (2 * t) 3 h0 rfl rfl ?_
  refine st_swait true (2 * t) 3 h0 rfl rfl ?_
  refine st_sendS false (2 * t) 5 h0 (acc0 t) (off1_kk c 2 1) (right_eq c k0_dev23_eq) rfl rfl rfl ?_
  refine st_sendS true (2 * t) 5 h0 (acc0 t) (off2_kk c 2 1) (left_eq c k0_dev24_eq) rfl rfl rfl ?_
  exact st_done (BI.Entails.refl _)

/-- Micro 5 of a round, piece 17 of the loop body. -/
theorem part17 {t : ℕ} (ht : t < 4) {x : Bool → AccS} {o : OutS} (v2 : BitVec 32) (v7 : BitVec 32) (v525 : BitVec 32) :
    StE PB κ ιs c xb wb (ctr (24 * t + 5) 6) x o ⊢ wpc c (app (k0_part17 (F := F)) v2 v7 v525)
      (fun _ => StE PB κ ιs c xb wb (ctr (24 * t + 5) 8) x o) := by
  rw [k0_part17_eq_skeleton]
  unfold app k0_part17_skel
  simp only [semSignalWord, semWaitWord, Prog.lift, Prog.bind_op, Prog.bind_ret, Prog.pure_eq_ret]
  refine st_rwaitS false (2 * t) 4 rfl rfl ?_
  refine st_rwaitS true (2 * t) 4 rfl rfl ?_
  exact st_done (BI.Entails.refl _)

/-- Micro 6 of a round, piece 20 of the loop body. -/
theorem part20 {t : ℕ} (ht : t < 4) {x : Bool → AccS} {o : OutS} (h0 : x (par (2 * t)) = .proc (2 * t) false) (v2 : BitVec 32) (v5 : BitVec 32) (v7 : BitVec 32) :
    StE PB κ ιs c xb wb (ctr (24 * t + 6) 3) x o ⊢ wpc c (app (k0_part20 (F := F)) c v2 v5 v7)
      (fun _ => StE PB κ ιs c xb wb (ctr (24 * t + 6) 6) x o) := by
  rw [k0_part20_eq_skeleton]
  unfold app k0_part20_skel
  simp only [semSignalWord, semWaitWord, Prog.lift, Prog.bind_op, Prog.bind_ret, Prog.pure_eq_ret]
  refine st_swait true (2 * t) 4 h0 rfl rfl ?_
  refine st_sendG false (2 * t) 6 h0 (acc0 t) (off7_kk c 0 0) (right_eq c k0_dev27_eq) rfl rfl ?_
  refine st_sendG true (2 * t) 6 h0 (acc0 t) (off8_kk c 0 0) (left_eq c k0_dev28_eq) rfl rfl ?_
  exact st_done (BI.Entails.refl _)

/-- Micro 6 of a round, piece 21 of the loop body. -/
theorem part21 {t : ℕ} (ht : t < 4) {x : Bool → AccS} {o : OutS} (h0 : x (par (2 * t)) = .proc (2 * t) false) (v7 : BitVec 32) (v637 : BitVec 32) (v638 : BitVec 32) (c1024_i32_653 : BitVec 32) :
    StE PB κ ιs c xb wb (ctr (24 * t + 6) 6) x o ⊢ wpc c (app (k0_part21 (F := F)) c v7 v637 v638 c1024_i32_653)
      (fun (r : (Σ' (v640 : BitVec 32), Vec F S512x512 .bf16)) => iprop(⌜r.2 = tileOf (VAL PB true c (2 * t) 0) (kk true c (5 / 2 + 1) (5 % 2))⌝ ∗ StE PB κ ιs c xb wb (ctr (24 * t + 6) 9) x o)) := by
  rw [k0_part21_eq_skeleton]
  unfold app k0_part21_skel
  simp only [semSignalWord, semWaitWord, Prog.lift, Prog.bind_op, Prog.bind_ret, Prog.pure_eq_ret]
  refine st_rwaitS false (2 * t) 5 rfl rfl ?_
  refine st_rwaitS true (2 * t) 5 rfl rfl ?_
  refine st_ldA false (2 * t) 5 h0 (acc0 t) (off4_kk c 2 1) ?_
  refine st_ldT false (2 * t) 5 rfl rfl fun v hv => ?_
  refine st_ldA false (2 * t) 5 h0 (acc0 t) (off4_kk c 2 1) ?_
  refine st_stA false (2 * t) 5 h0 hv (acc0 t) (off4_kk c 2 1) rfl ?_
  refine st_ldA true (2 * t) 5 h0 (acc0 t) (off5_kk c 2 1) ?_
  exact st_fact (φ := fun (r : (Σ' (v640 : BitVec 32), Vec F S512x512 .bf16)) => r.2 = tileOf (VAL PB true c (2 * t) 0) (kk true c (5 / 2 + 1) (5 % 2))) rfl

/-- Micros 6 to 7 of a round, piece 22 of the loop body. -/
theorem part22 {t : ℕ} (ht : t < 4) {x : Bool → AccS} {o : OutS} (h0 : x (par (2 * t)) = .proc (2 * t) false) (v2 : BitVec 32) (v5 : BitVec 32) (v7 : BitVec 32) (v640 : BitVec 32) (v667 : Vec F S512x512 .bf16) (e1 : v667 = tileOf (VAL PB true c (2 * t) 0) (kk true c (5 / 2 + 1) (5 % 2))) :
    StE PB κ ιs c xb wb (ctr (24 * t + 6) 9) x o ⊢ wpc c (app (k0_part22 (F := F)) c v2 v5 v7 v640 v667)
      (fun _ => StE PB κ ιs c xb wb (ctr (24 * t + 7) 2) x o) := by
  rw [k0_part22_eq_skeleton]
  subst e1
  unfold app k0_part22_skel
  simp only [semSignalWord, semWaitWord, Prog.lift, Prog.bind_op, Prog.bind_ret, Prog.pure_eq_ret]
  refine st_ldT true (2 * t) 5 rfl rfl fun v hv => ?_
  refine st_ldA true (2 * t) 5 h0 (acc0 t) (off5_kk c 2 1) ?_
  refine st_stA true (2 * t) 5 h0 hv (acc0 t) (off5_kk c 2 1) rfl ?_
  refine st_grantG (hr := Topo.routes_tc _ _) false (2 * t) 5 h0 (left_eq c k0_dev29_eq) rfl ?_
  refine st_grantG (hr := Topo.routes_tc _ _) true (2 * t) 5 h0 (right_eq c k0_dev30_eq) rfl ?_
  refine st_next (24 * t + 7) ?_
  refine st_cred false rfl ?_
  refine st_cred true rfl ?_
  exact st_done (BI.Entails.refl _)

/-- Micro 7 of a round, piece 23 of the loop body. -/
theorem part23 {t : ℕ} (ht : t < 4) {x : Bool → AccS} {o : OutS} (h0 : x (par (2 * t)) = .proc (2 * t) false) (v5 : BitVec 32) (v7 : BitVec 32) :
    StE PB κ ιs c xb wb (ctr (24 * t + 7) 2) x o ⊢ wpc c (app (k0_part23 (F := F)) c v5 v7)
      (fun _ => StE PB κ ιs c xb wb (ctr (24 * t + 7) 6) x o) := by
  rw [k0_part23_eq_skeleton]
  unfold app k0_part23_skel
  simp only [semSignalWord, semWaitWord, Prog.lift, Prog.bind_op, Prog.bind_ret, Prog.pure_eq_ret]
  refine st_swait false (2 * t) 5 h0 rfl rfl ?_
  refine st_swait true (2 * t) 5 h0 rfl rfl ?_
  refine st_sendG false (2 * t) 7 h0 (acc0 t) (off7_kk c 0 1) (right_eq c k0_dev31_eq) rfl rfl ?_
  refine st_sendG true (2 * t) 7 h0 (acc0 t) (off8_kk c 0 1) (left_eq c k0_dev32_eq) rfl rfl ?_
  exact st_done (BI.Entails.refl _)

/-- Micros 7 to 8 of a round, piece 24 of the loop body. -/
theorem part24 {t : ℕ} (ht : t < 4) {x : Bool → AccS} {o : OutS} (h0 : x (par (2 * t)) = .proc (2 * t) false) (v2 : BitVec 32) (v5 : BitVec 32) (v7 : BitVec 32) :
    StE PB κ ιs c xb wb (ctr (24 * t + 7) 6) x o ⊢ wpc c (app (k0_part24 (F := F)) c v2 v5 v7)
      (fun _ => StE PB κ ιs c xb wb (ctr (24 * t + 8) 0) x o) := by
  rw [k0_part24_eq_skeleton]
  unfold app k0_part24_skel
  simp only [semSignalWord, semWaitWord, Prog.lift, Prog.bind_op, Prog.bind_ret, Prog.pure_eq_ret]
  refine st_rwaitG false (2 * t) 6 h0 rfl rfl ?_
  refine st_rwaitG true (2 * t) 6 h0 rfl rfl ?_
  refine BIBase.Entails.trans (st_skip (2 * t) 6) ?_
  refine st_grantG (hr := Topo.routes_tc _ _) false (2 * t) 6 h0 (left_eq c k0_dev33_eq) rfl ?_
  refine st_grantG (hr := Topo.routes_tc _ _) true (2 * t) 6 h0 (right_eq c k0_dev34_eq) rfl ?_
  refine st_next (24 * t + 8) ?_
  exact st_done (BI.Entails.refl _)

/-- Micro 8 of a round, piece 25 of the loop body. -/
theorem part25 {t : ℕ} (ht : t < 4) {x : Bool → AccS} {o : OutS} (h0 : x (par (2 * t)) = .proc (2 * t) false) (v7 : BitVec 32) (v743 : BitVec 32) (v745 : BitVec 32) (c8_i32_770 : BitVec 32) :
    StE PB κ ιs c xb wb (ctr (24 * t + 8) 0) x o ⊢ wpc c (app (k0_part25 (F := F)) v7 v743 v745 c8_i32_770)
      (fun _ => StE PB κ ιs c xb wb (ctr (24 * t + 8) 4) x o) := by
  rw [k0_part25_eq_skeleton]
  unfold app k0_part25_skel
  simp only [semSignalWord, semWaitWord, Prog.lift, Prog.bind_op, Prog.bind_ret, Prog.pure_eq_ret]
  refine st_cred false rfl ?_
  refine st_cred true rfl ?_
  refine st_swait false (2 * t) 6 h0 rfl rfl ?_
  refine st_swait true (2 * t) 6 h0 rfl rfl ?_
  exact st_done (BI.Entails.refl _)

/-- Micro 8 of a round, piece 26 of the loop body. -/
theorem part26 {t : ℕ} (ht : t < 4) {x : Bool → AccS} {o : OutS} (h0 : x (par (2 * t)) = .proc (2 * t) false) (v5 : BitVec 32) (v7 : BitVec 32) :
    StE PB κ ιs c xb wb (ctr (24 * t + 8) 4) x o ⊢ wpc c (app (k0_part26 (F := F)) c v5 v7)
      (fun _ => StE PB κ ιs c xb wb (ctr (24 * t + 8) 10) x o) := by
  rw [k0_part26_eq_skeleton]
  unfold app k0_part26_skel
  simp only [semSignalWord, semWaitWord, Prog.lift, Prog.bind_op, Prog.bind_ret, Prog.pure_eq_ret]
  refine st_sendG false (2 * t) 8 h0 (acc0 t) (off7_kk c 1 0) (right_eq c k0_dev35_eq) rfl rfl ?_
  refine st_sendG true (2 * t) 8 h0 (acc0 t) (off8_kk c 1 0) (left_eq c k0_dev36_eq) rfl rfl ?_
  refine st_rwaitG false (2 * t) 7 h0 rfl rfl ?_
  refine st_rwaitG true (2 * t) 7 h0 rfl rfl ?_
  refine BIBase.Entails.trans (st_skip (2 * t) 7) ?_
  exact st_done (BI.Entails.refl _)

/-- Micros 8 to 9 of a round, piece 27 of the loop body. -/
theorem part27 {t : ℕ} (ht : t < 4) {x : Bool → AccS} {o : OutS} (h0 : x (par (2 * t)) = .proc (2 * t) false) (v2 : BitVec 32) (v5 : BitVec 32) (v7 : BitVec 32) :
    StE PB κ ιs c xb wb (ctr (24 * t + 8) 10) x o ⊢ wpc c (app (k0_part27 (F := F)) c v2 v5 v7)
      (fun _ => StE PB κ ιs c xb wb (ctr (24 * t + 9) 3) x o) := by
  rw [k0_part27_eq_skeleton]
  unfold app k0_part27_skel
  simp only [semSignalWord, semWaitWord, Prog.lift, Prog.bind_op, Prog.bind_ret, Prog.pure_eq_ret]
  refine st_grantG (hr := Topo.routes_tc _ _) false (2 * t) 7 h0 (left_eq c k0_dev37_eq) rfl ?_
  refine st_grantG (hr := Topo.routes_tc _ _) true (2 * t) 7 h0 (right_eq c k0_dev38_eq) rfl ?_
  refine st_next (24 * t + 9) ?_
  refine st_cred false rfl ?_
  refine st_cred true rfl ?_
  refine st_swait false (2 * t) 7 h0 rfl rfl ?_
  exact st_done (BI.Entails.refl _)

/-- Micro 9 of a round, piece 28 of the loop body. -/
theorem part28 {t : ℕ} (ht : t < 4) {x : Bool → AccS} {o : OutS} (h0 : x (par (2 * t)) = .proc (2 * t) false) (v5 : BitVec 32) (v7 : BitVec 32) :
    StE PB κ ιs c xb wb (ctr (24 * t + 9) 3) x o ⊢ wpc c (app (k0_part28 (F := F)) c v5 v7)
      (fun _ => StE PB κ ιs c xb wb (ctr (24 * t + 9) 6) x o) := by
  rw [k0_part28_eq_skeleton]
  unfold app k0_part28_skel
  simp only [semSignalWord, semWaitWord, Prog.lift, Prog.bind_op, Prog.bind_ret, Prog.pure_eq_ret]
  refine st_swait true (2 * t) 7 h0 rfl rfl ?_
  refine st_sendG false (2 * t) 9 h0 (acc0 t) (off7_kk c 1 1) (right_eq c k0_dev39_eq) rfl rfl ?_
  refine st_sendG true (2 * t) 9 h0 (acc0 t) (off8_kk c 1 1) (left_eq c k0_dev40_eq) rfl rfl ?_
  exact st_done (BI.Entails.refl _)

/-- Micros 9 to 10 of a round, piece 29 of the loop body. -/
theorem part29 {t : ℕ} (ht : t < 4) {x : Bool → AccS} {o : OutS} (h0 : x (par (2 * t)) = .proc (2 * t) false) (v2 : BitVec 32) (v5 : BitVec 32) (v7 : BitVec 32) :
    StE PB κ ιs c xb wb (ctr (24 * t + 9) 6) x o ⊢ wpc c (app (k0_part29 (F := F)) c v2 v5 v7)
      (fun _ => StE PB κ ιs c xb wb (ctr (24 * t + 10) 0) x o) := by
  rw [k0_part29_eq_skeleton]
  unfold app k0_part29_skel
  simp only [semSignalWord, semWaitWord, Prog.lift, Prog.bind_op, Prog.bind_ret, Prog.pure_eq_ret]
  refine st_rwaitG false (2 * t) 8 h0 rfl rfl ?_
  refine st_rwaitG true (2 * t) 8 h0 rfl rfl ?_
  refine BIBase.Entails.trans (st_skip (2 * t) 8) ?_
  refine st_grantG (hr := Topo.routes_tc _ _) false (2 * t) 8 h0 (left_eq c k0_dev41_eq) rfl ?_
  refine st_grantG (hr := Topo.routes_tc _ _) true (2 * t) 8 h0 (right_eq c k0_dev42_eq) rfl ?_
  refine st_next (24 * t + 10) ?_
  exact st_done (BI.Entails.refl _)

/-- Micro 10 of a round, piece 30 of the loop body. -/
theorem part30 {t : ℕ} (ht : t < 4) {x : Bool → AccS} {o : OutS} (h0 : x (par (2 * t)) = .proc (2 * t) false) (v5 : BitVec 32) (v7 : BitVec 32) (v873 : BitVec 32) (c0_i32_922 : BitVec 32) :
    StE PB κ ιs c xb wb (ctr (24 * t + 10) 0) x o ⊢ wpc c (app (k0_part30 (F := F)) c v5 v7 v873 c0_i32_922)
      (fun _ => StE PB κ ιs c xb wb (ctr (24 * t + 10) 5) x o) := by
  rw [k0_part30_eq_skeleton]
  unfold app k0_part30_skel
  simp only [semSignalWord, semWaitWord, Prog.lift, Prog.bind_op, Prog.bind_ret, Prog.pure_eq_ret]
  refine st_cred false rfl ?_
  refine st_cred true rfl ?_
  refine st_swait false (2 * t) 8 h0 rfl rfl ?_
  refine st_swait true (2 * t) 8 h0 rfl rfl ?_
  refine st_sendG false (2 * t) 10 h0 (acc0 t) (off7_kk c 2 0) (right_eq c k0_dev43_eq) rfl rfl ?_
  exact st_done (BI.Entails.refl _)

/-- Micros 10 to 11 of a round, piece 31 of the loop body. -/
theorem part31 {t : ℕ} (ht : t < 4) {x : Bool → AccS} {o : OutS} (h0 : x (par (2 * t)) = .proc (2 * t) false) (v5 : BitVec 32) (v7 : BitVec 32) :
    StE PB κ ιs c xb wb (ctr (24 * t + 10) 5) x o ⊢ wpc c (app (k0_part31 (F := F)) c v5 v7)
      (fun _ => StE PB κ ιs c xb wb (ctr (24 * t + 11) 0) x o) := by
  rw [k0_part31_eq_skeleton]
  unfold app k0_part31_skel
  simp only [semSignalWord, semWaitWord, Prog.lift, Prog.bind_op, Prog.bind_ret, Prog.pure_eq_ret]
  refine st_sendG true (2 * t) 10 h0 (acc0 t) (off8_kk c 2 0) (left_eq c k0_dev44_eq) rfl rfl ?_
  refine st_rwaitG false (2 * t) 9 h0 rfl rfl ?_
  refine st_rwaitG true (2 * t) 9 h0 rfl rfl ?_
  refine BIBase.Entails.trans (st_skip (2 * t) 9) ?_
  refine st_grantG (hr := Topo.routes_tc _ _) false (2 * t) 9 h0 (left_eq c k0_dev45_eq) rfl ?_
  refine st_grantG (hr := Topo.routes_tc _ _) true (2 * t) 9 h0 (right_eq c k0_dev46_eq) rfl ?_
  refine st_next (24 * t + 11) ?_
  exact st_done (BI.Entails.refl _)

/-- Micro 11 of a round, piece 32 of the loop body. -/
theorem part32 {t : ℕ} (ht : t < 4) {x : Bool → AccS} {o : OutS} (h0 : x (par (2 * t)) = .proc (2 * t) false) (v2 : BitVec 32) (c1_i32_983 : BitVec 32) :
    StE PB κ ιs c xb wb (ctr (24 * t + 11) 0) x o ⊢ wpc c (app (k0_part32 (F := F)) v2 c1_i32_983)
      (fun _ => StE PB κ ιs c xb wb (ctr (24 * t + 11) 3) x o) := by
  rw [k0_part32_eq_skeleton]
  unfold app k0_part32_skel
  simp only [semSignalWord, semWaitWord, Prog.lift, Prog.bind_op, Prog.bind_ret, Prog.pure_eq_ret]
  refine st_cred false rfl ?_
  refine st_cred true rfl ?_
  refine st_swait false (2 * t) 9 h0 rfl rfl ?_
  exact st_done (BI.Entails.refl _)

/-- Micro 11 of a round, piece 33 of the loop body. -/
theorem part33 {t : ℕ} (ht : t < 4) {x : Bool → AccS} {o : OutS} (h0 : x (par (2 * t)) = .proc (2 * t) false) (v5 : BitVec 32) (v7 : BitVec 32) :
    StE PB κ ιs c xb wb (ctr (24 * t + 11) 3) x o ⊢ wpc c (app (k0_part33 (F := F)) c v5 v7)
      (fun _ => StE PB κ ιs c xb wb (ctr (24 * t + 11) 7) x o) := by
  rw [k0_part33_eq_skeleton]
  unfold app k0_part33_skel
  simp only [semSignalWord, semWaitWord, Prog.lift, Prog.bind_op, Prog.bind_ret, Prog.pure_eq_ret]
  refine st_swait true (2 * t) 9 h0 rfl rfl ?_
  refine st_sendG false (2 * t) 11 h0 (acc0 t) (off7_kk c 2 1) (right_eq c k0_dev47_eq) rfl rfl ?_
  refine st_sendG true (2 * t) 11 h0 (acc0 t) (off8_kk c 2 1) (left_eq c k0_dev48_eq) rfl rfl ?_
  refine st_rwaitG false (2 * t) 10 h0 rfl rfl ?_
  exact st_done (BI.Entails.refl _)

/-- Micros 11 to 12 of a round, piece 34 of the loop body. -/
theorem part34 {t : ℕ} (ht : t < 4) {x : Bool → AccS} {o : OutS} (h0 : x (par (2 * t)) = .proc (2 * t) false) (v2 : BitVec 32) (v5 : BitVec 32) (v7 : BitVec 32) :
    StE PB κ ιs c xb wb (ctr (24 * t + 11) 7) x o ⊢ wpc c (app (k0_part34 (F := F)) c v2 v5 v7)
      (fun _ => StE PB κ ιs c xb wb (ctr (24 * t + 12) 2) x o) := by
  rw [k0_part34_eq_skeleton]
  unfold app k0_part34_skel
  simp only [semSignalWord, semWaitWord, Prog.lift, Prog.bind_op, Prog.bind_ret, Prog.pure_eq_ret]
  refine st_rwaitG true (2 * t) 10 h0 rfl rfl ?_
  refine BIBase.Entails.trans (st_skip (2 * t) 10) ?_
  refine st_grantS (hr := Topo.routes_tc _ _) false (2 * t) 10 (left_eq c k0_dev49_eq) rfl ?_
  refine st_grantS (hr := Topo.routes_tc _ _) true (2 * t) 10 (right_eq c k0_dev50_eq) rfl ?_
  refine st_next (24 * t + 12) ?_
  refine st_cred false rfl ?_
  refine st_cred true rfl ?_
  exact st_done (BI.Entails.refl _)

/-- Micro 12 of a round, piece 35 of the loop body. -/
theorem part35 {t : ℕ} (ht : t < 4) {x : Bool → AccS} {o : OutS} (h0 : x (par (2 * t)) = .proc (2 * t) false) (h1 : x (par (2 * t + 1)) = .proc (2 * t + 1) false) (v5 : BitVec 32) (v7 : BitVec 32) :
    StE PB κ ιs c xb wb (ctr (24 * t + 12) 2) x o ⊢ wpc c (app (k0_part35 (F := F)) c v5 v7)
      (fun _ => StE PB κ ιs c xb wb (ctr (24 * t + 12) 6) x o) := by
  rw [k0_part35_eq_skeleton]
  unfold app k0_part35_skel
  simp only [semSignalWord, semWaitWord, Prog.lift, Prog.bind_op, Prog.bind_ret, Prog.pure_eq_ret]
  refine st_swait false (2 * t) 10 h0 rfl rfl ?_
  refine st_swait true (2 * t) 10 h0 rfl rfl ?_
  refine st_sendS false (2 * t + 1) 0 h1 (acc1 t) (off1_kk c 0 0) (right_eq c k0_dev51_eq) rfl rfl rfl ?_
  refine st_sendS true (2 * t + 1) 0 h1 (acc1 t) (off2_kk c 0 0) (left_eq c k0_dev52_eq) rfl rfl rfl ?_
  exact st_done (BI.Entails.refl _)

end

end Cert.KernelIdeal.Ring
-- ==== Proof.LoopC.lean ====
module

public import proofs.«01_k».proof.Proof.Ops

/-! The reduce-scatter of the odd block. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

/-- Micro 13 of a round, piece 37 of the loop body. -/
theorem part37 {t : ℕ} (ht : t < 4) {x : Bool → AccS} {o : OutS} {ou : Bool} (h0 : x (par (2 * t)) = .proc (2 * t) ou) (v2 : BitVec 32) (v7 : BitVec 32) (v1049 : BitVec 32) (c8_i32_1135 : BitVec 32) :
    StE PB κ ιs c xb wb (ctr (24 * t + 13) 0) x o ⊢ wpc c (app (k0_part37 (F := F)) v2 v7 v1049 c8_i32_1135)
      (fun _ => StE PB κ ιs c xb wb (ctr (24 * t + 13) 4) x o) := by
  rw [k0_part37_eq_skeleton]
  unfold app k0_part37_skel
  simp only [semSignalWord, semWaitWord, Prog.lift, Prog.bind_op, Prog.bind_ret, Prog.pure_eq_ret]
  refine st_cred false rfl ?_
  refine st_cred true rfl ?_
  refine st_swait false (2 * t) 11 h0 rfl rfl ?_
  refine st_swait true (2 * t) 11 h0 rfl rfl ?_
  exact st_done (BI.Entails.refl _)

/-- Micro 13 of a round, piece 38 of the loop body. -/
theorem part38 {t : ℕ} (ht : t < 4) {x : Bool → AccS} {o : OutS} (h1 : x (par (2 * t + 1)) = .proc (2 * t + 1) false) (v2 : BitVec 32) (v5 : BitVec 32) (v1071 : BitVec 32) :
    StE PB κ ιs c xb wb (ctr (24 * t + 13) 4) x o ⊢ wpc c (app (k0_part38 (F := F)) c v2 v5 v1071)
      (fun _ => StE PB κ ιs c xb wb (ctr (24 * t + 13) 6) x o) := by
  rw [k0_part38_eq_skeleton]
  unfold app k0_part38_skel
  simp only [semSignalWord, semWaitWord, Prog.lift, Prog.bind_op, Prog.bind_ret, Prog.pure_eq_ret]
  refine st_sendS false (2 * t + 1) 1 h1 (acc1 t) (off1_kk c 0 1) (right_eq c k0_dev55_eq) rfl rfl rfl ?_
  refine st_sendS true (2 * t + 1) 1 h1 (acc1 t) (off2_kk c 0 1) (left_eq c k0_dev56_eq) rfl rfl rfl ?_
  exact st_done (BI.Entails.refl _)

/-- Micro 13 of a round, piece 39 of the loop body. -/
theorem part39 {t : ℕ} (ht : t < 4) {x : Bool → AccS} {o : OutS} (h1 : x (par (2 * t + 1)) = .proc (2 * t + 1) false) (v7 : BitVec 32) (v1097 : BitVec 32) (v1100 : BitVec 32) (c1_i32_1198 : BitVec 32) :
    StE PB κ ιs c xb wb (ctr (24 * t + 13) 6) x o ⊢ wpc c (app (k0_part39 (F := F)) c v7 v1097 v1100 c1_i32_1198)
      (fun (r : (Σ' (v1130 : FVec F S512x512 .bf16), Vec F S512x512 .bf16)) => iprop(⌜r.1 = addf (tileOf (VAL PB true c (2 * t + 1) 0) (kk true c (0 / 2 + 1) (0 % 2))) (sent PB true (pv true c) (12 * (2 * t + 1) + 0))⌝ ∗ StE PB κ ιs c xb wb (ctr (24 * t + 13) 9) x o)) := by
  rw [k0_part39_eq_skeleton]
  unfold app k0_part39_skel
  simp only [semSignalWord, semWaitWord, Prog.lift, Prog.bind_op, Prog.bind_ret, Prog.pure_eq_ret]
  refine st_rwaitS false (2 * t + 1) 0 rfl rfl ?_
  refine st_rwaitS true (2 * t + 1) 0 rfl rfl ?_
  refine st_ldA false (2 * t + 1) 0 h1 (acc1 t) (off4_kk c 0 0) ?_
  refine st_ldT false (2 * t + 1) 0 rfl rfl fun v hv => ?_
  refine st_ldA false (2 * t + 1) 0 h1 (acc1 t) (off4_kk c 0 0) ?_
  refine st_stA false (2 * t + 1) 0 h1 hv (acc1 t) (off4_kk c 0 0) rfl ?_
  refine st_ldA true (2 * t + 1) 0 h1 (acc1 t) (off5_kk c 0 0) ?_
  refine st_ldT true (2 * t + 1) 0 rfl rfl fun v hv => ?_
  refine st_ldA true (2 * t + 1) 0 h1 (acc1 t) (off5_kk c 0 0) ?_
  exact st_fact (φ := fun (r : (Σ' (v1130 : FVec F S512x512 .bf16), Vec F S512x512 .bf16)) => r.1 = addf (tileOf (VAL PB true c (2 * t + 1) 0) (kk true c (0 / 2 + 1) (0 % 2))) (sent PB true (pv true c) (12 * (2 * t + 1) + 0))) (by rw [← hv]; rfl)

/-- Micros 13 to 14 of a round, piece 40 of the loop body. -/
theorem part40 {t : ℕ} (ht : t < 4) {x : Bool → AccS} {o : OutS} (h1 : x (par (2 * t + 1)) = .proc (2 * t + 1) false) (v2 : BitVec 32) (v5 : BitVec 32) (v7 : BitVec 32) (v1130 : FVec F S512x512 .bf16) (v1132 : Vec F S512x512 .bf16) (e1 : v1130 = addf (tileOf (VAL PB true c (2 * t + 1) 0) (kk true c (0 / 2 + 1) (0 % 2))) (sent PB true (pv true c) (12 * (2 * t + 1) + 0))) :
    StE PB κ ιs c xb wb (ctr (24 * t + 13) 9) x o ⊢ wpc c (app (k0_part40 (F := F)) c v2 v5 v7 v1130 v1132)
      (fun _ => StE PB κ ιs c xb wb (ctr (24 * t + 14) 3) x o) := by
  rw [k0_part40_eq_skeleton]
  subst e1
  unfold app k0_part40_skel
  simp only [semSignalWord, semWaitWord, Prog.lift, Prog.bind_op, Prog.bind_ret, Prog.pure_eq_ret]
  refine st_stA true (2 * t + 1) 0 h1 rfl (acc1 t) (off5_kk c 0 0) rfl ?_
  refine st_grantS (hr := Topo.routes_tc _ _) false (2 * t + 1) 0 (left_eq c k0_dev57_eq) rfl ?_
  refine st_grantS (hr := Topo.routes_tc _ _) true (2 * t + 1) 0 (right_eq c k0_dev58_eq) rfl ?_
  refine st_next (24 * t + 14) ?_
  refine st_cred false rfl ?_
  refine st_cred true rfl ?_
  refine st_swait false (2 * t + 1) 0 h1 rfl rfl ?_
  exact st_done (BI.Entails.refl _)

/-- Micro 14 of a round, piece 41 of the loop body. -/
theorem part41 {t : ℕ} (ht : t < 4) {x : Bool → AccS} {o : OutS} (h1 : x (par (2 * t + 1)) = .proc (2 * t + 1) false) (v2 : BitVec 32) (v5 : BitVec 32) (v7 : BitVec 32) :
    StE PB κ ιs c xb wb (ctr (24 * t + 14) 3) x o ⊢ wpc c (app (k0_part41 (F := F)) c v2 v5 v7)
      (fun _ => StE PB κ ιs c xb wb (ctr (24 * t + 14) 6) x o) := by
  rw [k0_part41_eq_skeleton]
  unfold app k0_part41_skel
  simp only [semSignalWord, semWaitWord, Prog.lift, Prog.bind_op, Prog.bind_ret, Prog.pure_eq_ret]
  refine st_swait true (2 * t + 1) 0 h1 rfl rfl ?_
  refine st_sendS false (2 * t + 1) 2 h1 (acc1 t) (off1_kk c 1 0) (right_eq c k0_dev59_eq) rfl rfl rfl ?_
  refine st_sendS true (2 * t + 1) 2 h1 (acc1 t) (off2_kk c 1 0) (left_eq c k0_dev60_eq) rfl rfl rfl ?_
  exact st_done (BI.Entails.refl _)

/-- Micro 14 of a round, piece 42 of the loop body. -/
theorem part42 {t : ℕ} (ht : t < 4) {x : Bool → AccS} {o : OutS} (h1 : x (par (2 * t + 1)) = .proc (2 * t + 1) false) (v7 : BitVec 32) (v1182 : BitVec 32) (v1183 : BitVec 32) (c1_i32_1283 : BitVec 32) :
    StE PB κ ιs c xb wb (ctr (24 * t + 14) 6) x o ⊢ wpc c (app (k0_part42 (F := F)) c v7 v1182 v1183 c1_i32_1283)
      (fun (r : (Σ' (v1187 : BitVec 32) (v1190 : BitVec 32), FVec F S512x512 .bf16)) => iprop(⌜r.2.2 = addf (tileOf (VAL PB false c (2 * t + 1) 0) (kk false c (1 / 2 + 1) (1 % 2))) (sent PB false (pv false c) (12 * (2 * t + 1) + 1))⌝ ∗ StE PB κ ιs c xb wb (ctr (24 * t + 14) 8) x o)) := by
  rw [k0_part42_eq_skeleton]
  unfold app k0_part42_skel
  simp only [semSignalWord, semWaitWord, Prog.lift, Prog.bind_op, Prog.bind_ret, Prog.pure_eq_ret]
  refine st_rwaitS false (2 * t + 1) 1 rfl rfl ?_
  refine st_rwaitS true (2 * t + 1) 1 rfl rfl ?_
  refine st_ldA false (2 * t + 1) 1 h1 (acc1 t) (off4_kk c 0 1) ?_
  refine st_ldT false (2 * t + 1) 1 rfl rfl fun v hv => ?_
  exact st_fact (φ := fun (r : (Σ' (v1187 : BitVec 32) (v1190 : BitVec 32), FVec F S512x512 .bf16)) => r.2.2 = addf (tileOf (VAL PB false c (2 * t + 1) 0) (kk false c (1 / 2 + 1) (1 % 2))) (sent PB false (pv false c) (12 * (2 * t + 1) + 1))) (by rw [← hv]; rfl)

/-- Micros 14 to 15 of a round, piece 43 of the loop body. -/
theorem part43 {t : ℕ} (ht : t < 4) {x : Bool → AccS} {o : OutS} (h1 : x (par (2 * t + 1)) = .proc (2 * t + 1) false) (v2 : BitVec 32) (v5 : BitVec 32) (v7 : BitVec 32) (v1187 : BitVec 32) (v1190 : BitVec 32) (v1211 : FVec F S512x512 .bf16) (e1 : v1211 = addf (tileOf (VAL PB false c (2 * t + 1) 0) (kk false c (1 / 2 + 1) (1 % 2))) (sent PB false (pv false c) (12 * (2 * t + 1) + 1))) :
    StE PB κ ιs c xb wb (ctr (24 * t + 14) 8) x o ⊢ wpc c (app (k0_part43 (F := F)) c v2 v5 v7 v1187 v1190 v1211)
      (fun _ => StE PB κ ιs c xb wb (ctr (24 * t + 15) 2) x o) := by
  rw [k0_part43_eq_skeleton]
  subst e1
  unfold app k0_part43_skel
  simp only [semSignalWord, semWaitWord, Prog.lift, Prog.bind_op, Prog.bind_ret, Prog.pure_eq_ret]
  refine st_ldA false (2 * t + 1) 1 h1 (acc1 t) (off4_kk c 0 1) ?_
  refine st_stA false (2 * t + 1) 1 h1 rfl (acc1 t) (off4_kk c 0 1) rfl ?_
  refine st_ldA true (2 * t + 1) 1 h1 (acc1 t) (off5_kk c 0 1) ?_
  refine st_ldT true (2 * t + 1) 1 rfl rfl fun v hv => ?_
  refine st_ldA true (2 * t + 1) 1 h1 (acc1 t) (off5_kk c 0 1) ?_
  refine st_stA true (2 * t + 1) 1 h1 hv (acc1 t) (off5_kk c 0 1) rfl ?_
  refine st_grantS (hr := Topo.routes_tc _ _) false (2 * t + 1) 1 (left_eq c k0_dev61_eq) rfl ?_
  refine st_grantS (hr := Topo.routes_tc _ _) true (2 * t + 1) 1 (right_eq c k0_dev62_eq) rfl ?_
  refine st_next (24 * t + 15) ?_
  refine st_cred false rfl ?_
  refine st_cred true rfl ?_
  exact st_done (BI.Entails.refl _)

/-- Micro 15 of a round, piece 44 of the loop body. -/
theorem part44 {t : ℕ} (ht : t < 4) {x : Bool → AccS} {o : OutS} (h1 : x (par (2 * t + 1)) = .proc (2 * t + 1) false) (v5 : BitVec 32) (v7 : BitVec 32) :
    StE PB κ ιs c xb wb (ctr (24 * t + 15) 2) x o ⊢ wpc c (app (k0_part44 (F := F)) c v5 v7)
      (fun _ => StE PB κ ιs c xb wb (ctr (24 * t + 15) 5) x o) := by
  rw [k0_part44_eq_skeleton]
  unfold app k0_part44_skel
  simp only [semSignalWord, semWaitWord, Prog.lift, Prog.bind_op, Prog.bind_ret, Prog.pure_eq_ret]
  refine st_swait false (2 * t + 1) 1 h1 rfl rfl ?_
  refine st_swait true (2 * t + 1) 1 h1 rfl rfl ?_
  refine st_sendS false (2 * t + 1) 3 h1 (acc1 t) (off1_kk c 1 1) (right_eq c k0_dev63_eq) rfl rfl rfl ?_
  exact st_done (BI.Entails.refl _)

/-- Micro 15 of a round, piece 45 of the loop body. -/
theorem part45 {t : ℕ} (ht : t < 4) {x : Bool → AccS} {o : OutS} (h1 : x (par (2 * t + 1)) = .proc (2 * t + 1) false) (v2 : BitVec 32) (v7 : BitVec 32) :
    StE PB κ ιs c xb wb (ctr (24 * t + 15) 5) x o ⊢ wpc c (app (k0_part45 (F := F)) c v2 v7)
      (fun _ => StE PB κ ιs c xb wb (ctr (24 * t + 15) 7) x o) := by
  rw [k0_part45_eq_skeleton]
  unfold app k0_part45_skel
  simp only [semSignalWord, semWaitWord, Prog.lift, Prog.bind_op, Prog.bind_ret, Prog.pure_eq_ret]
  refine st_sendS true (2 * t + 1) 3 h1 (acc1 t) (off2_kk c 1 1) (left_eq c k0_dev64_eq) rfl rfl rfl ?_
  refine st_rwaitS false (2 * t + 1) 2 rfl rfl ?_
  exact st_done (BI.Entails.refl _)

/-- Micros 15 to 16 of a round, piece 46 of the loop body. -/
theorem part46 {t : ℕ} (ht : t < 4) {x : Bool → AccS} {o : OutS} (h1 : x (par (2 * t + 1)) = .proc (2 * t + 1) false) (v2 : BitVec 32) (v5 : BitVec 32) (v7 : BitVec 32) (v1277 : BitVec 32) (v1280 : BitVec 32) :
    StE PB κ ιs c xb wb (ctr (24 * t + 15) 7) x o ⊢ wpc c (app (k0_part46 (F := F)) c v2 v5 v7 v1277 v1280)
      (fun _ => StE PB κ ιs c xb wb (ctr (24 * t + 16) 0) x o) := by
  rw [k0_part46_eq_skeleton]
  unfold app k0_part46_skel
  simp only [semSignalWord, semWaitWord, Prog.lift, Prog.bind_op, Prog.bind_ret, Prog.pure_eq_ret]
  refine st_rwaitS true (2 * t + 1) 2 rfl rfl ?_
  refine st_ldA false (2 * t + 1) 2 h1 (acc1 t) (off4_kk c 1 0) ?_
  refine st_ldT false (2 * t + 1) 2 rfl rfl fun v hv => ?_
  refine st_ldA false (2 * t + 1) 2 h1 (acc1 t) (off4_kk c 1 0) ?_
  refine st_stA false (2 * t + 1) 2 h1 hv (acc1 t) (off4_kk c 1 0) rfl ?_
  refine st_ldA true (2 * t + 1) 2 h1 (acc1 t) (off5_kk c 1 0) ?_
  refine st_ldT true (2 * t + 1) 2 rfl rfl fun v hv => ?_
  refine st_ldA true (2 * t + 1) 2 h1 (acc1 t) (off5_kk c 1 0) ?_
  refine st_stA true (2 * t + 1) 2 h1 hv (acc1 t) (off5_kk c 1 0) rfl ?_
  refine st_grantS (hr := Topo.routes_tc _ _) false (2 * t + 1) 2 (left_eq c k0_dev65_eq) rfl ?_
  refine st_grantS (hr := Topo.routes_tc _ _) true (2 * t + 1) 2 (right_eq c k0_dev66_eq) rfl ?_
  refine st_next (24 * t + 16) ?_
  exact st_done (BI.Entails.refl _)

/-- Micro 16 of a round, piece 47 of the loop body. -/
theorem part47 {t : ℕ} (ht : t < 4) {x : Bool → AccS} {o : OutS} (h1 : x (par (2 * t + 1)) = .proc (2 * t + 1) false) (v7 : BitVec 32) (v1321 : BitVec 32) (v1322 : BitVec 32) (c4_i32_1426 : BitVec 32) :
    StE PB κ ιs c xb wb (ctr (24 * t + 16) 0) x o ⊢ wpc c (app (k0_part47 (F := F)) v7 v1321 v1322 c4_i32_1426)
      (fun _ => StE PB κ ιs c xb wb (ctr (24 * t + 16) 4) x o) := by
  rw [k0_part47_eq_skeleton]
  unfold app k0_part47_skel
  simp only [semSignalWord, semWaitWord, Prog.lift, Prog.bind_op, Prog.bind_ret, Prog.pure_eq_ret]
  refine st_cred false rfl ?_
  refine st_cred true rfl ?_
  refine st_swait false (2 * t + 1) 2 h1 rfl rfl ?_
  refine st_swait true (2 * t + 1) 2 h1 rfl rfl ?_
  exact st_done (BI.Entails.refl _)

/-- Micro 16 of a round, piece 48 of the loop body. -/
theorem part48 {t : ℕ} (ht : t < 4) {x : Bool → AccS} {o : OutS} (h1 : x (par (2 * t + 1)) = .proc (2 * t + 1) false) (v2 : BitVec 32) (v5 : BitVec 32) (v7 : BitVec 32) :
    StE PB κ ιs c xb wb (ctr (24 * t + 16) 4) x o ⊢ wpc c (app (k0_part48 (F := F)) c v2 v5 v7)
      (fun _ => StE PB κ ιs c xb wb (ctr (24 * t + 16) 6) x o) := by
  rw [k0_part48_eq_skeleton]
  unfold app k0_part48_skel
  simp only [semSignalWord, semWaitWord, Prog.lift, Prog.bind_op, Prog.bind_ret, Prog.pure_eq_ret]
  refine st_sendS false (2 * t + 1) 4 h1 (acc1 t) (off1_kk c 2 0) (right_eq c k0_dev67_eq) rfl rfl rfl ?_
  refine st_sendS true (2 * t + 1) 4 h1 (acc1 t) (off2_kk c 2 0) (left_eq c k0_dev68_eq) rfl rfl rfl ?_
  exact st_done (BI.Entails.refl _)

/-- Micro 16 of a round, piece 49 of the loop body. -/
theorem part49 {t : ℕ} (ht : t < 4) {x : Bool → AccS} {o : OutS} (h1 : x (par (2 * t + 1)) = .proc (2 * t + 1) false) (v5 : BitVec 32) (v7 : BitVec 32) (v1367 : BitVec 32) (v1370 : BitVec 32) :
    StE PB κ ιs c xb wb (ctr (24 * t + 16) 6) x o ⊢ wpc c (app (k0_part49 (F := F)) c v5 v7 v1367 v1370)
      (fun _ => StE PB κ ιs c xb wb (ctr (24 * t + 16) 10) x o) := by
  rw [k0_part49_eq_skeleton]
  unfold app k0_part49_skel
  simp only [semSignalWord, semWaitWord, Prog.lift, Prog.bind_op, Prog.bind_ret, Prog.pure_eq_ret]
  refine st_rwaitS false (2 * t + 1) 3 rfl rfl ?_
  refine st_rwaitS true (2 * t + 1) 3 rfl rfl ?_
  refine st_ldA false (2 * t + 1) 3 h1 (acc1 t) (off4_kk c 1 1) ?_
  refine st_ldT false (2 * t + 1) 3 rfl rfl fun v hv => ?_
  refine st_ldA false (2 * t + 1) 3 h1 (acc1 t) (off4_kk c 1 1) ?_
  refine st_stA false (2 * t + 1) 3 h1 hv (acc1 t) (off4_kk c 1 1) rfl ?_
  refine st_ldA true (2 * t + 1) 3 h1 (acc1 t) (off5_kk c 1 1) ?_
  refine st_ldT true (2 * t + 1) 3 rfl rfl fun v hv => ?_
  refine st_ldA true (2 * t + 1) 3 h1 (acc1 t) (off5_kk c 1 1) ?_
  refine st_stA true (2 * t + 1) 3 h1 hv (acc1 t) (off5_kk c 1 1) rfl ?_
  exact st_done (BI.Entails.refl _)

/-- Micro 17 of a round, piece 51 of the loop body. -/
theorem part51 {t : ℕ} (ht : t < 4) {x : Bool → AccS} {o : OutS} (h1 : x (par (2 * t + 1)) = .proc (2 * t + 1) false) (v2 : BitVec 32) (v5 : BitVec 32) (v7 : BitVec 32) :
    StE PB κ ιs c xb wb (ctr (24 * t + 17) 3) x o ⊢ wpc c (app (k0_part51 (F := F)) c v2 v5 v7)
      (fun _ => StE PB κ ιs c xb wb (ctr (24 * t + 17) 6) x o) := by
  rw [k0_part51_eq_skeleton]
  unfold app k0_part51_skel
  simp only [semSignalWord, semWaitWord, Prog.lift, Prog.bind_op, Prog.bind_ret, Prog.pure_eq_ret]
  refine st_swait true (2 * t + 1) 3 h1 rfl rfl ?_
  refine st_sendS false (2 * t + 1) 5 h1 (acc1 t) (off1_kk c 2 1) (right_eq c k0_dev71_eq) rfl rfl rfl ?_
  refine st_sendS true (2 * t + 1) 5 h1 (acc1 t) (off2_kk c 2 1) (left_eq c k0_dev72_eq) rfl rfl rfl ?_
  exact st_done (BI.Entails.refl _)

/-- Micro 17 of a round, piece 52 of the loop body. -/
theorem part52 {t : ℕ} (ht : t < 4) {x : Bool → AccS} {o : OutS} (h1 : x (par (2 * t + 1)) = .proc (2 * t + 1) false) (v7 : BitVec 32) (v1455 : BitVec 32) (v1456 : BitVec 32) (c1_i32_1572 : BitVec 32) :
    StE PB κ ιs c xb wb (ctr (24 * t + 17) 6) x o ⊢ wpc c (app (k0_part52 (F := F)) c v7 v1455 v1456 c1_i32_1572)
      (fun (r : (Σ' (v1460 : BitVec 32) (v1463 : BitVec 32), FVec F S512x512 .bf16)) => iprop(⌜r.2.2 = addf (tileOf (VAL PB false c (2 * t + 1) 0) (kk false c (4 / 2 + 1) (4 % 2))) (sent PB false (pv false c) (12 * (2 * t + 1) + 4))⌝ ∗ StE PB κ ιs c xb wb (ctr (24 * t + 17) 8) x o)) := by
  rw [k0_part52_eq_skeleton]
  unfold app k0_part52_skel
  simp only [semSignalWord, semWaitWord, Prog.lift, Prog.bind_op, Prog.bind_ret, Prog.pure_eq_ret]
  refine st_rwaitS false (2 * t + 1) 4 rfl rfl ?_
  refine st_rwaitS true (2 * t + 1) 4 rfl rfl ?_
  refine st_ldA false (2 * t + 1) 4 h1 (acc1 t) (off4_kk c 2 0) ?_
  refine st_ldT false (2 * t + 1) 4 rfl rfl fun v hv => ?_
  exact st_fact (φ := fun (r : (Σ' (v1460 : BitVec 32) (v1463 : BitVec 32), FVec F S512x512 .bf16)) => r.2.2 = addf (tileOf (VAL PB false c (2 * t + 1) 0) (kk false c (4 / 2 + 1) (4 % 2))) (sent PB false (pv false c) (12 * (2 * t + 1) + 4))) (by rw [← hv]; rfl)

end

end Cert.KernelIdeal.Ring
-- ==== Proof.LoopD.lean ====
module

public import proofs.«01_k».proof.Proof.Ops

/-! The all-gather of the odd block. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable {PB : Dev nD → ℕ → AccT F} {κ : GSem nD τ sig → ℕ} {ιs : Key → ℕ} {c : Dev nD}
variable {xb : Dev nD → S4096x1024.Idx → Elt F .bf16} {wb : Dev nD → S1024x8192.Idx → Elt F .bf16}

/-- Micro 18 of a round, piece 54 of the loop body. -/
theorem part54 {t : ℕ} (ht : t < 4) {x : Bool → AccS} {o : OutS} (h1 : x (par (2 * t + 1)) = .proc (2 * t + 1) false) (v7 : BitVec 32) (v1512 : BitVec 32) (c2048_i32_1627 : BitVec 32) :
    StE PB κ ιs c xb wb (ctr (24 * t + 18) 0) x o ⊢ wpc c (app (k0_part54 (F := F)) c v7 v1512 c2048_i32_1627)
      (fun _ => StE PB κ ιs c xb wb (ctr (24 * t + 18) 5) x o) := by
  rw [k0_part54_eq_skeleton]
  unfold app k0_part54_skel
  simp only [semSignalWord, semWaitWord, Prog.lift, Prog.bind_op, Prog.bind_ret, Prog.pure_eq_ret]
  refine st_cred false rfl ?_
  refine st_cred true rfl ?_
  refine st_swait false (2 * t + 1) 4 h1 rfl rfl ?_
  refine st_swait true (2 * t + 1) 4 h1 rfl rfl ?_
  refine st_sendG false (2 * t + 1) 6 h1 (acc1 t) (off7_kk c 0 0) (right_eq c k0_dev75_eq) rfl rfl ?_
  exact st_done (BI.Entails.refl _)

/-- Micro 18 of a round, piece 55 of the loop body. -/
theorem part55 {t : ℕ} (ht : t < 4) {x : Bool → AccS} {o : OutS} (h1 : x (par (2 * t + 1)) = .proc (2 * t + 1) false) (v2 : BitVec 32) (v5 : BitVec 32) (v7 : BitVec 32) :
    StE PB κ ιs c xb wb (ctr (24 * t + 18) 5) x o ⊢ wpc c (app (k0_part55 (F := F)) c v2 v5 v7)
      (fun _ => StE PB κ ιs c xb wb (ctr (24 * t + 18) 7) x o) := by
  rw [k0_part55_eq_skeleton]
  unfold app k0_part55_skel
  simp only [semSignalWord, semWaitWord, Prog.lift, Prog.bind_op, Prog.bind_ret, Prog.pure_eq_ret]
  refine st_sendG true (2 * t + 1) 6 h1 (acc1 t) (off8_kk c 0 0) (left_eq c k0_dev76_eq) rfl rfl ?_
  refine st_rwaitS false (2 * t + 1) 5 rfl rfl ?_
  exact st_done (BI.Entails.refl _)

/-- Micros 18 to 19 of a round, piece 56 of the loop body. -/
theorem part56 {t : ℕ} (ht : t < 4) {x : Bool → AccS} {o : OutS} (h1 : x (par (2 * t + 1)) = .proc (2 * t + 1) false) (v2 : BitVec 32) (v5 : BitVec 32) (v7 : BitVec 32) (v1554 : BitVec 32) (v1557 : BitVec 32) :
    StE PB κ ιs c xb wb (ctr (24 * t + 18) 7) x o ⊢ wpc c (app (k0_part56 (F := F)) c v2 v5 v7 v1554 v1557)
      (fun _ => StE PB κ ιs c xb wb (ctr (24 * t + 19) 0) x o) := by
  rw [k0_part56_eq_skeleton]
  unfold app k0_part56_skel
  simp only [semSignalWord, semWaitWord, Prog.lift, Prog.bind_op, Prog.bind_ret, Prog.pure_eq_ret]
  refine st_rwaitS true (2 * t + 1) 5 rfl rfl ?_
  refine st_ldA false (2 * t + 1) 5 h1 (acc1 t) (off4_kk c 2 1) ?_
  refine st_ldT false (2 * t + 1) 5 rfl rfl fun v hv => ?_
  refine st_ldA false (2 * t + 1) 5 h1 (acc1 t) (off4_kk c 2 1) ?_
  refine st_stA false (2 * t + 1) 5 h1 hv (acc1 t) (off4_kk c 2 1) rfl ?_
  refine st_ldA true (2 * t + 1) 5 h1 (acc1 t) (off5_kk c 2 1) ?_
  refine st_ldT true (2 * t + 1) 5 rfl rfl fun v hv => ?_
  refine st_ldA true (2 * t + 1) 5 h1 (acc1 t) (off5_kk c 2 1) ?_
  refine st_stA true (2 * t + 1) 5 h1 hv (acc1 t) (off5_kk c 2 1) rfl ?_
  refine st_grantG (hr := Topo.routes_tc _ _) false (2 * t + 1) 5 h1 (left_eq c k0_dev77_eq) rfl ?_
  refine st_grantG (hr := Topo.routes_tc _ _) true (2 * t + 1) 5 h1 (right_eq c k0_dev78_eq) rfl ?_
  refine st_next (24 * t + 19) ?_
  exact st_done (BI.Entails.refl _)

/-- Micro 19 of a round, piece 57 of the loop body. -/
theorem part57 {t : ℕ} (ht : t < 4) {x : Bool → AccS} {o : OutS} (h1 : x (par (2 * t + 1)) = .proc (2 * t + 1) false) (v2 : BitVec 32) (v1596 : BitVec 32) (c0_i32_1713 : BitVec 32) :
    StE PB κ ιs c xb wb (ctr (24 * t + 19) 0) x o ⊢ wpc c (app (k0_part57 (F := F)) v2 v1596 c0_i32_1713)
      (fun _ => StE PB κ ιs c xb wb (ctr (24 * t + 19) 3) x o) := by
  rw [k0_part57_eq_skeleton]
  unfold app k0_part57_skel
  simp only [semSignalWord, semWaitWord, Prog.lift, Prog.bind_op, Prog.bind_ret, Prog.pure_eq_ret]
  refine st_cred false rfl ?_
  refine st_cred true rfl ?_
  refine st_swait false (2 * t + 1) 5 h1 rfl rfl ?_
  exact st_done (BI.Entails.refl _)

/-- Micro 19 of a round, piece 58 of the loop body. -/
theorem part58 {t : ℕ} (ht : t < 4) {x : Bool → AccS} {o : OutS} (h1 : x (par (2 * t + 1)) = .proc (2 * t + 1) false) (v5 : BitVec 32) (v7 : BitVec 32) :
    StE PB κ ιs c xb wb (ctr (24 * t + 19) 3) x o ⊢ wpc c (app (k0_part58 (F := F)) c v5 v7)
      (fun _ => StE PB κ ιs c xb wb (ctr (24 * t + 19) 7) x o) := by
  rw [k0_part58_eq_skeleton]
  unfold app k0_part58_skel
  simp only [semSignalWord, semWaitWord, Prog.lift, Prog.bind_op, Prog.bind_ret, Prog.pure_eq_ret]
  refine st_swait true (2 * t + 1) 5 h1 rfl rfl ?_
  refine st_sendG false (2 * t + 1) 7 h1 (acc1 t) (off7_kk c 0 1) (right_eq c k0_dev79_eq) rfl rfl ?_
  refine st_sendG true (2 * t + 1) 7 h1 (acc1 t) (off8_kk c 0 1) (left_eq c k0_dev80_eq) rfl rfl ?_
  refine st_rwaitG false (2 * t + 1) 6 h1 rfl rfl ?_
  exact st_done (BI.Entails.refl _)

/-- Micros 19 to 20 of a round, piece 59 of the loop body. -/
theorem part59 {t : ℕ} (ht : t < 4) {x : Bool → AccS} {o : OutS} (h1 : x (par (2 * t + 1)) = .proc (2 * t + 1) false) (v2 : BitVec 32) (v5 : BitVec 32) (v7 : BitVec 32) :
    StE PB κ ιs c xb wb (ctr (24 * t + 19) 7) x o ⊢ wpc c (app (k0_part59 (F := F)) c v2 v5 v7)
      (fun _ => StE PB κ ιs c xb wb (ctr (24 * t + 20) 2) x o) := by
  rw [k0_part59_eq_skeleton]
  unfold app k0_part59_skel
  simp only [semSignalWord, semWaitWord, Prog.lift, Prog.bind_op, Prog.bind_ret, Prog.pure_eq_ret]
  refine st_rwaitG true (2 * t + 1) 6 h1 rfl rfl ?_
  refine BIBase.Entails.trans (st_skip (2 * t + 1) 6) ?_
  refine st_grantG (hr := Topo.routes_tc _ _) false (2 * t + 1) 6 h1 (left_eq c k0_dev81_eq) rfl ?_
  refine st_grantG (hr := Topo.routes_tc _ _) true (2 * t + 1) 6 h1 (right_eq c k0_dev82_eq) rfl ?_
  refine st_next (24 * t + 20) ?_
  refine st_cred false rfl ?_
  refine st_cred true rfl ?_
  exact st_done (BI.Entails.refl _)

/-- Micro 20 of a round, piece 60 of the loop body. -/
theorem part60 {t : ℕ} (ht : t < 4) {x : Bool → AccS} {o : OutS} (h1 : x (par (2 * t + 1)) = .proc (2 * t + 1) false) (v5 : BitVec 32) (v7 : BitVec 32) :
    StE PB κ ιs c xb wb (ctr (24 * t + 20) 2) x o ⊢ wpc c (app (k0_part60 (F := F)) c v5 v7)
      (fun _ => StE PB κ ιs c xb wb (ctr (24 * t + 20) 6) x o) := by
  rw [k0_part60_eq_skeleton]
  unfold app k0_part60_skel
  simp only [semSignalWord, semWaitWord, Prog.lift, Prog.bind_op, Prog.bind_ret, Prog.pure_eq_ret]
  refine st_swait false (2 * t + 1) 6 h1 rfl rfl ?_
  refine st_swait true (2 * t + 1) 6 h1 rfl rfl ?_
  refine st_sendG false (2 * t + 1) 8 h1 (acc1 t) (off7_kk c 1 0) (right_eq c k0_dev83_eq) rfl rfl ?_
  refine st_sendG true (2 * t + 1) 8 h1 (acc1 t) (off8_kk c 1 0) (left_eq c k0_dev84_eq) rfl rfl ?_
  exact st_done (BI.Entails.refl _)

/-- Micros 20 to 21 of a round, piece 61 of the loop body. -/
theorem part61 {t : ℕ} (ht : t < 4) {x : Bool → AccS} {o : OutS} (h1 : x (par (2 * t + 1)) = .proc (2 * t + 1) false) (v2 : BitVec 32) (v5 : BitVec 32) (v7 : BitVec 32) (c1_i32_1836 : BitVec 32) :
    StE PB κ ιs c xb wb (ctr (24 * t + 20) 6) x o ⊢ wpc c (app (k0_part61 (F := F)) c v2 v5 v7 c1_i32_1836)
      (fun _ => StE PB κ ιs c xb wb (ctr (24 * t + 21) 0) x o) := by
  rw [k0_part61_eq_skeleton]
  unfold app k0_part61_skel
  simp only [semSignalWord, semWaitWord, Prog.lift, Prog.bind_op, Prog.bind_ret, Prog.pure_eq_ret]
  refine st_rwaitG false (2 * t + 1) 7 h1 rfl rfl ?_
  refine st_rwaitG true (2 * t + 1) 7 h1 rfl rfl ?_
  refine BIBase.Entails.trans (st_skip (2 * t + 1) 7) ?_
  refine st_grantG (hr := Topo.routes_tc _ _) false (2 * t + 1) 7 h1 (left_eq c k0_dev85_eq) rfl ?_
  refine st_grantG (hr := Topo.routes_tc _ _) true (2 * t + 1) 7 h1 (right_eq c k0_dev86_eq) rfl ?_
  refine st_next (24 * t + 21) ?_
  exact st_done (BI.Entails.refl _)

/-- Micro 21 of a round, piece 62 of the loop body. -/
theorem part62 {t : ℕ} (ht : t < 4) {x : Bool → AccS} {o : OutS} (h1 : x (par (2 * t + 1)) = .proc (2 * t + 1) false) (v7 : BitVec 32) (v1721 : BitVec 32) (v1724 : BitVec 32) (c4_i32_1865 : BitVec 32) :
    StE PB κ ιs c xb wb (ctr (24 * t + 21) 0) x o ⊢ wpc c (app (k0_part62 (F := F)) v7 v1721 v1724 c4_i32_1865)
      (fun _ => StE PB κ ιs c xb wb (ctr (24 * t + 21) 4) x o) := by
  rw [k0_part62_eq_skeleton]
  unfold app k0_part62_skel
  simp only [semSignalWord, semWaitWord, Prog.lift, Prog.bind_op, Prog.bind_ret, Prog.pure_eq_ret]
  refine st_cred false rfl ?_
  refine st_cred true rfl ?_
  refine st_swait false (2 * t + 1) 7 h1 rfl rfl ?_
  refine st_swait true (2 * t + 1) 7 h1 rfl rfl ?_
  exact st_done (BI.Entails.refl _)

/-- Micro 21 of a round, piece 63 of the loop body. -/
theorem part63 {t : ℕ} (ht : t < 4) {x : Bool → AccS} {o : OutS} (h1 : x (par (2 * t + 1)) = .proc (2 * t + 1) false) (v5 : BitVec 32) (v7 : BitVec 32) :
    StE PB κ ιs c xb wb (ctr (24 * t + 21) 4) x o ⊢ wpc c (app (k0_part63 (F := F)) c v5 v7)
      (fun _ => StE PB κ ιs c xb wb (ctr (24 * t + 21) 10) x o) := by
  rw [k0_part63_eq_skeleton]
  unfold app k0_part63_skel
  simp only [semSignalWord, semWaitWord, Prog.lift, Prog.bind_op, Prog.bind_ret, Prog.pure_eq_ret]
  refine st_sendG false (2 * t + 1) 9 h1 (acc1 t) (off7_kk c 1 1) (right_eq c k0_dev87_eq) rfl rfl ?_
  refine st_sendG true (2 * t + 1) 9 h1 (acc1 t) (off8_kk c 1 1) (left_eq c k0_dev88_eq) rfl rfl ?_
  refine st_rwaitG false (2 * t + 1) 8 h1 rfl rfl ?_
  refine st_rwaitG true (2 * t + 1) 8 h1 rfl rfl ?_
  refine BIBase.Entails.trans (st_skip (2 * t + 1) 8) ?_
  exact st_done (BI.Entails.refl _)

/-- Micros 21 to 22 of a round, piece 64 of the loop body. -/
theorem part64 {t : ℕ} (ht : t < 4) {x : Bool → AccS} {o : OutS} (h1 : x (par (2 * t + 1)) = .proc (2 * t + 1) false) (v2 : BitVec 32) (v7 : BitVec 32) (v1775 : BitVec 32) :
    StE PB κ ιs c xb wb (ctr (24 * t + 21) 10) x o ⊢ wpc c (app (k0_part64 (F := F)) c v2 v7 v1775)
      (fun _ => StE PB κ ιs c xb wb (ctr (24 * t + 22) 3) x o) := by
  rw [k0_part64_eq_skeleton]
  unfold app k0_part64_skel
  simp only [semSignalWord, semWaitWord, Prog.lift, Prog.bind_op, Prog.bind_ret, Prog.pure_eq_ret]
  refine st_grantG (hr := Topo.routes_tc _ _) false (2 * t + 1) 8 h1 (left_eq c k0_dev89_eq) rfl ?_
  refine st_grantG (hr := Topo.routes_tc _ _) true (2 * t + 1) 8 h1 (right_eq c k0_dev90_eq) rfl ?_
  refine st_next (24 * t + 22) ?_
  refine st_cred false rfl ?_
  refine st_cred true rfl ?_
  refine st_swait false (2 * t + 1) 8 h1 rfl rfl ?_
  exact st_done (BI.Entails.refl _)

/-- Micro 22 of a round, piece 65 of the loop body. -/
theorem part65 {t : ℕ} (ht : t < 4) {x : Bool → AccS} {o : OutS} (h1 : x (par (2 * t + 1)) = .proc (2 * t + 1) false) (v5 : BitVec 32) (v7 : BitVec 32) :
    StE PB κ ιs c xb wb (ctr (24 * t + 22) 3) x o ⊢ wpc c (app (k0_part65 (F := F)) c v5 v7)
      (fun _ => StE PB κ ιs c xb wb (ctr (24 * t + 22) 6) x o) := by
  rw [k0_part65_eq_skeleton]
  unfold app k0_part65_skel
  simp only [semSignalWord, semWaitWord, Prog.lift, Prog.bind_op, Prog.bind_ret, Prog.pure_eq_ret]
  refine st_swait true (2 * t + 1) 8 h1 rfl rfl ?_
  refine st_sendG false (2 * t + 1) 10 h1 (acc1 t) (off7_kk c 2 0) (right_eq c k0_dev91_eq) rfl rfl ?_
  refine st_sendG true (2 * t + 1) 10 h1 (acc1 t) (off8_kk c 2 0) (left_eq c k0_dev92_eq) rfl rfl ?_
  exact st_done (BI.Entails.refl _)

/-- Micros 22 to 23 of a round, piece 66 of the loop body. -/
theorem part66 {t : ℕ} (ht : t < 4) {x : Bool → AccS} {o : OutS} (h1 : x (par (2 * t + 1)) = .proc (2 * t + 1) false) (v2 : BitVec 32) (v5 : BitVec 32) (v7 : BitVec 32) :
    StE PB κ ιs c xb wb (ctr (24 * t + 22) 6) x o ⊢ wpc c (app (k0_part66 (F := F)) c v2 v5 v7)
      (fun _ => StE PB κ ιs c xb wb (ctr (24 * t + 23) 0) x o) := by
  rw [k0_part66_eq_skeleton]
  unfold app k0_part66_skel
  simp only [semSignalWord, semWaitWord, Prog.lift, Prog.bind_op, Prog.bind_ret, Prog.pure_eq_ret]
  refine st_rwaitG false (2 * t + 1) 9 h1 rfl rfl ?_
  refine st_rwaitG true (2 * t + 1) 9 h1 rfl rfl ?_
  refine BIBase.Entails.trans (st_skip (2 * t + 1) 9) ?_
  refine st_grantG (hr := Topo.routes_tc _ _) false (2 * t + 1) 9 h1 (left_eq c k0_dev93_eq) rfl ?_
  refine st_grantG (hr := Topo.routes_tc _ _) true (2 * t + 1) 9 h1 (right_eq c k0_dev94_eq) rfl ?_
  refine st_next (24 * t + 23) ?_
  exact st_done (BI.Entails.refl _)

/-- Micro 23 of a round, piece 67 of the loop body. -/
theorem part67 {t : ℕ} (ht : t < 4) {x : Bool → AccS} {o : OutS} (h1 : x (par (2 * t + 1)) = .proc (2 * t + 1) false) (v5 : BitVec 32) (v7 : BitVec 32) :
    StE PB κ ιs c xb wb (ctr (24 * t + 23) 0) x o ⊢ wpc c (app (k0_part67 (F := F)) c v5 v7)
      (fun _ => StE PB κ ιs c xb wb (ctr (24 * t + 23) 5) x o) := by
  rw [k0_part67_eq_skeleton]
  unfold app k0_part67_skel
  simp only [semSignalWord, semWaitWord, Prog.lift, Prog.bind_op, Prog.bind_ret, Prog.pure_eq_ret]
  refine st_cred false rfl ?_
  refine st_cred true rfl ?_
  refine st_swait false (2 * t + 1) 9 h1 rfl rfl ?_
  refine st_swait true (2 * t + 1) 9 h1 rfl rfl ?_
  refine st_sendG false (2 * t + 1) 11 h1 (acc1 t) (off7_kk c 2 1) (right_eq c k0_dev95_eq) rfl rfl ?_
  exact st_done (BI.Entails.refl _)

end

end Cert.KernelIdeal.Ring
-- ==== Proof.LoopBody.lean ====
module

public import proofs.«01_k».proof.Proof.LoopS
public import proofs.«01_k».proof.Proof.LoopA
public import proofs.«01_k».proof.Proof.LoopB
public import proofs.«01_k».proof.Proof.LoopC
public import proofs.«01_k».proof.Proof.LoopD

/-! One round of the loop: the pieces one after another. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable {κ : GSem nD τ sig → ℕ} {ιs : Key → ℕ} {c : Dev nD}
variable {xb : Dev nD → S4096x1024.Idx → Elt F .bf16} {wb : Dev nD → S1024x8192.Idx → Elt F .bf16}

/-- What device `c` holds when round `t` begins. -/
def InvL (κ : GSem nD τ sig → ℕ) (ιs : Key → ℕ) (c : Dev nD) (xb : Dev nD → S4096x1024.Idx → Elt F .bf16) (wb : Dev nD → S1024x8192.Idx → Elt F .bf16) (t : ℕ) : sProp 𝕄 :=
  StE (PBx xb wb) κ ιs c xb wb (ctr (24 * t) 0) (xs (x0b t) (x1b t false)) (os t (min t 3) (t - 1) (t - 1))

set_option maxRecDepth 65536 in
set_option maxHeartbeats 4000000 in
/-- All of a round but its last six micros. -/
theorem part68 (t : Fin k0_t1_loop.trips) (v2 v5 v7 : BitVec 32) :
    InvL κ ιs c xb wb t.val ⊢ wpc c (app (k0_part68 (F := F)) c v2 v5 v7 0#32 1#32 t)
      (fun _ => StE (PBx xb wb) κ ιs c xb wb (ctr (24 * t.val + 20) 6) (xs (x0b (t.val + 1)) (.proc (2 * t.val + 1) false)) (os (t.val + 1) (min (t.val + 1) 3) t.val t.val)) := by
  have ht := trips_lt t
  unfold InvL
  rw [k0_part68_eq_skeleton, show x0b t.val = .proc (2 * t.val) false from if_pos ht]
  unfold app k0_part68_skel
  refine st_bindf (part1 t (xs0 _) (fun h => (xs1' h).trans (x1b_pos h _)) _ _ _) ?_
  rintro _ rfl
  refine st_bind (part2 t _ _ _ _ rfl) ?_
  rintro _
  refine st_bind (part3 ht (xs0 _) _ _ _) ?_
  rintro ⟨_, _⟩
  refine st_bind (part4 ht (xs0 _) _ _ _ _) ?_
  rintro _
  refine st_bind (part5 ht (xs0 _) _) ?_
  rintro _
  refine st_bind (part6 ht (xs0 _) _ _ _) ?_
  rintro ⟨_, _⟩
  refine st_bindf (part7 ht (xs0 _) _ _ _) ?_
  rintro ⟨_, _⟩ r7
  refine st_bind (part8 ht (xs0 _) _ _ _ _ _ _ r7.1 r7.2) ?_
  rintro _
  refine st_bind (part9 ht (xs0 _) _ _ _) ?_
  rintro ⟨_, _⟩
  refine st_bindf (part10 ht (xs0 _) _ _ _ _) ?_
  rintro ⟨_, _, _⟩ r10
  refine st_bind (part11 ht (xs0 _) _ _ _ _ _ _ r10) ?_
  rintro _
  refine st_bind (part12 ht (xs0 _) _ _) ?_
  rintro _
  refine st_bind (part13 ht (xs0 _) _ _) ?_
  rintro ⟨_, _, _⟩
  refine st_bindf (part14 ht (xs0 _) _ _ _ _ _ _) ?_
  rintro _ r14
  refine st_bind (part15 t _ _ _ r14) ?_
  rintro _
  refine st_bind (part16 ht (xs0 _) _ _ _) ?_
  rintro _
  refine st_bind (part17 ht _ _ _) ?_
  rintro ⟨_, _⟩
  refine st_bindf (part18 t (xs0 _) _ _ _ _ _) ?_
  rintro _ r18
  refine st_bind (part19 t _ _ r18) ?_
  rintro _
  refine st_bind (part20 ht (xs0 _) _ _ _) ?_
  rintro ⟨_, _, _⟩
  refine st_bindf (part21 ht (xs0 _) _ _ _ _) ?_
  rintro ⟨_, _⟩ r21
  refine st_bind (part22 ht (xs0 _) _ _ _ _ _ r21) ?_
  rintro _
  refine st_bind (part23 ht (xs0 _) _ _) ?_
  rintro _
  refine st_bind (part24 ht (xs0 _) _ _ _) ?_
  rintro ⟨_, _, _⟩
  refine st_bind (part25 ht (xs0 _) _ _ _ _) ?_
  rintro _
  refine st_bind (part26 ht (xs0 _) _ _) ?_
  rintro _
  refine st_bind (part27 ht (xs0 _) _ _ _) ?_
  rintro _
  refine st_bind (part28 ht (xs0 _) _ _) ?_
  rintro _
  refine st_bind (part29 ht (xs0 _) _ _ _) ?_
  rintro ⟨_, _⟩
  refine st_bind (part30 ht (xs0 _) _ _ _ _) ?_
  rintro _
  refine st_bind (part31 ht (xs0 _) _ _) ?_
  rintro _
  refine st_bind (part32 ht (xs0 _) _ _) ?_
  rintro _
  refine st_bind (part33 ht (xs0 _) _ _) ?_
  rintro _
  refine st_bind (part34 ht (xs0 _) _ _ _) ?_
  rintro _
  refine st_bind (part35 ht (xs0 _) (xs1 _) _ _) ?_
  rintro _
  refine st_bind (part36 t _ _ _ _) ?_
  rintro ⟨_, _⟩
  refine st_bind (part37 ht (xs0 _) _ _ _ _) ?_
  rintro _
  refine st_bind (part38 ht (xs1 _) _ _ _) ?_
  rintro ⟨_, _, _⟩
  refine st_bindf (part39 ht (xs1 _) _ _ _ _) ?_
  rintro ⟨_, _⟩ r39
  refine st_bind (part40 ht (xs1 _) _ _ _ _ _ r39) ?_
  rintro _
  refine st_bind (part41 ht (xs1 _) _ _ _) ?_
  rintro ⟨_, _, _⟩
  refine st_bindf (part42 ht (xs1 _) _ _ _ _) ?_
  rintro ⟨_, _, _⟩ r42
  refine st_bind (part43 ht (xs1 _) _ _ _ _ _ _ r42) ?_
  rintro _
  refine st_bind (part44 ht (xs1 _) _ _) ?_
  rintro _
  refine st_bind (part45 ht (xs1 _) _ _) ?_
  rintro ⟨_, _⟩
  refine st_bind (part46 ht (xs1 _) _ _ _ _ _) ?_
  rintro ⟨_, _, _⟩
  refine st_bind (part47 ht (xs1 _) _ _ _ _) ?_
  rintro _
  refine st_bind (part48 ht (xs1 _) _ _ _) ?_
  rintro ⟨_, _⟩
  refine st_bind (part49 ht (xs1 _) _ _ _ _) ?_
  rintro _
  refine st_bind (part50 t _ _ _ _) ?_
  rintro _
  refine st_bind (part51 ht (xs1 _) _ _ _) ?_
  rintro ⟨_, _, _⟩
  refine st_bindf (part52 ht (xs1 _) _ _ _ _) ?_
  rintro ⟨_, _, _⟩ r52
  refine st_bind (part53 t _ _ _ _ _ _ _ r52) ?_
  rintro ⟨_, _⟩
  refine st_bind (part54 ht (xs1 _) _ _ _) ?_
  rintro _
  refine st_bind (part55 ht (xs1 _) _ _ _) ?_
  rintro ⟨_, _⟩
  refine st_bind (part56 ht (xs1 _) _ _ _ _ _) ?_
  rintro ⟨_, _⟩
  refine st_bind (part57 ht (xs1 _) _ _ _) ?_
  rintro _
  refine st_bind (part58 ht (xs1 _) _ _) ?_
  rintro _
  refine st_bind (part59 ht (xs1 _) _ _ _) ?_
  rintro _
  refine st_bind (part60 ht (xs1 _) _ _) ?_
  rintro _
  exact st_done (BI.Entails.refl _)

set_option maxRecDepth 65536 in
set_option maxHeartbeats 4000000 in
/-- One round. -/
theorem round (t : Fin k0_t1_loop.trips) (u : Unit) (v2 v5 v7 : BitVec 32) (v27 : FVec F S512x4096 .bf16) :
    InvL κ ιs c xb wb t.val ⊢ wpc c (app (k0_t1_body (F := F)) c v2 v5 v7 v27 t u) (fun _ => InvL κ ιs c xb wb (t.val + 1)) := by
  have ht := trips_lt t
  unfold app k0_t1_body
  refine st_bind (part68 t _ _ _) ?_
  rintro ⟨_, _⟩
  refine st_bind (part61 ht (xs1 _) _ _ _ _) ?_
  rintro ⟨_, _, _⟩
  refine st_bind (part62 ht (xs1 _) _ _ _ _) ?_
  rintro _
  refine st_bind (part63 ht (xs1 _) _ _) ?_
  rintro _
  refine st_bind (part64 ht (xs1 _) _ _ _) ?_
  rintro _
  refine st_bind (part65 ht (xs1 _) _ _) ?_
  rintro _
  refine st_bind (part66 ht (xs1 _) _ _ _) ?_
  rintro _
  refine st_bind (part67 ht (xs1 _) _ _) ?_
  rintro _
  simp only [semSignalWord, semWaitWord, Prog.lift, Prog.bind_op, Prog.bind_ret, Prog.pure_eq_ret]
  have h1 := xs1 (x0 := x0b (t.val + 1)) (x1 := .proc (2 * t.val + 1) false) t.val
  refine st_sendG true (2 * t.val + 1) 11 h1 (acc1 t.val) (off8_kk c 2 1) (left_eq c k0_dev96_eq) rfl rfl ?_
  refine st_rwaitG false (2 * t.val + 1) 10 h1 rfl rfl ?_
  refine st_rwaitG true (2 * t.val + 1) 10 h1 rfl rfl ?_
  refine BIBase.Entails.trans (st_skip (2 * t.val + 1) 10) ?_
  unfold InvL
  by_cases hp : t.val < 3
  · rw [dif_pos ((cond8_iff t).2 hp)]
    refine st_grantS (hr := Topo.routes_tc _ _) false (2 * t.val + 1) 10 (left_eq c k0_dev97_eq) rfl ?_
    refine st_grantS (hr := Topo.routes_tc _ _) true (2 * t.val + 1) 10 (right_eq c k0_dev98_eq) rfl ?_
    refine st_next (24 * (t.val + 1)) ?_
    exact st_done (BI.Entails.refl _)
  · rw [dif_neg (fun h => hp ((cond8_iff t).1 h))]
    have h3 : t.val = 3 := by omega
    refine st_done (Entails.of_eq ?_)
    rw [h3, ctr_last]
    rfl
end

end Cert.KernelIdeal.Ring
-- ==== Proof.Body.lean ====
module

public import proofs.«01_k».proof.Proof.LoopBody

/-! The whole body: the barrier, the first block, the loop, and the last waits. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable {κ : GSem nD τ sig → ℕ} {ιs : Key → ℕ} {c : Dev nD}
variable {xb : Dev nD → S4096x1024.Idx → Elt F .bf16} {wb : Dev nD → S1024x8192.Idx → Elt F .bf16}

theorem x00_xs : x00 = xs .any .any := by funext a; cases a <;> rfl
theorem o00_os : o00 = os 0 0 0 0 := by
  unfold o00 os
  congr 1 <;> funext a <;> cases a <;> rfl

/-- One program after another, of which the second leaves alone what the first found. -/
theorem st_bindk {α β : Type} {Q : β → sProp 𝕄} {S S' R : sProp 𝕄} {φ : α → Prop} {p : Prog (TpuEff nD τ sig (Elt F) Λ₀ .tc) α} {k : α → Prog (TpuEff nD τ sig (Elt F) Λ₀ .tc) β}
    (h : S ⊢ wpc c p (fun r => iprop((⌜φ r⌝ ∗ S') ∗ R))) (H : ∀ r, φ r → S' ⊢ wpc c (k r) Q) : S ⊢ wpc c (p.bind k) (fun x => iprop(Q x ∗ R)) := by
  refine st_bindf (φ := φ) (S' := iprop(S' ∗ R)) (BI.Entails.trans h ?_) (fun r hr => st_keep (H r hr))
  unfold wpc
  refine wp_mono _ _ _ fun r => ?_
  iintro ⟨⟨Hp, HS⟩, HR⟩
  isplitl [Hp]; · iexact Hp
  isplitl [HS]; · iexact HS
  iexact HR

/-- The barrier, and the left half of the first block. -/
theorem part69 : StI (PBx xb wb) κ ιs c xb wb ⊢ wpc c (app (k0_part69 (F := F)))
    (fun (r : Σ' (_ : Dev nD) (_ : BitVec 32) (_ : BitVec 32) (_ : BitVec 32), FVec F S512x4096 .bf16) =>
      iprop((⌜r.1 = c ∧ r.2.2.2.2 = k0_pay35 (xRows (xb c) 0) (wCols (wb c) true)⌝ ∗ StE (PBx xb wb) κ ιs c xb wb (ctr 0 0) (xs (.half 0) .any) (os 0 0 0 0)) ∗
        atPos (ER (F := F)) (barC c) 1 ∅ 0)) := by
  rw [k0_part69_eq_skeleton]
  unfold app k0_part69_skel
  simp only [semSignalWord, semWaitWord, Prog.lift, Prog.bind_op, Prog.bind_ret, Prog.pure_eq_ret]
  unfold wpc
  rw [wp_deviceId]
  refine st_barrier (Q := fun (r : Σ' (_ : Dev nD) (_ : BitVec 32) (_ : BitVec 32) (_ : BitVec 32), FVec F S512x4096 .bf16) =>
      iprop(⌜r.1 = c ∧ r.2.2.2.2 = k0_pay35 (xRows (xb c) 0) (wCols (wb c) true)⌝ ∗ StE (PBx xb wb) κ ιs c xb wb (ctr 0 0) (xs (.half 0) .any) (os 0 0 0 0))) (a := ⟨k0_dev1 c, k0_dev1_lt c⟩) (b := ⟨k0_dev2 c, k0_dev2_lt c⟩) (hr1 := Topo.routes_tc _ _) (hr2 := Topo.routes_tc _ _) ?_ ?_ rfl rfl rfl ?_
  · exact left_eq c (by decide)
  · exact right_eq c (by decide)
  rw [x00_xs, o00_os]
  refine st_ldX 0 rfl rfl ?_
  refine st_ldW false rfl rfl ?_
  refine st_ldH false false (.inl rfl) rfl rfl fun v => ?_
  refine st_stH 0 false (x' := xs (.half 0) .any) ?_ ?_ ?_ ?_ ?_ ?_ ?_ ?_
  · exact rfl
  · exact rfl
  · exact rfl
  · exact fun d => by cases d <;> rfl
  · exact rfl
  · exact rfl
  · exact rfl
  refine st_ldX 0 rfl rfl ?_
  refine st_ldW true rfl rfl ?_
  exact st_fact (φ := fun (r : Σ' (_ : Dev nD) (_ : BitVec 32) (_ : BitVec 32) (_ : BitVec 32), FVec F S512x4096 .bf16) => r.1 = c ∧ r.2.2.2.2 = _) ⟨rfl, rfl⟩

/-- The counters of the last waits. -/
def tl (rA rB wA wB : ℕ) : Ctr := ⟨fun _ => 94, fun d => bif d then wB else wA, fun _ => 96, fun d => bif d then rB else rA, fun _ => 95, fun _ => 94⟩

theorem ctr_tl : ctr 96 0 = tl 95 95 94 94 := by
  refine Ctr.ext ?_ ?_ ?_ ?_ ?_ ?_ <;> funext d <;> cases d <;> rfl
theorem tl_rA : ({ tl 95 95 94 94 with rv := Function.update (tl 95 95 94 94).rv false (95 + 1) } : Ctr) = tl 96 95 94 94 := by
  refine Ctr.ext ?_ ?_ ?_ ?_ ?_ ?_ <;> funext d <;> cases d <;> rfl
theorem tl_rB : ({ tl 96 95 94 94 with rv := Function.update (tl 96 95 94 94).rv true (95 + 1) } : Ctr) = tl 96 96 94 94 := by
  refine Ctr.ext ?_ ?_ ?_ ?_ ?_ ?_ <;> funext d <;> cases d <;> rfl
theorem tl_wA (a b : ℕ) : ({ tl 96 96 a b with sw := Function.update (tl 96 96 a b).sw false (a + 1) } : Ctr) = tl 96 96 (a + 1) b := by
  refine Ctr.ext ?_ ?_ ?_ ?_ ?_ ?_ <;> funext d <;> cases d <;> rfl
theorem tl_wB (a b : ℕ) : ({ tl 96 96 a b with sw := Function.update (tl 96 96 a b).sw true (b + 1) } : Ctr) = tl 96 96 a (b + 1) := by
  refine Ctr.ext ?_ ?_ ?_ ?_ ?_ ?_ <;> funext d <;> cases d <;> rfl

/-- What device `c` holds between the loop and its last waits. -/
abbrev StT (κ : GSem nD τ sig → ℕ) (ιs : Key → ℕ) (c : Dev nD) (xb : Dev nD → S4096x1024.Idx → Elt F .bf16) (wb : Dev nD → S1024x8192.Idx → Elt F .bf16) (K : Ctr) : sProp 𝕄 :=
  StE (PBx xb wb) κ ιs c xb wb K (xs (.proc 6 true) (.proc 7 false)) (os 4 3 3 3)

theorem loop_end : InvL κ ιs c xb wb k0_t1_loop.trips = StT κ ιs c xb wb (tl 95 95 94 94) := by
  rw [← ctr_tl]; rfl

/-- The loop, by what holds when a round begins. -/
theorem st_loop {α : Type} {Q : α → sProp 𝕄} (I : ℕ → sProp 𝕄) {body : Fin k0_t1_loop.trips → PUnit → Prog (TpuEff nD τ sig (Elt F) Λ₀ .tc) PUnit}
    {k : PUnit → Prog (TpuEff nD τ sig (Elt F) Λ₀ .tc) α} (hb : ∀ t u, I t.val ⊢ wpc c (body t u) (fun _ => I (t.val + 1)))
    (H : I k0_t1_loop.trips ⊢ wpc c (k ⟨⟩) Q) : I 0 ⊢ wpc c ((Scf.Loop.for k0_t1_loop k0_t1_ok ⟨⟩ body).bind k) Q := by
  refine st_bind (S' := I k0_t1_loop.trips) ?_ (fun _ => H)
  refine BIBase.Entails.trans ?_ (Scf.wp_for _ _ _ _ _ _ k0_t1_ok PUnit.unit body (fun n _ => I n) hb)
  iintro HI
  isplitl [HI]; · iexact HI
  iintro %_ HI
  iexact HI

/-- The right half of the first block, the loop, and the last two landings. -/
theorem part70 (v2 v5 v7 : BitVec 32) (v27 : FVec F S512x4096 .bf16) (hv : v27 = k0_pay35 (xRows (xb c) 0) (wCols (wb c) true)) :
    StE (PBx xb wb) κ ιs c xb wb (ctr 0 0) (xs (.half 0) .any) (os 0 0 0 0) ⊢ wpc c (app (k0_part70 (F := F)) c v2 v5 v7 v27)
      (fun _ => StT κ ιs c xb wb (tl 96 96 94 94)) := by
  rw [k0_part70_eq_skeleton]
  unfold app k0_part70_skel
  simp only [semSignalWord, semWaitWord, Prog.lift, Prog.bind_op, Prog.bind_ret, Prog.pure_eq_ret]
  subst hv
  refine st_ldH false true (.inr ⟨_, rfl⟩) rfl rfl fun v => ?_
  refine st_stH 0 true (x' := xs (.proc 0 false) .any) ?_ ?_ ?_ ?_ ?_ ?_ ?_ ?_
  · exact rfl
  · exact rfl
  · exact rfl
  · exact fun d => by cases d <;> rfl
  · exact rfl
  · exact rfl
  · exact rfl
  refine st_loop (InvL κ ιs c xb wb) (fun t u => round t u v2 v5 v7 _) ?_
  rw [loop_end]
  refine core_rwaitG (PBx xb wb) κ ιs c xb wb false (r := 95) ?_ ?_ ?_ ?_ ?_ ?_ ?_ ?_ ?_ ?_ ?_ ?_
  · decide
  · exact rfl
  · exact rfl
  · decide
  · decide
  · decide
  · exact rfl
  · decide
  · decide
  · exact rfl
  · exact rfl
  rw [tl_rA]
  refine core_rwaitG (PBx xb wb) κ ιs c xb wb true (r := 95) ?_ ?_ ?_ ?_ ?_ ?_ ?_ ?_ ?_ ?_ ?_ ?_
  · decide
  · exact rfl
  · exact rfl
  · decide
  · decide
  · decide
  · exact rfl
  · decide
  · decide
  · exact rfl
  · exact rfl
  rw [tl_rB]
  exact st_done (BI.Entails.refl _)

/-- The last four sends have been read. -/
theorem part71 : StT κ ιs c xb wb (tl 96 96 94 94) ⊢ wpc c (app (k0_part71 (F := F))) (fun _ => StT κ ιs c xb wb (tl 96 96 96 96)) := by
  rw [k0_part71_eq_skeleton]
  unfold app k0_part71_skel
  simp only [semSignalWord, semWaitWord, Prog.lift, Prog.bind_op, Prog.bind_ret, Prog.pure_eq_ret]
  refine core_swait (PBx xb wb) κ ιs c xb wb false (m := 94) (ou := false) ?_ ?_ ?_ ?_ ?_ ?_ ?_ ?_ ?_ ?_
  · decide
  · exact rfl
  · decide
  · exact rfl
  · decide
  · decide
  · decide
  · exact rfl
  · exact rfl
  rw [tl_wA]
  refine core_swait (PBx xb wb) κ ιs c xb wb true (m := 94) (ou := false) ?_ ?_ ?_ ?_ ?_ ?_ ?_ ?_ ?_ ?_
  · decide
  · exact rfl
  · decide
  · exact rfl
  · decide
  · decide
  · decide
  · exact rfl
  · exact rfl
  rw [tl_wB]
  refine core_swait (PBx xb wb) κ ιs c xb wb false (m := 95) (ou := false) ?_ ?_ ?_ ?_ ?_ ?_ ?_ ?_ ?_ ?_
  · decide
  · exact rfl
  · decide
  · exact rfl
  · decide
  · decide
  · decide
  · exact rfl
  · exact rfl
  rw [tl_wA]
  refine core_swait (PBx xb wb) κ ιs c xb wb true (m := 95) (ou := false) ?_ ?_ ?_ ?_ ?_ ?_ ?_ ?_ ?_ ?_
  · decide
  · exact rfl
  · decide
  · exact rfl
  · decide
  · decide
  · decide
  · exact rfl
  · exact rfl
  rw [tl_wB]
  exact st_done (BI.Entails.refl _)

theorem done_tl (b : ℕ) (hb : b = 6 ∨ b = 7) : Done (tl 96 96 96 96) b := by
  unfold Done
  rcases hb with rfl | rfl <;> decide

/-- What device `c` holds when its body has ended. -/
def StF (κ : GSem nD τ sig → ℕ) (ιs : Key → ℕ) (c : Dev nD) (xb : Dev nD → S4096x1024.Idx → Elt F .bf16) (wb : Dev nD → S1024x8192.Idx → Elt F .bf16) : sProp 𝕄 :=
  StE (PBx xb wb) κ ιs c xb wb (tl 96 96 96 96) (xs .any .any) (os 4 4 4 4)

set_option maxRecDepth 65536 in
theorem cc0_body_spec : StI (PBx xb wb) κ ιs c xb wb ⊢ wpc c (app (cc0_body (F := F)))
    (fun _ => iprop(StF κ ιs c xb wb ∗ atPos (ER (F := F)) (barC c) 1 ∅ 0)) := by
  rw [cc0_body_eq_skeleton]
  unfold app cc0_body_skel
  refine st_bindk (R := atPos (ER (F := F)) (barC c) 1 ∅ 0) (Q := fun _ => StF κ ιs c xb wb) part69 ?_
  rintro ⟨d0, v2, v5, v7, v27⟩ ⟨h0, hv⟩
  obtain rfl : d0 = c := h0
  refine st_bind (part70 v2 v5 v7 v27 hv) ?_
  rintro _
  refine st_bind part71 ?_
  rintro _
  simp only [semSignalWord, semWaitWord, Prog.lift, Prog.bind_op, Prog.bind_ret, Prog.pure_eq_ret]
  refine st_out true 3 (x' := xs (.proc 6 true) (.proc 7 true)) (o' := os 4 3 4 3) ?_ ?_ ?_ ?_ ?_ ?_ ?_ ?_ ?_ ?_ ?_ ?_ ?_ ?_ (by omega)
  · exact rfl
  · exact rfl
  · exact rfl
  · exact rfl
  · exact rfl
  · exact rfl
  · exact rfl
  · exact rfl
  · exact rfl
  · exact fun d r sub => ⟨_, done_tl 7 (.inr rfl) d r sub⟩
  · exact rfl
  · exact rfl
  · exact rfl
  refine st_owait false 3 (x' := xs .any (.proc 7 true)) (o' := os 4 4 4 3) ?_ ?_ ?_ ?_ ?_ ?_ ?_ ?_ ?_ ?_ ?_ ?_ ?_ (by omega)
  · exact rfl
  · exact rfl
  · exact rfl
  · exact rfl
  · exact rfl
  · exact rfl
  · exact rfl
  · exact rfl
  · exact rfl
  · exact done_tl 6 (.inl rfl)
  · exact rfl
  · exact rfl
  refine st_owait true 3 (x' := xs .any .any) (o' := os 4 4 4 4) ?_ ?_ ?_ ?_ ?_ ?_ ?_ ?_ ?_ ?_ ?_ ?_ ?_ (by omega)
  · exact rfl
  · exact rfl
  · exact rfl
  · exact rfl
  · exact rfl
  · exact rfl
  · exact rfl
  · exact rfl
  · exact rfl
  · exact done_tl 7 (.inr rfl)
  · exact rfl
  · exact rfl
  exact st_done (BI.Entails.refl _)
end

end Cert.KernelIdeal.Ring
-- ==== Proof.Ends.lean ====
module

public import proofs.«01_k».proof.Proof.Cells
public import proofs.«01_k».proof.Proof.Body
public import Idealize.ShloMosaic.Lib.Rounds.Family

/-! What a device is dealt becomes what the body starts from, and what the body ends with becomes every semaphore back at zero. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable (PB : Dev nD → ℕ → AccT F) (κ : GSem nD τ sig → ℕ) (ιs : Key → ℕ) (c : Dev nD)

/-- The invariants alone. -/
def invs : sProp 𝕄 :=
  iprop(bigSep (allK ×ˢ (Finset.univ : Finset (Dev nD))) (fun p => cellInv (ER (F := F)) (Rd PB) (κ (gOf p.1 p.2)) (gOf p.1 p.2)) ∗
    bigSep keys (fun k => slotInv (ES (F := F)) (ιs k) k (Sl k)))

instance invs_persistent : BI.Persistent (invs PB κ ιs) := by unfold invs; infer_instance

/-- What else the launch deals device `c`. -/
def Dealt : sProp 𝕄 :=
  iprop(atPos (ER (F := F)) (barC c) 0 ∅ 0 ∗ bigSep Finset.univ (fun d : Bool => reached (ER (F := F)) (barC (nb (!d) c)) 0) ∗
    bigSep Finset.univ (DutD (F := F) c) ∗
    bigSep Finset.univ (fun d : Bool => iprop(bigSep (Finset.range 96) (fun m => readerAt (ES (F := F)) (d, c, m) 0) ∗ bigSep (Finset.range 96) (fun n => writeTok (ES (F := F)) (d, nb d c, n) 1))) ∗
    cred (tallyAt (barC c) 0 2) ∗ bigSep Finset.univ (CrdD (F := F) c))

/-- Before the kernel's semaphores are there. -/
def Tk : sProp 𝕄 := iprop(∃ κ ιs, invs PB κ ιs ∗ bigSep Finset.univ (fun k : Fin 12 => openTok (ER (F := F)) (gOf (okd k) c)) ∗ Dealt (F := F) c)

/-- A cell at its start. -/
def At0 (k : Kd) : sProp 𝕄 := iprop(atPos (ER (F := F)) (gOf k c) 0 ∅ 0 ∗ reached (ER (F := F)) (gOf k c) 0)

/-- Once they are. -/
def Xk : sProp 𝕄 := iprop(∃ κ ιs, recs PB κ ιs ∗ bigSep Finset.univ (fun k : Fin 12 => At0 (F := F) c (okd k)) ∗ Dealt (F := F) c)

variable {PB κ ιs c}

theorem invs_own : invs PB κ ιs ⊢ bigSep Finset.univ (fun k : Fin 12 => cellInv (ER (F := F)) (Rd PB) (κ (gOf (okd k) c)) (gOf (okd k) c)) :=
  bigSep_intro_persistent fun k _ =>
    (by unfold invs; iintro ⟨H, -⟩; iexact H :
      invs PB κ ιs ⊢ bigSep (allK ×ˢ (Finset.univ : Finset (Dev nD))) (fun p => cellInv (ER (F := F)) (Rd PB) (κ (gOf p.1 p.2)) (gOf p.1 p.2))).trans
    (bigSep_elim (i := (okd k, c)) (Finset.mem_product.mpr ⟨mem_allK _ (okd_own k).1, Finset.mem_univ _⟩))

theorem own_sems : (Pipeline.ownSems0 osem c : sProp 𝕄) = bigSep Finset.univ (fun k : Fin 12 => semVal (gOf (okd k) c) 0) := by
  unfold Pipeline.ownSems0
  exact bigSep_congr fun k _ => by rw [gOf_eq]

theorem open_cells : iprop(Tk PB c ∗ Pipeline.ownSems0 osem c ∗ levAts L lv) ⊢ (|={Set.univ}=> Xk PB c : sProp 𝕄) := by
  rw [own_sems]
  unfold Tk
  iintro ⟨⟨%κ, %ιs, #HI, Ho, HD⟩, Hs, #HL⟩
  imod (Rounds.cells_open (ER (F := F)) (Rd PB) Finset.univ (fun k : Fin 12 => gOf (okd k) c) (fun k => κ (gOf (okd k) c)) (fun k _ => Set.mem_univ _)) $$ [Ho Hs] with H
  · isplitl [Ho]
    · iapply (sep_meet Finset.univ (fun k : Fin 12 => cellInv (ER (F := F)) (Rd PB) (κ (gOf (okd k) c)) (gOf (okd k) c)) (fun k => openTok (ER (F := F)) (gOf (okd k) c)))
      isplitr
      · iapply (invs_own (PB := PB) (κ := κ) (ιs := ιs) (c := c)); iexact HI
      iexact Ho
    iexact Hs
  imodintro
  unfold Xk
  iexists κ
  iexists ιs
  isplitr
  · unfold recs invs
    icases HI with ⟨H1, H2⟩
    isplitr; · iexact H1
    isplitr; · iexact H2
    iexact HL
  isplitl [H]
  · unfold At0; iexact H
  iexact HD

theorem bool_mono {Φ Ψ : Bool → sProp 𝕄} (h : ∀ d, Φ d ⊢ Ψ d) : (bigSep Finset.univ Φ : sProp 𝕄) ⊢ bigSep Finset.univ Ψ := bigSep_mono fun d _ => h d

theorem rg (N : ℕ) (X : ℕ → sProp 𝕄) : bigSep (Finset.range N) X = bigSep (Finset.Ico 0 N) X := by rw [Finset.range_eq_Ico]

theorem sPos_two (d : Bool) : iprop(At0 (F := F) c (.send d false) ∗ At0 (F := F) c (.send d true)) ⊢ iprop(sPos (F := F) c d 0 ∗ sPos (F := F) c d (0 + 1)) := BI.Entails.refl _
theorem rPos_two (d : Bool) : iprop(At0 (F := F) c (.recv d false) ∗ At0 (F := F) c (.recv d true)) ⊢ iprop(rPos (F := F) c d 0 ∗ rPos (F := F) c d (0 + 1)) := BI.Entails.refl _

theorem cr_start (d : Bool) : iprop(atPos (ER (F := F)) (credC d c) 0 ∅ 0 ∗ bigSep (Finset.Ico 0 94) (fun k => cred (tallyAt (credC d c) k 1))) ⊢ CrP (F := F) c d 0 := by
  unfold CrP
  rw [if_pos (by omega)]
  iintro ⟨Ha, Hc⟩
  isplitl [Ha]
  · iexists ∅
    isplitr
    · ipureintro; exact ⟨Finset.empty_subset _, Nat.zero_le _⟩
    isplitl [Ha]; · iexact Ha
    rw [bigSep_empty]
    iempintro
  iexact Hc

theorem sw_start (d : Bool) : iprop((At0 (F := F) c (.send d false) ∗ At0 (F := F) c (.send d true)) ∗
    bigSep (Finset.range 96) (fun n => dutyTok (ER (F := F)) (sendC d (par n) c) (n / 2) 0) ∗
    bigSep (Finset.range 96) (fun n => dutyTok (ER (F := F)) (recvC d (par n) (nb d c)) (n / 2) 0) ∗
    bigSep (Finset.range 96) (fun n => writeTok (ES (F := F)) (d, nb d c, n) 1)) ⊢ SwP (F := F) c d 0 0 := by
  unfold SwP
  iintro ⟨Hp, Ha, Hb, Hw⟩
  ihave Hp := (sPos_two (F := F) (c := c) d) $$ Hp
  icases Hp with ⟨H0, H1⟩
  isplitl [H0]; · iexact H0
  isplitl [H1]; · iexact H1
  isplitr
  · rw [Finset.Ico_self, bigSep_empty]; iempintro
  rw [← rg]
  unfold sTok
  iapply (sep_meet (Finset.range 96) _ _)
  isplitl [Ha]; · iexact Ha
  iapply (sep_meet (Finset.range 96) _ _)
  isplitl [Hb]; · iexact Hb
  iexact Hw

theorem out_start (o : Bool) : iprop(At0 (F := F) c (.out o) ∗ bigSep (Finset.range 4) (fun n => dutyTok (ER (F := F)) (outC o c) n 0) ∗
    bigSep (Finset.Ico 0 4) (fun r => any c (outM (fin8 (2 * r + o.toNat))))) ⊢ OutP PB c o 0 0 := by
  unfold OutP At0
  iintro ⟨⟨Ha, Hr⟩, Ht, Hy⟩
  isplitl [Ha]; · iexact Ha
  isplitl [Hr]; · iexact Hr
  isplitl [Ht]; · rw [← rg]; iexact Ht
  isplitr
  · rw [Finset.Ico_self, bigSep_empty]; iempintro
  isplitr
  · rw [Finset.range_zero, bigSep_empty]; iempintro
  iexact Hy

theorem one_tok (d : Bool) : bigSep (Finset.range 1) (fun n => dutyTok (ER (F := F)) (barC (nb (!d) c)) n d.toNat) ⊢ (dutyTok (ER (F := F)) (barC (nb (!d) c)) 0 d.toNat : sProp 𝕄) := by
  rw [Finset.range_one, bigSep_singleton]

/-- Direction `d` of what a device starts from. -/
theorem dir_start (d : Bool) : iprop((At0 (F := F) c (.cred d) ∗ (At0 (F := F) c (.send d false) ∗ At0 (F := F) c (.send d true)) ∗ (At0 (F := F) c (.recv d false) ∗ At0 (F := F) c (.recv d true)) ∗ At0 (F := F) c (.out d)) ∗
      DutD (F := F) c d ∗ (bigSep (Finset.range 96) (fun m => readerAt (ES (F := F)) (d, c, m) 0) ∗ bigSep (Finset.range 96) (fun n => writeTok (ES (F := F)) (d, nb d c, n) 1)) ∗
      CrdD (F := F) c d ∗ (any c (slotM d false) ∗ any c (slotM d true)) ∗ bigSep (Finset.Ico 0 4) (fun r => any c (outM (fin8 (2 * r + d.toNat))))) ⊢
    iprop(CrP (F := F) c d 0 ∗ SwP (F := F) c d 0 0 ∗ RvP (F := F) c d 0 ∗ GrI (F := F) c d ∗ OutP PB c d 0 0 ∗
      dutyTok (ER (F := F)) (barC (nb (!d) c)) 0 d.toNat ∗ reached (ER (F := F)) (credC d c) 0) := by
  unfold DutD CrdD
  iintro ⟨⟨Hc, Hs, Hr, Ho⟩, ⟨T0, T1, T2, T3, T4⟩, ⟨Hrd, Hwr⟩, ⟨Cr, Cc⟩, ⟨Ha, Hb⟩, Hy⟩
  ihave Hc := (show At0 (F := F) c (.cred d) ⊢ iprop(atPos (ER (F := F)) (credC d c) 0 ∅ 0 ∗ reached (ER (F := F)) (credC d c) 0) from BI.Entails.refl _) $$ Hc
  icases Hc with ⟨Hc, Hcr⟩
  isplitl [Hc Cc]
  · iapply (cr_start (c := c) d)
    isplitl [Hc]; · iexact Hc
    iexact Cc
  isplitl [Hs T2 T3 Hwr]
  · iapply (sw_start (c := c) d)
    isplitl [Hs]; · iexact Hs
    isplitl [T2]; · iexact T2
    isplitl [T3]; · iexact T3
    iexact Hwr
  isplitl [Hr Cr]
  · unfold RvP
    ihave Hr := (rPos_two (F := F) (c := c) d) $$ Hr
    icases Hr with ⟨H0, H1⟩
    isplitl [H0]; · iexact H0
    isplitl [H1]; · iexact H1
    iexact Cr
  isplitl [T1 Hrd Ha Hb]
  · unfold GrI
    isplitl [T1]; · rw [← rg]; iexact T1
    isplitl [Hrd]; · rw [← rg]; iexact Hrd
    isplitl [Ha]; · iexact Ha
    iexact Hb
  isplitl [Ho T4 Hy]
  · iapply (out_start (PB := PB) (c := c) d)
    isplitl [Ho]; · iexact Ho
    isplitl [T4]; · iexact T4
    iexact Hy
  isplitl [T0]; · iapply (one_tok (c := c) d); iexact T0
  iexact Hcr

variable {xb : Dev nD → S4096x1024.Idx → Elt F .bf16} {wb : Dev nD → S1024x8192.Idx → Elt F .bf16}

/-- The buffers the body uses, contents arbitrary. -/
def Bufs0 (c : Dev nD) : sProp 𝕄 :=
  iprop(bigSep Finset.univ (fun a : Bool => any (F := F) c (accM a)) ∗ bigSep Finset.univ (fun d : Bool => iprop(any (F := F) c (slotM d false) ∗ any (F := F) c (slotM d true))))
def Outs0 (c : Dev nD) : sProp 𝕄 :=
  bigSep Finset.univ (fun o : Bool => bigSep (Finset.Ico 0 4) (fun r => any (F := F) c (outM (fin8 (2 * r + o.toNat)))))

theorem start_of : iprop(Xk PB c ∗ (∃ W, owes (c : Thread nD τ) (OI c) W) ∗ Bufs0 (F := F) c ∗ Outs0 (F := F) c ∗ WinP c xb wb) ⊢
    (iprop(∃ κ ιs, StI PB κ ιs c xb wb) : sProp 𝕄) := by
  unfold Xk Bufs0 Outs0 Dealt
  iintro ⟨⟨%κ, %ιs, HR, H12, Hb, Hrb, HD, HRW, Hc2, HC⟩, HO, ⟨HA, HS⟩, HY, HW⟩
  iexists κ
  iexists ιs
  ihave H12 := (twelve_split (At0 (F := F) c)) $$ H12
  ihave H := (sep_meet Finset.univ _ _) $$ [HS HY]
  · isplitl [HS]; · iexact HS
    iexact HY
  ihave H := (sep_meet Finset.univ _ _) $$ [HC H]
  · isplitl [HC]; · iexact HC
    iexact H
  ihave H := (sep_meet Finset.univ _ _) $$ [HRW H]
  · isplitl [HRW]; · iexact HRW
    iexact H
  ihave H := (sep_meet Finset.univ _ _) $$ [HD H]
  · isplitl [HD]; · iexact HD
    iexact H
  ihave H := (sep_meet Finset.univ _ _) $$ [H12 H]
  · isplitl [H12]; · iexact H12
    iexact H
  ihave H := (bool_mono (fun d => dir_start (PB := PB) (c := c) d)) $$ H
  ihave H := (sep_apart Finset.univ _ _) $$ H
  icases H with ⟨H1, H⟩
  ihave H := (sep_apart Finset.univ _ _) $$ H
  icases H with ⟨H2, H⟩
  ihave H := (sep_apart Finset.univ _ _) $$ H
  icases H with ⟨H3, H⟩
  ihave H := (sep_apart Finset.univ _ _) $$ H
  icases H with ⟨H4, H⟩
  ihave H := (sep_apart Finset.univ _ _) $$ H
  icases H with ⟨H5, H⟩
  ihave H := (two_bool _) $$ H
  icases H with ⟨⟨HtA, HrA⟩, ⟨HtB, HrB⟩⟩
  ihave Hrb := (two_bool _) $$ Hrb
  icases Hrb with ⟨HbA, HbB⟩
  unfold StI
  isplitl [HR]; · iexact HR
  isplitl [HO]; · iexact HO
  isplitl [H1]; · iexact H1
  isplitl [H2]; · iexact H2
  isplitl [H3]; · iexact H3
  isplitl [H4]; · iexact H4
  isplitl [HA]; · iexact HA
  isplitl [H5]; · iexact H5
  isplitl [HW]; · iexact HW
  unfold BarI
  isplitl [Hb]; · iexact Hb
  isplitl [Hc2]; · iexact Hc2
  isplitl [HtA HbA]
  · isplitl [HtA]; · iexact HtA
    iexact HbA
  isplitl [HtB HbB]
  · isplitl [HtB]; · iexact HtB
    iexact HbB
  isplitl [HrA]; · iexact HrA
  iexact HrB

/-! ### The end -/

/-- The round every cell has reached. -/
def rdK : Kd → ℕ
  | .bar => 1 | .cred _ => 1 | .send _ _ => 48 | .recv _ _ => 48 | .out _ => 4 | .idle => 0

theorem rdK_later (k : Kd) (hk : k ≠ .idle) : ∀ r, rdK k ≤ r → (Rd PB).duties (gOf k c) r = ∅ := by
  rcases k with _ | d | ⟨d, s⟩ | ⟨d, s⟩ | o | _
  · exact duties_bar_later PB c
  · exact duties_cred_later PB c d
  · exact duties_send_later PB c d s
  · exact duties_recv_later PB c d s
  · exact duties_out_later PB c o
  · exact absurd rfl hk

def AtN (c : Dev nD) (k : Kd) : sProp 𝕄 := atPos (ER (F := F)) (gOf k c) (rdK k) ∅ 0

/-- The written row blocks. -/
def OutsN (PB : Dev nD → ℕ → AccT F) (c : Dev nD) : sProp 𝕄 :=
  bigSep Finset.univ (fun o : Bool => bigSep (Finset.range 4) (fun r => owns (Val := Elt F) (c : Thread nD τ) (outM (fin8 (2 * r + o.toNat))) fullShare (FV PB (2 * r + o.toNat))))

theorem cr_end (d : Bool) : CrP (F := F) c d 94 ⊢ AtN (F := F) c (.cred d) := by
  unfold CrP
  rw [if_neg (by omega)]
  iintro ⟨H, -⟩
  unfold AtN
  iexact H
theorem sw_end (d : Bool) : SwP (F := F) c d 96 96 ⊢ iprop(AtN (F := F) c (.send d false) ∗ AtN (F := F) c (.send d true)) := by
  unfold SwP sPos
  iintro ⟨⟨H, -⟩, ⟨H', -⟩, -⟩
  unfold AtN
  isplitl [H]; · iexact H
  iexact H'
theorem rv_end (d : Bool) : RvP (F := F) c d 96 ⊢ iprop(AtN (F := F) c (.recv d false) ∗ AtN (F := F) c (.recv d true)) := by
  unfold RvP rPos
  iintro ⟨⟨H, -⟩, ⟨H', -⟩, -⟩
  unfold AtN
  isplitl [H]; · iexact H
  iexact H'
theorem out_end (o : Bool) : OutP PB c o 4 4 ⊢ iprop(AtN (F := F) c (.out o) ∗ bigSep (Finset.range 4) (fun r => owns (Val := Elt F) (c : Thread nD τ) (outM (fin8 (2 * r + o.toNat))) fullShare (FV PB (2 * r + o.toNat)))) := by
  unfold OutP
  iintro ⟨H, -, -, -, H', -⟩
  unfold AtN
  isplitl [H]; · iexact H
  iexact H'

theorem dir_end (d : Bool) : iprop(CrP (F := F) c d 94 ∗ SwP (F := F) c d 96 96 ∗ RvP (F := F) c d 96 ∗ OutP PB c d 4 4) ⊢
    iprop((AtN (F := F) c (.cred d) ∗ (AtN (F := F) c (.send d false) ∗ AtN (F := F) c (.send d true)) ∗ (AtN (F := F) c (.recv d false) ∗ AtN (F := F) c (.recv d true)) ∗ AtN (F := F) c (.out d)) ∗
      bigSep (Finset.range 4) (fun r => owns (Val := Elt F) (c : Thread nD τ) (outM (fin8 (2 * r + d.toNat))) fullShare (FV PB (2 * r + d.toNat)))) := by
  iintro ⟨H1, H2, H3, H4⟩
  ihave H4 := (out_end (PB := PB) (c := c) d) $$ H4
  icases H4 with ⟨H4, HY⟩
  isplitr [HY]
  swap
  · iexact HY
  isplitl [H1]; · iapply (cr_end (c := c) d); iexact H1
  isplitl [H2]; · iapply (sw_end (c := c) d); iexact H2
  isplitl [H3]; · iapply (rv_end (c := c) d); iexact H3
  iexact H4

theorem tmp_end (p : Bool × Bool) : TmpP PB c p.1 p.2 96 95 94 ⊢ any (F := F) c (slotM p.1 p.2) := by
  unfold TmpP
  rw [if_neg (by obtain ⟨d, s⟩ := p; revert d s; decide), if_neg (by obtain ⟨d, s⟩ := p; revert d s; decide)]

theorem slots_end : bigSep (Finset.univ : Finset (Bool × Bool)) (fun p => TmpP PB c p.1 p.2 96 95 94) ⊢
    bigSep Finset.univ (fun d : Bool => iprop(any (F := F) c (slotM d false) ∗ any (F := F) c (slotM d true))) := by
  refine (bigSep_mono fun p _ => tmp_end p).trans ?_
  rw [bigSep_univ_prod]
  exact bigSep_mono fun d _ => two_bool (fun s => any (F := F) c (slotM d s))

theorem oo_end (c : Dev nD) : OO (tl 96 96 96 96) c = 0 := by
  unfold OO OD
  show (∑ n ∈ Finset.Ico 96 96, _ + ∑ k ∈ Finset.Ico 94 94, _) + (∑ n ∈ Finset.Ico 96 96, _ + ∑ k ∈ Finset.Ico 94 94, _) = _
  simp only [Finset.Ico_self, Finset.sum_empty, add_zero]

theorem own_close : iprop(recs PB κ ιs ∗ bigSep Finset.univ (fun k : Fin 12 => AtN (F := F) c (okd k))) ⊢ (|={Set.univ}=> Pipeline.ownSems0 osem c : sProp 𝕄) := by
  rw [own_sems]
  refine BIBase.Entails.trans ?_ (Rounds.cells_close (ER (F := F)) (Rd PB) Finset.univ (fun k : Fin 12 => gOf (okd k) c) (fun k => κ (gOf (okd k) c)) (fun k _ => Set.mem_univ _)
    (fun _ _ h => h) (fun k => rdK (okd k)) (fun k _ => rdK_later (okd k) (okd_own k).1))
  iintro ⟨#R, H⟩
  iapply (sep_meet Finset.univ (fun k : Fin 12 => cellInv (ER (F := F)) (Rd PB) (κ (gOf (okd k) c)) (gOf (okd k) c)) (fun k : Fin 12 => atPos (ER (F := F)) (gOf (okd k) c) (rdK (okd k)) ∅ 0))
  isplitr
  · iapply (bigSep_intro_persistent (R := recs PB κ ιs) (S := (Finset.univ : Finset (Fin 12))) (Φ := fun k : Fin 12 => cellInv (ER (F := F)) (Rd PB) (κ (gOf (okd k) c)) (gOf (okd k) c)) (fun k _ => recs_cell PB κ ιs (okd k) (okd_own k).1 c))
    iexact R
  unfold AtN
  iexact H

theorem bar_close : iprop(recs PB κ ιs ∗ atPos (ER (F := F)) (barC c) 1 ∅ 0) ⊢ (|={Set.univ}=> semVal (barC c) 0 : sProp 𝕄) :=
  (BIClass.sep_mono (recs_cell PB κ ιs .bar (by simp) c) (BI.Entails.refl _)).trans
    (Rounds.cell_close (ER (F := F)) (Rd PB) (Set.mem_univ _) (fun h => h) (duties_bar_later PB c))

theorem end_of : iprop(StE PB κ ιs c xb wb (tl 96 96 96 96) (xs .any .any) (os 4 4 4 4) ∗ atPos (ER (F := F)) (barC c) 1 ∅ 0) ⊢
    (|={Set.univ}=> ((∃ W, owes (c : Thread nD τ) (0 : CellTallies nD τ sig ℕ) W) ∗ Bufs0 (F := F) c ∗ OutsN PB c ∗ WinP c xb wb ∗ Pipeline.ownSems0 osem c ∗ semVal (barC c) 0) : sProp 𝕄) := by
  unfold StE
  rw [oo_end]
  iintro ⟨⟨#R, HO, HCr, -, HSw, HRv, -, HT, HA, HOu, HW⟩, Hb⟩
  ihave H := (sep_meet (F := F) Finset.univ (fun d => RvP (F := F) c d 96) (fun b => OutP PB c b 4 4)) $$ [HRv HOu]
  · isplitl [HRv]; · iexact HRv
    unfold os
    iexact HOu
  ihave H := (sep_meet (F := F) Finset.univ (fun d => SwP (F := F) c d 96 96) _) $$ [HSw H]
  · isplitl [HSw]; · iexact HSw
    iexact H
  ihave H := (sep_meet (F := F) Finset.univ (fun d => CrP (F := F) c d 94) _) $$ [HCr H]
  · isplitl [HCr]; · iexact HCr
    iexact H
  ihave H := (bool_mono (fun d => dir_end (PB := PB) (c := c) d)) $$ H
  ihave H := (sep_apart Finset.univ _ _) $$ H
  icases H with ⟨H, HY⟩
  ihave H := (twelve_join (AtN (F := F) c)) $$ H
  imod (own_close (PB := PB) (κ := κ) (ιs := ιs) (c := c)) $$ [H] with H
  · isplitr; · iexact R
    iexact H
  imod (bar_close (PB := PB) (κ := κ) (ιs := ιs) (c := c)) $$ [Hb] with Hb
  · isplitr; · iexact R
    iexact Hb
  imodintro
  isplitl [HO]; · iexact HO
  isplitl [HA HT]
  · unfold Bufs0
    isplitl [HA]; · iexact HA
    iapply (slots_end (PB := PB) (c := c))
    iexact HT
  isplitl [HY]; · unfold OutsN; iexact HY
  isplitl [HW]; · iexact HW
  isplitl [H]; · iexact H
  iexact Hb

end

end Cert.KernelIdeal.Ring
-- ==== Proof.Store.lean ====
module

public import proofs.«01_k».proof.Proof.Ends

/-! The scratch buffers and the result array: cut into the pieces the body works on, and put together again. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable {c : Dev nD}

/-! ### The landing buffers -/

theorem slots_disj (s t : Bool) (h : s ≠ t) : Disjoint (rectS s).set (rectS t).set := by
  rw [Finset.disjoint_left]
  intro i h1 h2
  unfold rectS at h1 h2
  rw [Rect.mem_set_unit] at h1 h2
  have a := h1 0
  have b := h2 0
  apply h
  cases s <;> cases t <;> first | rfl | (exfalso; simp at a b; omega)

theorem slots_cover : ((Finset.univ : Finset Bool).biUnion fun s => (rectS s).set) = (Finset.univ : Finset S2x512x512.Idx) := by
  rw [Finset.eq_univ_iff_forall]
  intro i
  have hi : (i 0).val < 2 := (i 0).isLt
  have h1 : (i 1).val < 512 := (i 1).isLt
  have h2 : (i 2).val < 512 := (i 2).isLt
  refine Finset.mem_biUnion.mpr ⟨decide ((i 0).val = 1), Finset.mem_univ _, ?_⟩
  unfold rectS
  rw [Rect.mem_set_unit]
  intro a
  fin_cases a
  · by_cases h : (i 0).val = 1
    · simp only [h, decide_true]; exact ⟨by show 1 ≤ (i 0).val; omega, by show (i 0).val < 1 + 1; omega⟩
    · simp only [h, decide_false]; exact ⟨by show 0 ≤ (i 0).val; omega, by show (i 0).val < 0 + 1; omega⟩
  · exact ⟨Nat.zero_le _, by show (i 1).val < 0 + 512; omega⟩
  · exact ⟨Nat.zero_le _, by show (i 2).val < 0 + 512; omega⟩

/-- Dropping the axis of extent one changes nothing of what is held. -/
theorem any_flat (d s : Bool) : any (F := F) c ((tmpM d).slice (rectS s) (fun _ => rfl)) = any (F := F) c (slotM d s) := by
  have hs : (slotM d s).view.set = ((tmpM d).slice (rectS s) (fun _ => rfl)).view.set :=
    View.set_reshape (v := ((tmpM d).slice (rectS s) (fun _ => rfl)).view) (Shape.Squeezes.numel_eq squeezes_S1x512x512_S512x512)
  have h1 : any (F := F) c ((tmpM d).slice (rectS s) (fun _ => rfl)) ⊢ any (F := F) c (slotM d s) := by
    unfold any owns
    rw [hs]
    iintro ⟨%X, %g, -, H⟩
    iexists ((slotM d s).view.read (Elt F) g)
    iexists g
    isplitr
    · ipureintro; rfl
    iexact H
  have h2 : any (F := F) c (slotM d s) ⊢ any (F := F) c ((tmpM d).slice (rectS s) (fun _ => rfl)) := by
    unfold any owns
    rw [hs]
    iintro ⟨%X, %g, -, H⟩
    iexists (((tmpM d).slice (rectS s) (fun _ => rfl)).view.read (Elt F) g)
    iexists g
    isplitr
    · ipureintro; rfl
    iexact H
  exact BI.equiv_iff.mp ⟨h1, h2⟩

theorem all_mono {I : Type} (s : Finset I) {Φ Ψ : I → sProp 𝕄} (h : ∀ i, Φ i ⊢ Ψ i) : (bigSep s Φ : sProp 𝕄) ⊢ bigSep s Ψ := bigSep_mono fun i _ => h i

theorem tmp_split (d : Bool) : any (F := F) c (tmpM d) ⊢ iprop(any (F := F) c (slotM d false) ∗ any (F := F) c (slotM d true)) := by
  refine BIBase.Entails.trans ?_ (two_bool (fun s => any (F := F) c (slotM d s)))
  rw [bigSep_congr (s := (Finset.univ : Finset Bool)) (fun s _ => (any_flat (F := F) (c := c) d s).symm)]
  unfold any
  iintro ⟨%X, H⟩
  ihave H := (owns_rects (c : Thread nD τ) (tmpM d) fullShare rectS (fun _ _ => rfl) slots_disj slots_cover X) $$ H
  iapply (all_mono _ (fun s => (by iintro H; iexists _; iexact H :
    (owns (Val := Elt F) (c : Thread nD τ) ((tmpM d).slice (rectS s) (fun _ => rfl)) fullShare (fun j => X ((rectS s).emb j)) : sProp 𝕄) ⊢
      iprop(∃ Y, owns (Val := Elt F) (c : Thread nD τ) ((tmpM d).slice (rectS s) (fun _ => rfl)) fullShare Y))) :
    (bigSep (Finset.univ : Finset Bool) fun s => (owns (Val := Elt F) (c : Thread nD τ) ((tmpM d).slice (rectS s) (fun _ => rfl)) fullShare (fun j => X ((rectS s).emb j)) : sProp 𝕄)) ⊢
      bigSep (Finset.univ : Finset Bool) fun s => iprop(∃ Y, owns (Val := Elt F) (c : Thread nD τ) ((tmpM d).slice (rectS s) (fun _ => rfl)) fullShare Y))
  iexact H

/-- Contents that read as `Y s` in slot `s`. -/
def both (Y : Bool → S1x512x512.Idx → Elt F .bf16) : S2x512x512.Idx → Elt F .bf16 :=
  fun i => Y (decide ((i 0).val = 1)) (fun a => ⟨(![0, (i 1).val, (i 2).val] : Fin 3 → ℕ) a, by
    fin_cases a
    · exact Nat.one_pos
    · exact (i 1).isLt
    · exact (i 2).isLt⟩)

theorem both_emb (Y : Bool → S1x512x512.Idx → Elt F .bf16) (s : Bool) : (fun j => both Y ((rectS s).emb j)) = Y s := by
  funext j
  have h0 : (j 0).val = 0 := by have h : (j 0).val < 1 := (j 0).isLt; omega
  have e0 : (((rectS s).emb j) 0).val = s.toNat := by show s.toNat + 1 * (j 0).val = _; omega
  unfold both
  have hs : decide ((((rectS s).emb j) 0).val = 1) = s := by rw [e0]; cases s <;> rfl
  rw [hs]
  congr 1
  funext a
  apply Fin.ext
  fin_cases a
  · exact h0.symm
  · show 0 + 1 * (j 1).val = (j 1).val; omega
  · show 0 + 1 * (j 2).val = (j 2).val; omega

theorem tmp_join (d : Bool) : iprop(any (F := F) c (slotM d false) ∗ any (F := F) c (slotM d true)) ⊢ any (F := F) c (tmpM d) := by
  rw [← any_flat, ← any_flat]
  unfold any
  iintro ⟨⟨%X0, H0⟩, ⟨%X1, H1⟩⟩
  iexists (both (fun s => bif s then X1 else X0))
  iapply (owns_of_rects (c : Thread nD τ) (tmpM d) fullShare rectS (fun _ _ => rfl) slots_disj slots_cover (both (fun s => bif s then X1 else X0)))
  iapply (bool_two (fun s => (owns (Val := Elt F) (c : Thread nD τ) ((tmpM d).slice (rectS s) (fun _ => rfl)) fullShare (fun j => both (fun s => bif s then X1 else X0) ((rectS s).emb j)) : sProp 𝕄)))
  rw [both_emb, both_emb]
  isplitl [H0]; · iexact H0
  iexact H1

/-- A whole buffer at some contents. -/
theorem any_whole {sp : Space} (b : Ref sig .tc) : (any (F := F) c (Memref.whole b)) = iprop(∃ f : Buf (Elt F) ((c : Thread nD τ).loc b), ((c : Thread nD τ).loc b) ↦{fullShare} f) := by
  unfold any
  congr 1
  funext X
  exact owns_whole (c : Thread nD τ) b fullShare X

theorem rest_bufs : (Pipeline.scopedRest (Ix := ℕ) (Name := ℕ) (U := UU) (Lvl := ℕ) (Val := Elt F) spec0 c : sProp 𝕄) ⊢ Bufs0 (F := F) c := by
  rw [scopedRest0_eq, ← any_whole (F := F) (sp := .vmem) cc0_scratch0, ← any_whole (F := F) (sp := .vmem) cc0_scratch1, ← any_whole (F := F) (sp := .vmem) cc0_scratch2, ← any_whole (F := F) (sp := .vmem) cc0_scratch3]
  unfold Bufs0
  iintro ⟨H0, H1, H2, H3⟩
  isplitl [H0 H1]
  · iapply (bool_two (fun a => any (F := F) c (accM a)))
    isplitl [H0]; · iexact H0
    iexact H1
  iapply (bool_two (fun d => iprop(any (F := F) c (slotM d false) ∗ any (F := F) c (slotM d true))))
  isplitl [H2]
  · iapply (tmp_split (c := c) false); iexact H2
  iapply (tmp_split (c := c) true); iexact H3

theorem bufs_rest : Bufs0 (F := F) c ⊢ (Pipeline.scopedRest (Ix := ℕ) (Name := ℕ) (U := UU) (Lvl := ℕ) (Val := Elt F) spec0 c : sProp 𝕄) := by
  rw [scopedRest0_eq, ← any_whole (F := F) (sp := .vmem) cc0_scratch0, ← any_whole (F := F) (sp := .vmem) cc0_scratch1, ← any_whole (F := F) (sp := .vmem) cc0_scratch2, ← any_whole (F := F) (sp := .vmem) cc0_scratch3]
  unfold Bufs0
  iintro ⟨HA, HS⟩
  ihave HA := (two_bool (fun a => any (F := F) c (accM a))) $$ HA
  ihave HS := (two_bool (fun d => iprop(any (F := F) c (slotM d false) ∗ any (F := F) c (slotM d true)))) $$ HS
  icases HA with ⟨H0, H1⟩
  icases HS with ⟨H2, H3⟩
  isplitl [H0]; · iexact H0
  isplitl [H1]; · iexact H1
  isplitl [H2]
  · iapply (tmp_join (c := c) false); iexact H2
  iapply (tmp_join (c := c) true); iexact H3

/-! ### The result array -/

theorem mem_rectO (b : Fin 8) (i : S4096x8192.Idx) : i ∈ (rectO b).set ↔ 512 * b.val ≤ (i 0).val ∧ (i 0).val < 512 * b.val + 512 := by
  unfold rectO
  rw [Rect.mem_set_unit]
  constructor
  · intro h; exact h 0
  · intro h a
    fin_cases a
    · exact h
    · exact ⟨Nat.zero_le _, by have := (i 1).isLt; show (i 1).val < 0 + 8192; simpa using this⟩

def ob (p : Bool × Fin 4) : Fin 8 := fin8 (2 * p.2.val + p.1.toNat)
theorem ob_inj (p q : Bool × Fin 4) (h : ob p = ob q) : p = q := by revert p q; decide
theorem ob_onto (b : Fin 8) : ∃ p, ob p = b := by revert b; decide

theorem rows_disj (p q : Bool × Fin 4) (h : p ≠ q) : Disjoint (rectO (ob p)).set (rectO (ob q)).set := by
  rw [Finset.disjoint_left]
  intro i h1 h2
  rw [mem_rectO] at h1 h2
  exact h (ob_inj p q (Fin.ext (by omega)))

theorem rows_cover : ((Finset.univ : Finset (Bool × Fin 4)).biUnion fun p => (rectO (ob p)).set) = (Finset.univ : Finset S4096x8192.Idx) := by
  rw [Finset.eq_univ_iff_forall]
  intro i
  have hi : (i 0).val < 4096 := (i 0).isLt
  obtain ⟨p, hp⟩ := ob_onto ⟨(i 0).val / 512, by omega⟩
  refine Finset.mem_biUnion.mpr ⟨p, Finset.mem_univ _, ?_⟩
  rw [mem_rectO, hp]
  dsimp only
  omega

/-- The row of a block an index lies in. -/
def inRow (i : S4096x8192.Idx) : S512x8192.Idx := fun a => ⟨(![(i 0).val % 512, (i 1).val] : Fin 2 → ℕ) a, by
  fin_cases a
  · show (i 0).val % 512 < 512; omega
  · exact (i 1).isLt⟩

/-- The array of the row blocks' final values. -/
def whole (PB : Dev nD → ℕ → AccT F) : S4096x8192.Idx → Elt F .bf16 := fun i => FV PB ((i 0).val / 512) (inRow i)

theorem whole_emb (PB : Dev nD → ℕ → AccT F) (b : Fin 8) : (fun j => whole PB ((rectO b).emb j)) = FV PB b.val := by
  funext j
  have hj : (j 0).val < 512 := (j 0).isLt
  have e0 : (((rectO b).emb j) 0).val = 512 * b.val + (j 0).val := by show 512 * b.val + 1 * (j 0).val = _; omega
  have e1 : (((rectO b).emb j) 1).val = (j 1).val := by show 0 + 1 * (j 1).val = _; omega
  unfold whole
  have hb : (((rectO b).emb j) 0).val / 512 = b.val := by rw [e0]; omega
  rw [hb]
  congr 1
  funext a
  apply Fin.ext
  fin_cases a
  · show (((rectO b).emb j) 0).val % 512 = (j 0).val; rw [e0]; omega
  · exact e1

theorem four_eq (X : ℕ → sProp 𝕄) : (bigSep (Finset.univ : Finset (Fin 4)) fun r => X r.val) = bigSep (Finset.range 4) X := by
  rw [show Finset.range 4 = (Finset.univ : Finset (Fin 4)).map Fin.valEmbedding from by decide, bigSep_map]; rfl

theorem outs_split : any (F := F) c (Memref.whole main_v1) ⊢ Outs0 (F := F) c := by
  unfold Outs0
  rw [bigSep_congr (s := (Finset.univ : Finset Bool)) (fun o _ => ((four_eq (fun r => any (F := F) c (outM (fin8 (2 * r + o.toNat))))).trans (rg 4 _)).symm)]
  rw [show (bigSep (Finset.univ : Finset Bool) fun o => bigSep (Finset.univ : Finset (Fin 4)) fun r => any (F := F) c (outM (fin8 (2 * r.val + o.toNat)))) =
    bigSep (Finset.univ : Finset (Bool × Fin 4)) (fun p => any (F := F) c (outM (ob p))) from (bigSep_univ_prod (fun p : Bool × Fin 4 => any (F := F) c (outM (ob p)))).symm]
  unfold any
  iintro ⟨%X, H⟩
  ihave H := (owns_rects (c : Thread nD τ) (Memref.whole main_v1) fullShare (fun p : Bool × Fin 4 => rectO (ob p)) (fun _ _ => rfl) rows_disj rows_cover X) $$ H
  iapply (all_mono _ (fun p => (by iintro H; iexists _; iexact H :
    (owns (Val := Elt F) (c : Thread nD τ) (outM (ob p)) fullShare (fun j => X ((rectO (ob p)).emb j)) : sProp 𝕄) ⊢
      iprop(∃ Y, owns (Val := Elt F) (c : Thread nD τ) (outM (ob p)) fullShare Y))) :
    (bigSep (Finset.univ : Finset (Bool × Fin 4)) fun p => (owns (Val := Elt F) (c : Thread nD τ) (outM (ob p)) fullShare (fun j => X ((rectO (ob p)).emb j)) : sProp 𝕄)) ⊢
      bigSep (Finset.univ : Finset (Bool × Fin 4)) fun p => iprop(∃ Y, owns (Val := Elt F) (c : Thread nD τ) (outM (ob p)) fullShare Y))
  iexact H

theorem ob_val (r : ℕ) (o : Bool) (h : r < 4) : (fin8 (2 * r + o.toNat)).val = 2 * r + o.toNat := by
  show (2 * r + o.toNat) % 8 = _
  cases o <;> simp <;> omega

theorem outs_join (PB : Dev nD → ℕ → AccT F) : OutsN PB c ⊢ (owns (Val := Elt F) (c : Thread nD τ) (Memref.whole main_v1) fullShare (whole PB) : sProp 𝕄) := by
  unfold OutsN
  rw [bigSep_congr (s := (Finset.univ : Finset Bool)) (fun o _ => (four_eq (fun r => (owns (Val := Elt F) (c : Thread nD τ) (outM (fin8 (2 * r + o.toNat))) fullShare (FV PB (2 * r + o.toNat)) : sProp 𝕄))).symm)]
  rw [show (bigSep (Finset.univ : Finset Bool) fun o => bigSep (Finset.univ : Finset (Fin 4)) fun r => (owns (Val := Elt F) (c : Thread nD τ) (outM (fin8 (2 * r.val + o.toNat))) fullShare (FV PB (2 * r.val + o.toNat)) : sProp 𝕄)) =
    bigSep (Finset.univ : Finset (Bool × Fin 4)) (fun p => (owns (Val := Elt F) (c : Thread nD τ) (outM (ob p)) fullShare (FV PB (2 * p.2.val + p.1.toNat)) : sProp 𝕄)) from
    (bigSep_univ_prod (fun p : Bool × Fin 4 => (owns (Val := Elt F) (c : Thread nD τ) (outM (ob p)) fullShare (FV PB (2 * p.2.val + p.1.toNat)) : sProp 𝕄))).symm]
  rw [bigSep_congr (s := (Finset.univ : Finset (Bool × Fin 4))) (Ψ := fun p : Bool × Fin 4 => (owns (Val := Elt F) (c : Thread nD τ) (outM (ob p)) fullShare (fun j => whole PB ((rectO (ob p)).emb j)) : sProp 𝕄))
    (fun p _ => congrArg (fun X : AccT F => (owns (Val := Elt F) (c : Thread nD τ) (outM (ob p)) fullShare X : sProp 𝕄))
      ((congrArg (FV PB) (ob_val p.2.val p.1 p.2.isLt).symm).trans (whole_emb PB (ob p)).symm))]
  exact owns_of_rects (c : Thread nD τ) (Memref.whole main_v1) fullShare (fun p : Bool × Fin 4 => rectO (ob p)) (fun _ _ => rfl) rows_disj rows_cover (whole PB)

end

end Cert.KernelIdeal.Ring
-- ==== Proof.Region.lean ====
module

public import proofs.«01_k».proof.Proof.Store
public import Idealize.ShloMosaic.Lib.Pipeline.FrameBody
public import Idealize.ShloMosaic.Lib.Pipeline.RegionTalk

/-! The kernel call as one region of the program: what it needs on entry, what it leaves. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

open Idealize.ShloMosaic.Pipeline (Dat BodyObligation)

section
variable (m : (ℓ : Loc nD τ sig) → Buf (Elt F) ℓ)

/-- The buffers as launched. -/
abbrev W₀ (c : Dev nD) : Valuation τ sig (Elt F) := fun b => m (c, b)

/-- A device's block of each input. -/
def xOf (c : Dev nD) : S4096x1024.Idx → Elt F .bf16 := m ((c : Thread nD τ).loc main_arg0)
def wOf (c : Dev nD) : S1024x8192.Idx → Elt F .bf16 := m ((c : Thread nD τ).loc main_arg1)

/-- The devices' partial products. -/
abbrev PBm : Dev nD → ℕ → AccT F := PBx (xOf m) (wOf m)

/-- The buffers once the kernel has returned. -/
def W₁ (c : Dev nD) : Valuation τ sig (Elt F) := Function.update (W₀ m c) (Proc.devRef .tc main_v1) (whole (PBm m))

def Hs : Finset (DevRef τ sig) := {Proc.devRef .tc main_v1}

theorem held_one (c : Dev nD) (W : Valuation τ sig (Elt F)) :
    (StableHlo.held (c : Thread nD τ) Hs W : sProp 𝕄) = owns (Val := Elt F) (c : Thread nD τ) (Memref.whole main_v1) fullShare (W (Proc.devRef .tc main_v1)) := by
  unfold StableHlo.held Hs
  rw [bigSep_singleton, owns_whole]

/-- A window's block. -/
def blkOf (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

def PhiA (c : Dev nD) : sProp 𝕄 :=
  iprop(Pipeline.scopedRest (Ix := ℕ) (Name := ℕ) (U := UU) (Lvl := ℕ) (Val := Elt F) spec0 c ∗ (∃ r, prngReg c r) ∗ StableHlo.held (c : Thread nD τ) Hs (W₀ m c) ∗ Xk (PBm m) c)
def PhiZ (c : Dev nD) : sProp 𝕄 :=
  iprop(Pipeline.scopedRest (Ix := ℕ) (Name := ℕ) (U := UU) (Lvl := ℕ) (Val := Elt F) spec0 c ∗ (∃ r, prngReg c r) ∗ StableHlo.held (c : Thread nD τ) Hs (W₁ m c) ∗ Pipeline.ownSems0 osem c ∗ semVal (barC c) 0)

def dat (c : Dev nD) : Dat τ (Elt F) ℕ ℕ UU ℕ cfg0 c where
  A w := m ((c : Thread nD τ).loc (Pipeline.arrRef spec0 w))
  after
    | 0, _ => xOf m c
    | 1, _ => wOf m c
  Φ t := if t.val = 0 then PhiA m c else PhiZ m c
  q _ := fullShare
  owed t := if t.val = 0 then OI c else 0

theorem owesAt_intro {c : Dev nD} (D : Dat τ (Elt F) ℕ ℕ UU ℕ cfg0 c) (t : Fin (cfg0.N + 1)) (O : CellTallies nD τ sig ℕ) (h0 : D.owed t = O) (hr : D.recorded t = Set.univ) :
    (iprop(∃ W, owes (c : Thread nD τ) O W) : sProp 𝕄) ⊢ (D.owesAt 0 t : sProp 𝕄) := by
  unfold Dat.owesAt Pipeline.owesWithin Dat.bound; rw [h0, hr]
  iintro ⟨%W, HO⟩
  iexists W
  isplitr
  · ipureintro; exact fun _ _ => Or.inl trivial
  iexact HO
theorem owesAt_elim {c : Dev nD} (D : Dat τ (Elt F) ℕ ℕ UU ℕ cfg0 c) (t : Fin (cfg0.N + 1)) (O : CellTallies nD τ sig ℕ) (h0 : D.owed t = O) :
    (D.owesAt 0 t : sProp 𝕄) ⊢ iprop(∃ W, owes (c : Thread nD τ) O W) := by
  unfold Dat.owesAt Pipeline.owesWithin; rw [h0]
  iintro ⟨%W, -, HO⟩
  iexists W
  iexact HO

theorem last_val : (Fin.last cfg0.N).val ≠ 0 := by rw [Fin.val_last, show cfg0.N = 1 from N_0]; decide

theorem blk_x (c : Dev nD) (t : Fin cfg0.N) : blkOf m c 0 t = xOf m c := by
  obtain rfl := fin_N0 t
  funext i
  show xOf m c _ = xOf m c i
  congr 1
  funext a
  apply Fin.ext
  fin_cases a
  · show 0 + 1 * (i 0).val = (i 0).val; omega
  · show 0 + 1 * (i 1).val = (i 1).val; omega
theorem blk_w (c : Dev nD) (t : Fin cfg0.N) : blkOf m c 1 t = wOf m c := by
  obtain rfl := fin_N0 t
  funext i
  show wOf m c _ = wOf m c i
  congr 1
  funext a
  apply Fin.ext
  fin_cases a
  · show 0 + 1 * (i 0).val = (i 0).val; omega
  · show 0 + 1 * (i 1).val = (i 1).val; omega

theorem found_x (c : Dev nD) (t : Fin cfg0.N) (d) : (dat m c).before 0 t d = xOf m c :=
  ((dat m c).before_in_eq_fetched 0 rfl (fun _ => rfl) (fun _ _ _ => rfl) (fun t => (blk_x m c t).symm) t d).trans (blk_x m c t)
theorem found_w (c : Dev nD) (t : Fin cfg0.N) (d) : (dat m c).before 1 t d = wOf m c :=
  ((dat m c).before_in_eq_fetched 1 rfl (fun _ => rfl) (fun _ _ _ => rfl) (fun t => (blk_w m c t).symm) t d).trans (blk_w m c t)

theorem body_run (c : Dev nD) : iprop(PhiA m c ∗ (∃ W, owes (c : Thread nD τ) (OI c) W) ∗ WinP c (xOf m) (wOf m)) ⊢
    wpc c (app (cc0_body (F := F))) (fun _ => iprop(PhiZ m c ∗ (∃ W, owes (c : Thread nD τ) (0 : CellTallies nD τ sig ℕ) W) ∗ WinP c (xOf m) (wOf m))) := by
  unfold PhiA
  rw [held_one]
  iintro ⟨⟨HR, Hp, Hv, HX⟩, HO, HW⟩
  ihave HB := (rest_bufs (F := F) (c := c)) $$ HR
  ihave HY := (outs_split (F := F) (c := c)) $$ [Hv]
  · unfold any; iexists _; iexact Hv
  ihave H := (start_of (PB := PBm m) (c := c) (xb := xOf m) (wb := wOf m)) $$ [HX HO HB HY HW]
  · isplitl [HX]; · iexact HX
    isplitl [HO]; · iexact HO
    isplitl [HB]; · iexact HB
    isplitl [HY]; · iexact HY
    iexact HW
  icases H with ⟨%κ, %ιs, H⟩
  ihave H := (cc0_body_spec (κ := κ) (ιs := ιs) (c := c) (xb := xOf m) (wb := wOf m)) $$ H
  unfold wpc
  iapply (wp_fupd _ _ _ _)
  iapply (wp_wand_r _ _ _)
  isplitl [H]; · iexact H
  iintro %x
  iintro ⟨HE, Hb⟩
  imod (end_of (PB := PBm m) (κ := κ) (ιs := ιs) (c := c) (xb := xOf m) (wb := wOf m)) $$ [HE Hb] with ⟨HO, HB, HY, HW, HS, Hb⟩
  · isplitl [HE]
    · unfold StF; iexact HE
    iexact Hb
  imodintro
  isplitl [HB Hp HY HS Hb]
  · unfold PhiZ
    isplitl [HB]; · iapply (bufs_rest (F := F) (c := c)); iexact HB
    isplitl [Hp]; · iexact Hp
    isplitl [HY]
    · rw [held_one, show W₁ m c (Proc.devRef .tc main_v1) = whole (PBm m) from Function.update_self _ _ _]
      iapply (outs_join (F := F) (c := c) (PBm m))
      iexact HY
    isplitl [HS]; · iexact HS
    iexact Hb
  isplitl [HO]; · iexact HO
  iexact HW

theorem body_ob (c : Dev nD) : BodyObligation (dat m c) (defs₀ (F := F)) 𝒱₀ 0 Set.univ := fun t => by
  obtain rfl := fin_N0 t
  rw [bigSep_W0, bigSep_W0]
  rw [show (dat m c).Φ t0_0.castSucc = PhiA m c from rfl, show (dat m c).Φ t0_0.succ = PhiZ m c from rfl]
  iintro ⟨HΦ, HO, ⟨⟨%d0, Hx⟩, ⟨%d1, Hw⟩⟩⟩
  ihave HO := (owesAt_elim (dat m c) _ (OI c) rfl) $$ HO
  ihave Hx := (Entails.of_eq (congrArg (fun X => (owns (Val := Elt F) (c : Thread nD τ) (Memref.whole cc0_stg0_0) fullShare X : sProp 𝕄)) (found_x m c t0_0 d0))) $$ Hx
  ihave Hw := (Entails.of_eq (congrArg (fun X => (owns (Val := Elt F) (c : Thread nD τ) (Memref.whole cc0_stg1_0) fullShare X : sProp 𝕄)) (found_w m c t0_0 d1))) $$ Hw
  ihave H := (body_run m c) $$ [HΦ HO Hx Hw]
  · isplitl [HΦ]; · iexact HΦ
    isplitl [HO]; · iexact HO
    unfold WinP
    isplitl [Hx]; · iexact Hx
    iexact Hw
  unfold wpc
  iapply (wp_wand_r _ _ _)
  isplitl [H]; · iexact H
  iintro %x
  unfold WinP
  iintro ⟨HZ, HO, Hx, Hw⟩
  isplitl [HZ]; · iexact HZ
  isplitl [HO]
  · iapply (owesAt_intro (dat m c) t0_0.succ 0 rfl rfl); iexact HO
  isplitl [Hx]; · iexact Hx
  iexact Hw

/-! ### The region -/

abbrev adm : (p : Fin 1) → (pcfgs (F := F) p).Adm := fun p => (cfgs p).toPCfg_adm
abbrev pdats (p : Fin 1) (c : Dev nD) : Dat τ (Elt F) ℕ ℕ UU ℕ (Pipeline.pin (pcfgs (F := F)) adm p) c := dat m c

theorem owed_pos (c : Dev nD) (g : GSem nD τ sig) (u : ℕ) (h : 0 < OI c g u) : u ∈ L g ∧ 0 < lv g u := by
  have key : (∃ d, 0 < OD d c 0 0 g u) ∨ (∃ d, g = barC (nb d c) ∧ u = 0) := by
    rw [show OI c = ((OD false c 0 0 + OD true c 0 0) + tallyAt (barC (nb false c)) 0 1) + tallyAt (barC (nb true c)) 0 1 from congrFun oi_eq c] at h
    have bar (d : Bool) (h : 0 < (tallyAt (barC (nb d c)) 0 1 : CellTallies nD τ sig ℕ) g u) : g = barC (nb d c) ∧ u = 0 := by
      rw [tallyAt_apply] at h
      by_cases hg : g = barC (nb d c) ∧ u = 0
      · exact hg
      · rw [if_neg hg] at h; exact absurd h (Nat.lt_irrefl 0)
    simp only [Pi.add_apply, Finsupp.add_apply] at h
    by_cases h0 : 0 < OD false c 0 0 g u
    · exact .inl ⟨false, h0⟩
    by_cases h1 : 0 < OD true c 0 0 g u
    · exact .inl ⟨true, h1⟩
    by_cases h2 : 0 < (tallyAt (barC (nb false c)) 0 1 : CellTallies nD τ sig ℕ) g u
    · exact .inr ⟨false, bar false h2⟩
    exact .inr ⟨true, bar true (by omega)⟩
  rcases key with ⟨d, hd⟩ | ⟨d, rfl, rfl⟩
  · rcases OD_pos hd with ⟨h1, h2, rfl⟩ | ⟨h1, h2, rfl⟩
    · refine ⟨by unfold L; rw [if_pos rfl]; exact Finset.mem_range.mpr (by omega), ?_⟩
      simp only [lv, kd_recv, lvK]; omega
    · refine ⟨by unfold L; rw [if_pos rfl]; exact Finset.mem_range.mpr (by omega), ?_⟩
      simp only [lv, kd_cred, lvK]; omega
  · exact ⟨by unfold L; rw [if_pos rfl]; exact Finset.mem_range.mpr (by omega), by show 0 < lvK .bar 0; decide⟩

theorem staging_low (c : Dev nD) (w : Fin cfg0.W) (s : Fin (cfg0.win w).nbuf) : lv ((c : Thread nD τ), .dma ((cfg0.win w).sem s)) 0 ≤ 0 := by
  have h : ∀ (w : Fin cfg0.W) (s : Fin (cfg0.win w).nbuf), lvK (kd (.dma ((cfg0.win w).sem s))) 0 ≤ 0 := by decide
  exact h w s

theorem kitP : Pipeline.PLaunchFacts (nD := nD) (τ := τ) (pcfgs (F := F)) 0 := launch0.toP

theorem cut (c : Dev nD) (t : Fin (cfg0.N + 1)) (g : GSem nD τ sig) (u : ℕ) (h : 0 < (dat m c).owed t g u) : u ∈ L g ∧ (0 : ℕ) < lv g u := by
  have e : (dat m c).owed t = if t.val = 0 then OI c else 0 := rfl
  rw [e] at h
  split at h
  · exact owed_pos c g u h
  · exact absurd h (Nat.lt_irrefl 0)

/-- What the host works on after the kernel. -/
def Sr : Finset (DevRef τ sig) := {Proc.devRef .tc main_v1, Proc.devRef .tc main_cst, Proc.devRef .tc main_v2, Proc.devRef .tc main_v3, Proc.devRef .tc main_v4}

theorem owed_last (c : Dev nD) : (dat m c).owed (Fin.last cfg0.N) = 0 := by
  show (if (Fin.last cfg0.N).val = 0 then OI c else 0) = 0
  rw [if_neg last_val]
theorem phi_last (c : Dev nD) : (dat m c).Φ (Fin.last cfg0.N) = PhiZ m c := by
  show (if (Fin.last cfg0.N).val = 0 then PhiA m c else PhiZ m c) = PhiZ m c
  rw [if_neg last_val]

theorem in_kept (c : Dev nD) (w : Fin cfg0.W) (n : ℕ) : (dat m c).arrAt w n = (dat m c).A w := by
  fin_cases w
  · exact (dat m c).arrAt_in 0 rfl n
  · exact (dat m c).arrAt_in 1 rfl n

theorem arr_ne : ∀ w : Fin 2, Proc.devRef (τ := τ) .tc (Pipeline.arrRef spec0 w) ≠ Proc.devRef .tc main_v1 := by decide
theorem in_kept' (c : Dev nD) (w : Fin cfg0.W) : (dat m c).A w = W₁ m c (Proc.devRef .tc (Pipeline.arrRef spec0 w)) := by
  have h : W₁ m c (Proc.devRef .tc (Pipeline.arrRef spec0 w)) = W₀ m c (Proc.devRef .tc (Pipeline.arrRef spec0 w)) :=
    Function.update_of_ne (arr_ne w) _ _
  exact h.symm

set_option backward.isDefEq.respectTransparency.types false in
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem own_facts
    Hs Sr (by decide) kitP rfl (fun c => (body_ob m c).loose)
    (fun _ => 0) OI (fun c => (zero_add (OI c)).symm) (fun c => owed_last m c) (fun _ => rfl) (fun c w => by fin_cases w <;> rfl)
    (W₀ m) (W₁ m) (fun c b hb => Function.update_of_ne (fun e => (Finset.mem_sdiff.mp hb).2 (Finset.mem_singleton.mpr e)) _ _)
    (Tk (PBm m)) (fun c => semVal (barC c) 0) (Xk (PBm m)) (fun c => semVal (barC c) 0)
    (fun c => open_cells)
    (fun c => BI.Entails.refl _)
    (fun c => Entails.of_eq (phi_last m c))
    (fun c => by iintro H; imodintro; iexact H)
    (fun _ => 0)
    ⟨fun c w s => by show 0 ∈ Finset.range 200; decide, fun c w s => staging_low c w s, fun c t g u h => cut m c t g u h⟩
    (fun _ => iprop(emp))
    (fun c w => in_kept m c w 0) (fun c w => (in_kept m c w _).trans (in_kept' m c w))

end

end Cert.KernelIdeal.Ring
-- ==== Proof.Run.lean ====
module

public import proofs.«01_k».proof.Proof.Region
public import proofs.«01_k».proof.Proof.Gen.KernelIdeal.Frame
public import Idealize.ShloMosaic.Lib.Pipeline.Regions
public import Idealize.ShloMosaic.Lib.Pipeline.Kit

/-! The launch, and the whole program's run. -/

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws
open Idealize.SL.ProofMode
open Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

section
variable (m : (ℓ : Loc nD τ sig) → Buf (Elt F) ℓ) (ρ : Dev nD → PrngReg)

/-! ### The buffers the program names -/

def bufs : Finset (DevRef τ sig) := (StableHlo.tcRefs τ sig).filter fun b => ¬ b.isScoped

theorem unscoped_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

abbrev pt (c : Dev nD) (b : Ref sig .tc) (f : Buf (Elt F) ((c : Thread nD τ).loc b)) : sProp 𝕄 := ((c : Thread nD τ).loc b) ↦{fullShare} f

theorem bufs_eq (c : Dev nD) (W : Valuation τ sig (Elt F)) : (StableHlo.held (c : Thread nD τ) bufs W : sProp 𝕄) =
    iprop(pt c main_arg0 (W main_arg0) ∗ pt c main_arg1 (W main_arg1) ∗ pt c main_v1 (W main_v1) ∗ pt c main_cst (W main_cst) ∗
      pt c main_v2 (W main_v2) ∗ pt c main_v3 (W main_v3) ∗ pt c main_v4 (W main_v4)) := by
  unfold StableHlo.held
  rw [bigSep_eq_bigSepL_of_eq [Proc.devRef .tc main_arg0, Proc.devRef .tc main_arg1, Proc.devRef .tc main_v1, Proc.devRef .tc main_cst,
    Proc.devRef .tc main_v2, Proc.devRef .tc main_v3, Proc.devRef .tc main_v4] (by decide) (by decide)]
  rfl

theorem arr_eq (c : Dev nD) (W : Valuation τ sig (Elt F)) : (StableHlo.held (c : Thread nD τ) (Pipeline.arrRefs (τ := τ) spec0) W : sProp 𝕄) =
    iprop(pt c main_arg0 (W main_arg0) ∗ pt c main_arg1 (W main_arg1)) := by
  unfold StableHlo.held
  rw [bigSep_eq_bigSepL_of_eq [Proc.devRef .tc main_arg0, Proc.devRef .tc main_arg1] (by decide) (by decide)]
  rfl

theorem sr_eq (c : Dev nD) (W : Valuation τ sig (Elt F)) : (StableHlo.held (c : Thread nD τ) Sr W : sProp 𝕄) =
    iprop(pt c main_v1 (W main_v1) ∗ pt c main_cst (W main_cst) ∗ pt c main_v2 (W main_v2) ∗ pt c main_v3 (W main_v3) ∗ pt c main_v4 (W main_v4)) := by
  unfold StableHlo.held
  rw [bigSep_eq_bigSepL_of_eq [Proc.devRef .tc main_v1, Proc.devRef .tc main_cst, Proc.devRef .tc main_v2, Proc.devRef .tc main_v3, Proc.devRef .tc main_v4] (by decide) (by decide)]
  rfl

/-- The named buffers are the inputs' and those of the host. -/
theorem named (c : Dev nD) (W : Valuation τ sig (Elt F)) : (StableHlo.held (c : Thread nD τ) bufs W : sProp 𝕄) ⊢
    iprop(StableHlo.held (c : Thread nD τ) (Pipeline.arrRefs (τ := τ) spec0) W ∗ StableHlo.held (c : Thread nD τ) Sr W) := by
  rw [bufs_eq, arr_eq, sr_eq]
  iintro ⟨H1, H2, H3⟩
  isplitl [H1 H2]
  · isplitl [H1]; · iexact H1
    iexact H2
  iexact H3
theorem named' (c : Dev nD) (W : Valuation τ sig (Elt F)) :
    iprop(StableHlo.held (c : Thread nD τ) (Pipeline.arrRefs (τ := τ) spec0) W ∗ StableHlo.held (c : Thread nD τ) Sr W) ⊢
      (StableHlo.held (c : Thread nD τ) bufs W : sProp 𝕄) := by
  rw [bufs_eq, arr_eq, sr_eq]
  iintro ⟨⟨H1, H2⟩, H3⟩
  isplitl [H1]; · iexact H1
  isplitl [H2]; · iexact H2
  iexact H3

theorem sems_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-! ### The two stretches of the program -/

/-- Beside the named buffers: before the kernel, and after it. -/
def Rb (c : Dev nD) : sProp 𝕄 := iprop((∃ r, prngReg c r) ∗ Tk (PBm m) c ∗ ∃ W, owes (c : Thread nD τ) (OI c) W)
def Ra (c : Dev nD) : sProp 𝕄 := iprop(semVal (barC c) 0 ∗ ∃ W, owes (c : Thread nD τ) (0 : CellTallies nD τ sig ℕ) W)

theorem host_sub : ∀ op ∈ (hostOps1 : List (HloOp τ sig (Elt F))), op.bufs ⊆ bufs := by
  intro op h
  simp only [hostOps1, List.mem_cons, List.not_mem_nil, or_false] at h
  rcases h with rfl | rfl | rfl | rfl
  · show ({Proc.devRef .tc main_cst} : Finset (DevRef τ sig)) ⊆ bufs
    decide
  · show ({Proc.devRef .tc main_cst, Proc.devRef .tc main_v2} : Finset (DevRef τ sig)) ⊆ bufs
    decide
  · show ({Proc.devRef .tc main_v1, Proc.devRef .tc main_v2, Proc.devRef .tc main_v3} : Finset (DevRef τ sig)) ⊆ bufs
    decide
  · show ({Proc.devRef .tc main_v3, Proc.devRef .tc main_v4} : Finset (DevRef τ sig)) ⊆ bufs
    decide

def seg1 : Pipeline.HostSeg (Ix := ℕ) (Name := ℕ) (U := UU) (Lvl := ℕ) (pcfgs (F := F)) defs₀ 𝒱₀ L lv :=
  Pipeline.HostSeg.ofOps _ _ _ _ _ bufs hostOps1 host_sub (List.forall_iff_forall_mem.mp hostOps1_fresh) (W₁ m) (Ra (F := F))

/-- The buffers when the program has ended. -/
def W₂ (c : Dev nD) : Valuation τ sig (Elt F) := StableHlo.after hostOps1 (W₁ m c)

def segs : List (Pipeline.Seg (pcfgs (F := F)) adm (pdats m) 0 defs₀ 𝒱₀ L lv) := [.region (reg0 m), .host (seg1 m)]

theorem reg_pre (c : Dev nD) : iprop(StableHlo.held (c : Thread nD τ) bufs (W₀ m c) ∗ Rb m c) ⊢ (reg0 m).pre c := by
  show _ ⊢ iprop(StableHlo.held (c.tc : Thread nD τ) (Pipeline.arrRefs (τ := τ) spec0) (W₀ m c) ∗ (∃ r, prngReg c r)
    ∗ (StableHlo.held (c.tc : Thread nD τ) Sr (W₀ m c) ∗ emp) ∗ Tk (PBm m) c ∗ ∃ Wd, owes (c : Thread nD τ) (0 + OI c) Wd)
  rw [zero_add]
  unfold Rb
  iintro ⟨Hh, Hp, HT, HO⟩
  ihave Hh' := (named (F := F) c (W₀ m c)) $$ Hh
  icases Hh' with ⟨Ha, Hs⟩
  isplitl [Ha]; · iexact Ha
  isplitl [Hp]; · iexact Hp
  isplitl [Hs]
  · isplitl [Hs]; · iexact Hs
    iempintro
  isplitl [HT]; · iexact HT
  iexact HO

theorem reg_post (c : Dev nD) : (reg0 m).post c ⊢ iprop(StableHlo.held (c : Thread nD τ) bufs (W₁ m c) ∗ Ra (F := F) c) := by
  show iprop(StableHlo.held (c.tc : Thread nD τ) (Pipeline.arrRefs (τ := τ) spec0) (W₁ m c) ∗ (∃ r, prngReg c r)
    ∗ (StableHlo.held (c.tc : Thread nD τ) Sr (W₁ m c) ∗ emp) ∗ semVal (barC c) 0 ∗ ∃ Wd, owes (c : Thread nD τ) (0 : CellTallies nD τ sig ℕ) Wd) ⊢ _
  unfold Ra
  iintro ⟨Ha, -, ⟨Hs, -⟩, Hb, HO⟩
  isplitl [Ha Hs]
  · iapply (named' (F := F) c (W₁ m c))
    isplitl [Ha]; · iexact Ha
    iexact Hs
  isplitl [Hb]; · iexact Hb
  iexact HO

/-! ### The launch -/

/-- One holding kept with device 0 until all devices are dealt theirs. -/
def atZero (X : sProp 𝕄) (c : Dev nD) : sProp 𝕄 := if c = 0 then X else iprop(emp)
theorem all_atZero (X : sProp 𝕄) : bigSep Finset.univ (atZero X) = X := by
  rw [bigSep_univ_at _ 0, bigSep_congr (s := Finset.univ.erase 0) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

abbrev seedR : sProp 𝕄 := BI.own ((ER (F := F)) (launchOf barCells scCells allToks))
abbrev seedS : sProp 𝕄 := BI.own ((ES (F := F)) (initSlots keys 1))

def Gs : Dev nD → sProp 𝕄 := atZero iprop(seedR (F := F) ∗ seedS (F := F))

def seed : UU :=
  (initOf (Pipeline.cells (Pipeline.pin (pcfgs (F := F)) adm) cellOf_inj) (Pipeline.launchToks (Pipeline.pin (pcfgs (F := F)) adm) cellOf_inj),
    (launchOf barCells scCells allToks, initSlots keys 1))

def kit (PB : Dev nD → ℕ → AccT F) (κ : GSem nD τ sig → ℕ) (ιs : Key → ℕ) : sProp 𝕄 :=
  iprop(invs PB κ ιs ∗ bigSep barCells fun g => reached (ER (F := F)) g 0)

instance kit_persistent (PB : Dev nD → ℕ → AccT F) (κ : GSem nD τ sig → ℕ) (ιs : Key → ℕ) : BI.Persistent (kit PB κ ιs) := by unfold kit; infer_instance

theorem invs_of (PB : Dev nD → ℕ → AccT F) (κ : GSem nD τ sig → ℕ) :
    (bigSep (barCells ∪ scCells) fun g => (cellInv (ER (F := F)) (Rd PB) (κ g) g : sProp 𝕄)) ⊢
      bigSep (allK ×ˢ (Finset.univ : Finset (Dev nD))) (fun p => cellInv (ER (F := F)) (Rd PB) (κ (gOf p.1 p.2)) (gOf p.1 p.2)) :=
  bigSep_intro_persistent fun p hp => bigSep_elim (cell_mem (allK_ne (Finset.mem_product.mp hp).1) p.2)

theorem reached_of (c : Dev nD) : (bigSep barCells fun g => (reached (ER (F := F)) g 0 : sProp 𝕄)) ⊢
    bigSep Finset.univ (fun d : Bool => reached (ER (F := F)) (barC (nb (!d) c)) 0) :=
  bigSep_intro_persistent fun d _ => bigSep_elim (Finset.mem_map_of_mem barEmb (Finset.mem_univ (nb (!d) c)))

instance rd_storable (PB : Dev nD → ℕ → AccT F) (g : GSem nD τ sig) (r d : ℕ) : Storable (upEmb : UEmb _ 𝕄) ((Rd PB).payload g r d) :=
  payK_storable PB (kd g.2) g.1.1 r d

/-- What the protocol's launch deals device `c`. -/
def Lin (c : Dev nD) : sProp 𝕄 :=
  iprop(atPos (ER (F := F)) (barC c) 0 ∅ 0 ∗ bigSep Finset.univ (fun k : Fin 12 => openTok (ER (F := F)) (gOf (okd k) c)) ∗
    bigSep Finset.univ (DutD (F := F) c) ∗
    bigSep Finset.univ (fun d : Bool => iprop(bigSep (Finset.range 96) (fun m => readerAt (ES (F := F)) (d, c, m) 0) ∗ bigSep (Finset.range 96) (fun n => writeTok (ES (F := F)) (d, nb d c, n) 1))))

/-- What else it holds. -/
def Rest (c : Dev nD) : sProp 𝕄 :=
  iprop(StableHlo.held (c : Thread nD τ) bufs (W₀ m c) ∗ (∃ r, prngReg c r) ∗ (∃ W, owes (c : Thread nD τ) (OI c) W) ∗
    cred (tallyAt (barC c) 0 2) ∗ bigSep Finset.univ (CrdD (F := F) c))

abbrev T0 (c : Dev nD) : sProp 𝕄 := iprop(StableHlo.held (c : Thread nD τ) bufs (W₀ m c) ∗ Rb m c)

theorem t0_of (κ : GSem nD τ sig → ℕ) (ιs : Key → ℕ) (c : Dev nD) : iprop(kit (PBm m) κ ιs ∗ (Lin (F := F) c ∗ Rest m c)) ⊢ T0 m c := by
  unfold T0 Rb Tk kit Lin Rest Dealt
  iintro ⟨⟨#HI, #HR⟩, ⟨Hat, Hop, Hdt, Hsl⟩, Hh, Hp, HO, Hc2, Hcd⟩
  isplitl [Hh]; · iexact Hh
  isplitl [Hp]; · iexact Hp
  isplitr [HO]
  · iexists κ; iexists ιs
    isplitr; · iexact HI
    isplitl [Hop]; · iexact Hop
    isplitl [Hat]; · iexact Hat
    isplitr
    · iapply (reached_of (F := F) c); iexact HR
    isplitl [Hdt]; · iexact Hdt
    isplitl [Hsl]; · iexact Hsl
    isplitl [Hc2]; · iexact Hc2
    iexact Hcd
  · iexact HO

theorem at_bar (X : GSem nD τ sig → sProp 𝕄) : bigSep barCells X = bigSep Finset.univ fun c : Dev nD => X (barC c) :=
  bigSep_map (s := Finset.univ) barEmb (Φ := X)

theorem at_own (X : GSem nD τ sig → sProp 𝕄) : bigSep scCells X = bigSep Finset.univ fun c : Dev nD => bigSep Finset.univ fun k : Fin 12 => X (gOf (okd k) c) := by
  rw [bigSep_map, bigSep_univ_prod]
  exact bigSep_congr fun c _ => bigSep_congr fun k _ => by rw [gOf_eq]; rfl

theorem meet (X Y : Dev nD → sProp 𝕄) : (iprop(bigSep Finset.univ X ∗ bigSep Finset.univ Y) : sProp 𝕄) ⊢ bigSep Finset.univ (fun c => iprop(X c ∗ Y c)) := sep_meet _ _ _
theorem part (X Y : Dev nD → sProp 𝕄) : bigSep Finset.univ (fun c => iprop(X c ∗ Y c)) ⊢ (iprop(bigSep Finset.univ X ∗ bigSep Finset.univ Y) : sProp 𝕄) :=
  Entails.of_eq (bigSep_sep _ _ _)

theorem core_split (c : Dev nD) : iprop(unscopedBufs c (fun b => m ((c : Thread nD τ).loc b)) ∗ unscopedSems0 c
      ∗ owes (c : Thread nD τ) (OI c) ∅ ∗ Pipeline.launchCred OI c ∗ prngReg c (ρ c) ∗ Gs (F := F) c) ⊢
    (iprop(Rest m c ∗ (semVal (barC c) 0 ∗ Gs (F := F) c)) : sProp 𝕄) := by
  rw [show unscopedBufs c (fun b => m ((c : Thread nD τ).loc b)) = StableHlo.held (c : Thread nD τ) bufs (W₀ m c) from unscoped_held c (W₀ m c), sems_eq]
  unfold Rest
  iintro ⟨Hh, Hus, HO, Hcr, Hp, HG⟩
  ihave Hc := (creds_dealt (F := F) c) $$ Hcr
  icases Hc with ⟨H1, HN⟩
  isplitl [Hh H1 HN HO Hp]
  · isplitl [Hh]; · iexact Hh
    isplitl [Hp]; · iexists (ρ c); iexact Hp
    isplitl [HO]; · iexists ∅; iexact HO
    isplitl [H1]; · iexact H1
    iexact HN
  isplitl [Hus]; · iexact Hus
  iexact HG

theorem init :
    iprop((bigSep Finset.univ fun c : Dev nD => iprop(unscopedBufs c (fun b => m ((c : Thread nD τ).loc b)) ∗ unscopedSems0 c
          ∗ owes (c : Thread nD τ) (OI c) ∅ ∗ Pipeline.launchCred OI c ∗ prngReg c (ρ c) ∗ Gs (F := F) c)) ∗ levAts L lv)
      ⊢ (|={Set.univ}=> bigSep Finset.univ (T0 m) : sProp 𝕄) := by
  have hv : bigSep Finset.univ (fun c : Dev nD => (semVal (barC c) 0 : sProp 𝕄)) ⊢ bigSep barCells (fun g => (semVal g 0 : sProp 𝕄)) := Entails.of_eq (at_bar (F := F) fun g => semVal g 0).symm
  have hat : bigSep barCells (fun g => (atPos (ER (F := F)) g 0 ∅ 0 : sProp 𝕄)) ⊢ bigSep Finset.univ (fun c : Dev nD => (atPos (ER (F := F)) (barC c) 0 ∅ 0 : sProp 𝕄)) := Entails.of_eq (at_bar (F := F) fun g => atPos (ER (F := F)) g 0 ∅ 0)
  have hop : bigSep scCells (fun g => (openTok (ER (F := F)) g : sProp 𝕄)) ⊢ bigSep Finset.univ (fun c : Dev nD => bigSep Finset.univ fun k : Fin 12 => openTok (ER (F := F)) (gOf (okd k) c)) := Entails.of_eq (at_own (F := F) fun g => openTok (ER (F := F)) g)
  have hu : bigSep Finset.univ (Gs (F := F)) ⊢ iprop(seedR (F := F) ∗ seedS (F := F)) := Entails.of_eq (all_atZero _)
  have hcores := all_mono (F := F) (Finset.univ : Finset (Dev nD)) (fun c => core_split m ρ c)
  iintro ⟨H, -⟩
  ihave H' := hcores $$ H
  ihave H2 := (part (F := F) _ _) $$ H'; icases H2 with ⟨HB, H3⟩
  ihave H4 := (part (F := F) _ _) $$ H3; icases H4 with ⟨Hv, HG⟩
  ihave Hu := hu $$ HG
  icases Hu with ⟨HuR, HuS⟩
  imod (Rounds.fund_launch (ER (F := F)) (Rd (PBm m)) cells_apart (fun g _ h => h) allToks) $$ [Hv HuR] with ⟨%κ, -, #Hinv, #Hr, Hat, Hopen, Htok⟩
  · isplitl [Hv]
    · iapply hv $$ Hv
    · iexact HuR
  imod (Release.slots_init (ES (F := F)) keys 1 Sl) $$ HuS with ⟨%ιs, -, #Hsl, Hrd, Hwr⟩
  imodintro
  iapply (bigSep_with_persistent (R := kit (PBm m) κ ιs) (Φ := fun c => iprop(Lin (F := F) c ∗ Rest m c)) fun c _ => t0_of m κ ιs c)
  isplitr
  · unfold kit invs
    isplitr
    · isplitr
      · iapply (invs_of (PBm m) κ); iexact Hinv
      iexact Hsl
    iexact Hr
  iapply (meet (F := F) _ _)
  isplitr [HB]
  · unfold Lin
    iapply (meet (F := F) _ _); isplitl [Hat]; · iapply hat $$ Hat
    iapply (meet (F := F) _ _); isplitl [Hopen]; · iapply hop $$ Hopen
    iapply (meet (F := F) _ _); isplitl [Htok]; · iapply (toks_dealt (F := F)) $$ Htok
    iapply (slots_dealt (F := F))
    isplitl [Hrd]; · iexact Hrd
    iexact Hwr
  · iexact HB

/-! ### The run -/

theorem W₂_arg (c : Dev nD) (b : Ref sig .tc) (h : b = main_arg0 ∨ b = main_arg1) : W₂ m c (Proc.devRef .tc b) = m (c, Proc.devRef .tc b) := by
  rcases h with rfl | rfl <;>
  · unfold W₂
    rw [StableHlo.after_cons, StableHlo.after_cons, StableHlo.after_cons, StableHlo.after_cons, StableHlo.after_nil,
      StableHlo.unary_result_ne _ _ _ _ _ _ (by decide), StableHlo.binary_result_ne _ _ _ _ _ _ _ _ (by decide),
      StableHlo.unary_result_ne _ _ _ _ _ _ (by decide), StableHlo.nullary_result_ne _ _ _ _ (by decide)]
    exact Function.update_of_ne (by decide) _ _

/-- What the host makes of the kernel's array. -/
def final (Z : S4096x8192.Idx → Elt F .bf16) : S4096x8192.Idx → Elt F .f32 :=
  extf .f32 (maximumf Z (broadcastInDim S4096x8192 ![] bcast_S_S4096x8192 (constant (F := F) S_ .bf16 0x0000#16))) bitsLt_bf16_f32

theorem W₂_out (c : Dev nD) : W₂ m c (Proc.devRef .tc main_v4) = final (whole (PBm m)) := by
  unfold W₂
  rw [StableHlo.after_cons, StableHlo.after_cons, StableHlo.after_cons, StableHlo.after_cons, StableHlo.after_nil,
    StableHlo.unary_result, StableHlo.binary_result, StableHlo.unary_result, StableHlo.nullary_result,
    StableHlo.unary_result_ne _ _ _ _ _ _ (by decide), StableHlo.nullary_result_ne _ _ _ _ (by decide)]
  unfold final W₁
  rw [Function.update_self]

theorem unscoped_eq : ∀ sm : SemLoc sig, sm.isScoped .tc = false → sm = .reg barS := by decide

abbrev TN (c : Dev nD) : sProp 𝕄 := iprop(StableHlo.held (c : Thread nD τ) bufs (W₂ m c) ∗ semVal (barC c) 0)

set_option backward.isDefEq.respectTransparency.types false in
/-- Every run ends; each device's result is then the host's reading of the whole product, the inputs are as they were, and
    every semaphore is at zero. -/
theorem run_main : θ_run defs (onTc (τ := τ) (main (F := F))) ⟨m, fun _ => 0, ρ⟩
    (fun r => (∀ c : Dev nD, r.2.mem ((c : Thread nD τ).loc main_v4) = final (whole (PBm m))
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (seg1 m) (reg0 m) rfl c]; exact BI.Entails.refl _)
    (by simp only [segs, Pipeline.Seg.pipes_host, Pipeline.Seg.pipes_region, Pipeline.Seg.pipes_nil]; decide)
    (O₀ := OI) (hL := fun g h => if_neg h) (G := Gs (F := F)) (u₀ := seed (F := F))
    (hu₀ := by
      unfold seed Gs
      iintro Hu
      ihave H := (ownU_pair _ _) $$ Hu
      icases H with ⟨HP, HX⟩
      ihave HX' := (own_pair_emb (EX (F := F)) _ _) $$ HX
      imodintro
      isplitl [HP]; · iexact HP
      rw [all_atZero]; iexact HX')
    (T₀ := T0 m) (Tₙ := TN m)
    (hch := by
      refine ⟨fun c => reg_pre m c, fun c => reg_post m c, fun c => ?_⟩
      show iprop(StableHlo.held (c : Thread nD τ) bufs (W₂ m c) ∗ (semVal (barC c) 0 ∗ ∃ W, owes (c : Thread nD τ) (0 : CellTallies nD τ sig ℕ) W))
        ⊢ iprop(TN m c ∗ ∃ W, owes (c : Thread nD τ) (0 : CellTallies nD τ sig ℕ) W)
      iintro ⟨Hh, Hb0, HO⟩
      isplitr [HO]
      · isplitl [Hh]; · iexact Hh
        iexact Hb0
      · iexact HO)
    (hinit := init m ρ)
    (QY := fun c s => (s.mem ((Memref.whole main_v4).view.loc (c : Thread nD τ)) = W₂ m c main_v4 ∧
        s.mem ((Memref.whole main_arg0).view.loc (c : Thread nD τ)) = W₂ m c main_arg0 ∧
        s.mem ((Memref.whole main_arg1).view.loc (c : Thread nD τ)) = W₂ m c main_arg1)
      ∧ s.sem (barC c) = 0)
    (hfin := fun c s' => by
      dsimp only [TN]; rw [bufs_eq]
      iintro ⟨⟨⟨Hx, Hw, -, -, -, -, Hy⟩, Hb0⟩, HSI⟩
      icombine HSI Hx gives %hx
      icombine HSI Hw gives %hw
      icombine HSI Hy gives %hy
      icombine HSI Hb0 gives %hb
      imodintro
      isplitr
      · ipureintro
        exact ⟨⟨Buf.eq_of_forall_mem_univ hy, Buf.eq_of_forall_mem_univ hx, Buf.eq_of_forall_mem_univ hw⟩, by simpa using hb⟩
      iexact HSI)
    (hQ := fun s h hs => ⟨fun c => by
        obtain ⟨⟨hy, hx, hw⟩, -⟩ := h c
        rw [W₂_arg m c _ (.inl rfl)] at hx; rw [W₂_arg m c _ (.inr rfl)] at hw; rw [W₂_out] at hy
        exact ⟨hy, hx, hw⟩,
      sem_eq_zero hs fun c sm hsm => by
        obtain rfl := unscoped_eq sm hsm
        exact (h c).2⟩)

end

end Cert.KernelIdeal.Ring
-- ==== Proof.Same.lean ====
module

public import proofs.«01_k».proof.Proof.Gen.Kernel
public import proofs.«01_k».proof.Proof.Gen.KernelIdeal
public import Idealize.ShloMosaic.Adequacy
public import Idealize.ShloMosaic.Lib.Pipeline.Regions

/-! The program and its idealization are printed with the same text, since no operation is rewritten: a run of the one is,
    over any float values, a run of the other. -/

@[expose] public section

noncomputable section

namespace Cert.Same

open Idealize.ShloMosaic Idealize.SL.Sem

variable {F : FTy → Type} [FloatOps F]

theorem run_eq (m : (ℓ : Loc Cert.Kernel.nD Cert.Kernel.τ Cert.Kernel.sig) → Buf (Elt F) ℓ) (g : Dev Cert.Kernel.nD → PrngReg)
    (Q : PUnit × MemSt Cert.Kernel.nD Cert.Kernel.τ Cert.Kernel.sig (Elt F) → Prop) :
    θ_run (Cert.Kernel.defs (F := F)) (onTc (τ := Cert.Kernel.τ) (Cert.Kernel.main (F := F))) ⟨m, fun _ => 0, g⟩ Q =
      θ_run (Cert.KernelIdeal.defs (F := F)) (onTc (τ := Cert.KernelIdeal.τ) (Cert.KernelIdeal.main (F := F))) ⟨m, fun _ => 0, g⟩ Q := by
  chain_rfl

end Cert.Same

end
-- ==== Proof.Product.lean ====
module

public import proofs.«01_k».proof.Proof.Store
public import Idealize.ShloMosaic.Lib.Pointwise
public import Idealize.ShloMosaic.Lib.ValueIdx

/-! What one block of a device computes, as a sum over the contracted coordinate, and the sum the devices form of it. -/

@[expose] public section

noncomputable section

namespace Cert.KernelIdeal.Ring

open Idealize.ShloMosaic
open Cert.KernelIdeal Cert.KernelIdeal.Gen

/-- The product of a row block and a column half, at a place. -/
theorem pay_sum (x : S512x1024.Idx → Elt Ideal .bf16) (w : S1024x4096.Idx → Elt Ideal .bf16) (j : S512x4096.Idx) :
    k0_pay10 (F := Ideal) x w j = ∑ k : Fin 1024, x (ix2 (j 0) k) * w (ix2 k (j 1)) := by
  unfold k0_pay10
  simp only [pointwise]
  exact zero_add _

/-- A device's own block at a place: a row of its columns against a column of its rows. -/
theorem PBx_sum (xb : Dev nD → S4096x1024.Idx → Elt Ideal .bf16) (wb : Dev nD → S1024x8192.Idx → Elt Ideal .bf16) (c : Dev nD)
    (i : S4096x8192.Idx) :
    PBx xb wb c ((i 0).val / 512) (inRow i) = ∑ k : Fin 1024, xb c (ix2 (i 0) k) * wb c (ix2 k (i 1)) := by
  have h0 : (i 0).val < 4096 := (i 0).isLt
  have h1 : (i 1).val < 8192 := (i 1).isLt
  refine (pay_sum _ _ _).trans (Finset.sum_congr rfl fun k _ => ?_)
  refine congrArg₂ (· * ·) (congrArg (xb c) ?_) (congrArg (wb c) ?_)
  · funext a
    fin_cases a
    · refine Fin.ext ?_
      show 512 * ((i 0).val / 512 % 8) + 1 * ((i 0).val % 512) = (i 0).val
      omega
    · refine Fin.ext ?_
      show 0 + 1 * k.val = k.val
      omega
  · funext a
    fin_cases a
    · refine Fin.ext ?_
      show 0 + 1 * k.val = k.val
      omega
    · refine Fin.ext ?_
      show 4096 * (decide (4096 ≤ (i 1).val)).toNat + 1 * ((i 1).val % 4096) = (i 1).val
      by_cases h : 4096 ≤ (i 1).val
      · rw [decide_eq_true h]; show 4096 * 1 + 1 * ((i 1).val % 4096) = _; omega
      · rw [decide_eq_false h]; show 4096 * 0 + 1 * ((i 1).val % 4096) = _; omega

/-- Whichever device completes it and in either direction, a partial sum over four devices is the sum over all. -/
theorem RS_sum (PB : Dev nD → ℕ → AccT Ideal) (d : Bool) (c : Dev nD) (b : ℕ) (i : S512x8192.Idx) :
    RS PB d 3 c b i = ∑ e : Dev nD, PB e b i := by
  show (PB c b i : EReal) + (PB (pv d c) b i + (PB (pv d (pv d c)) b i + PB (pv d (pv d (pv d c))) b i)) = ∑ e : Fin 4, (PB e b i : EReal)
  rw [Fin.sum_univ_four]
  generalize hf : (fun e : Dev nD => (PB e b i : EReal)) = f
  have hs : ∀ e : Dev nD, (PB e b i : EReal) = f e := fun e => congrFun hf e
  simp only [hs]
  cases d <;> fin_cases c
  · show f 0 + (f 3 + (f 2 + f 1)) = f 0 + f 1 + f 2 + f 3; ac_rfl
  · show f 1 + (f 0 + (f 3 + f 2)) = f 0 + f 1 + f 2 + f 3; ac_rfl
  · show f 2 + (f 1 + (f 0 + f 3)) = f 0 + f 1 + f 2 + f 3; ac_rfl
  · show f 3 + (f 2 + (f 1 + f 0)) = f 0 + f 1 + f 2 + f 3; ac_rfl
  · show f 0 + (f 1 + (f 2 + f 3)) = f 0 + f 1 + f 2 + f 3; ac_rfl
  · show f 1 + (f 2 + (f 3 + f 0)) = f 0 + f 1 + f 2 + f 3; ac_rfl
  · show f 2 + (f 3 + (f 0 + f 1)) = f 0 + f 1 + f 2 + f 3; ac_rfl
  · show f 3 + (f 0 + (f 1 + f 2)) = f 0 + f 1 + f 2 + f 3; ac_rfl

/-- What the gathered array holds at a place: all devices' products, added. -/
theorem whole_sum (xb : Dev nD → S4096x1024.Idx → Elt Ideal .bf16) (wb : Dev nD → S1024x8192.Idx → Elt Ideal .bf16) (i : S4096x8192.Idx) :
    whole (PBx xb wb) i = ∑ e : Dev nD, ∑ k : Fin 1024, xb e (ix2 (i 0) k) * wb e (ix2 k (i 1)) :=
  (RS_sum _ _ _ _ _).trans (Finset.sum_congr rfl fun e _ => PBx_sum xb wb e i)

end Cert.KernelIdeal.Ring

end
-- ==== Proof.Equation.lean ====
module

public import proofs.«01_k».proof.Proof.Product
public import proofs.«01_k».proof.Proof.Run
public import proofs.«01_k».proof.Proof.Gen.ReferenceIdeal.Run
public import Idealize.ShloMosaic.Lib.Layout

/-! The reference, as a sum over the contracted coordinate, and the equation of the two programs' results. -/

@[expose] public section

noncomputable section

namespace Cert.Equation

open Idealize.ShloMosaic
open Cert.KernelIdeal.Ring

/-- The reference's result, of its two arrays. -/
def ref (X : Cert.ReferenceIdeal.S4096x4096.Idx → Elt Ideal .bf16) (W : Cert.ReferenceIdeal.S4096x8192.Idx → Elt Ideal .bf16) :
    Cert.ReferenceIdeal.S4096x8192.Idx → Elt Ideal .f32 :=
  maximumf (F := Ideal) (extf .f32 (truncf .bf16 (Host.dotGeneral (φ₁ := .bf16) (φ₂ := .bf16) Cert.ReferenceIdeal.dot_S4096x4096_S4096x8192_S4096x8192_1_0_0_1_n_n none X W)
    Cert.ReferenceIdeal.Facts₀.bitsLt_bf16_f32) Cert.ReferenceIdeal.Facts₀.bitsLt_bf16_f32)
    (broadcastInDim Cert.ReferenceIdeal.S4096x8192 ![] Cert.ReferenceIdeal.Facts₀.bcast_S_S4096x8192 (constant Cert.ReferenceIdeal.S_ .f32 0x00000000#32))

theorem ref_sum (X : Cert.ReferenceIdeal.S4096x4096.Idx → Elt Ideal .bf16) (W : Cert.ReferenceIdeal.S4096x8192.Idx → Elt Ideal .bf16)
    (i : Cert.ReferenceIdeal.S4096x8192.Idx) : ref X W i = max (∑ k : Fin 4096, X (ix2 (i 0) k) * W (ix2 k (i 1))) 0 := by
  unfold ref
  simp only [pointwise]
  rw [zero_add]

theorem final_max (Z : Cert.KernelIdeal.S4096x8192.Idx → Elt Ideal .bf16) (i : Cert.KernelIdeal.S4096x8192.Idx) :
    final (F := Ideal) Z i = max (Z i) 0 := by
  unfold final
  simp only [pointwise]

/-- What every device ends with, of the blocks of the reference's arrays, is what the reference ends with. -/
theorem final_eq_ref (X : Cert.ReferenceIdeal.S4096x4096.Idx → Elt Ideal .bf16) (W : Cert.ReferenceIdeal.S4096x8192.Idx → Elt Ideal .bf16)
    (xb : Dev Cert.KernelIdeal.nD → Cert.KernelIdeal.S4096x1024.Idx → Elt Ideal .bf16)
    (wb : Dev Cert.KernelIdeal.nD → Cert.KernelIdeal.S1024x8192.Idx → Elt Ideal .bf16)
    (hx : ∀ c, xb c = Layout.block ⟨2, ![4096, 1024]⟩ ⟨2, ![4096, 4096]⟩ 1 4 c X)
    (hw : ∀ c, wb c = Layout.block ⟨2, ![1024, 8192]⟩ ⟨2, ![4096, 8192]⟩ 0 4 c W) :
    final (F := Ideal) (whole (PBx xb wb)) = ref X W := by
  funext i
  rw [final_max, ref_sum, whole_sum]
  refine congrArg (fun t : EReal => max t 0) ?_
  refine Eq.trans ?_ (Fin.sum_univ_tiles 4 1024 rfl (fun k : Fin 4096 => (X (ix2 (i 0) k) * W (ix2 k (i 1)) : EReal))).symm
  refine Finset.sum_congr rfl fun c _ => Finset.sum_congr rfl fun k _ => ?_
  rw [hx c, hw c]
  refine congrArg₂ (fun a b : EReal => a * b) (congrArg X ?_) (congrArg W ?_)
  · funext a
    fin_cases a <;> rfl
  · funext a
    fin_cases a <;> rfl

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Same
public import proofs.«01_k».proof.Proof.Equation
public import proofs.«01_k».proof.Proof.Gen.ReferenceIdeal.Run

/-! The claims, assembled. -/

@[expose] public section

noncomputable section

namespace Cert.Proof

open Idealize.ShloMosaic Idealize.SL.Sem

theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Ring.run_main (F := Ideal) m g)

theorem frame_kernel : Cert.quiescent_Kernel (hKernel := Cert.Kernel.Gen.facts) := fun m g _ => by
  refine (Cert.Same.run_eq (F := Bits) m g _).mpr ?_
  exact (θ_run Cert.KernelIdeal.defs _ _).mono (fun _ h => ⟨fun c => (h.1 c).2, h.2⟩) (Cert.KernelIdeal.Ring.run_main (F := Bits) m g)

theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Every device ends with what the reference ends with. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨Cert.Equation.ref
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩)
      (Cert.KernelIdeal.Ring.run_main (F := Ideal) m g)
    exact Cert.Equation.final_eq_ref _ _ _ _ (fun c => (hagree c).1) (fun c => (hagree c).2)
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, frame_kernel, frame_ideal, frame_reference, trivial, algebraic⟩

end Cert.Proof

end
